-- ==== Defs.lean ====
def Pre_Dens [hPre_cands_in_range : Cert.Pre_cands_in_range.Facts] (m : (ℓ : Loc Cert.Dens.nD Cert.Dens.τ Cert.Dens.sig) → Buf (Elt Bits) ℓ) : Prop :=
  ∀ c : Dev Cert.Dens.nD,
    (Cert.Pre_cands_in_range.fn (F := Bits) (m ((c.tc : Thread Cert.Dens.nD Cert.Dens.τ).loc Cert.Dens.main_arg0)) (m ((c.tc : Thread Cert.Dens.nD Cert.Dens.τ).loc Cert.Dens.main_arg1)) (m ((c.tc : Thread Cert.Dens.nD Cert.Dens.τ).loc Cert.Dens.main_arg2))) = (fun _ => 1#1)

def Pre_DensIdeal [hPre_cands_in_range : Cert.Pre_cands_in_range.Facts] (m : (ℓ : Loc Cert.DensIdeal.nD Cert.DensIdeal.τ Cert.DensIdeal.sig) → Buf (Elt Ideal) ℓ) : Prop :=
  ∀ c : Dev Cert.DensIdeal.nD,
    (Cert.Pre_cands_in_range.fn (F := Ideal) (m ((c.tc : Thread Cert.DensIdeal.nD Cert.DensIdeal.τ).loc Cert.DensIdeal.main_arg0)) (m ((c.tc : Thread Cert.DensIdeal.nD Cert.DensIdeal.τ).loc Cert.DensIdeal.main_arg1)) (m ((c.tc : Thread Cert.DensIdeal.nD Cert.DensIdeal.τ).loc Cert.DensIdeal.main_arg2))) = (fun _ => 1#1)

def Pre_DensReferenceIdeal [hPre_cands_in_range : Cert.Pre_cands_in_range.Facts] (m : (ℓ : Loc Cert.DensReferenceIdeal.nD Cert.DensReferenceIdeal.τ Cert.DensReferenceIdeal.sig) → Buf (Elt Ideal) ℓ) : Prop :=
  ∀ c : Dev Cert.DensReferenceIdeal.nD,
    (Cert.Pre_cands_in_range.fn (F := Ideal) (m ((c.tc : Thread Cert.DensReferenceIdeal.nD Cert.DensReferenceIdeal.τ).loc Cert.DensReferenceIdeal.main_arg0)) (m ((c.tc : Thread Cert.DensReferenceIdeal.nD Cert.DensReferenceIdeal.τ).loc Cert.DensReferenceIdeal.main_arg1)) (m ((c.tc : Thread Cert.DensReferenceIdeal.nD Cert.DensReferenceIdeal.τ).loc Cert.DensReferenceIdeal.main_arg2))) = (fun _ => 1#1)

def Pre_Prep [hPre_indices_in_range : Cert.Pre_indices_in_range.Facts] (m : (ℓ : Loc Cert.Prep.nD Cert.Prep.τ Cert.Prep.sig) → Buf (Elt Bits) ℓ) : Prop :=
  ∀ c : Dev Cert.Prep.nD,
    (Cert.Pre_indices_in_range.fn (F := Bits) (m ((c.tc : Thread Cert.Prep.nD Cert.Prep.τ).loc Cert.Prep.main_arg0)) (m ((c.tc : Thread Cert.Prep.nD Cert.Prep.τ).loc Cert.Prep.main_arg1)) (m ((c.tc : Thread Cert.Prep.nD Cert.Prep.τ).loc Cert.Prep.main_arg2)) (m ((c.tc : Thread Cert.Prep.nD Cert.Prep.τ).loc Cert.Prep.main_arg3)) (m ((c.tc : Thread Cert.Prep.nD Cert.Prep.τ).loc Cert.Prep.main_arg4))) = (fun _ => 1#1)

def Pre_PrepIdeal [hPre_indices_in_range : Cert.Pre_indices_in_range.Facts] (m : (ℓ : Loc Cert.PrepIdeal.nD Cert.PrepIdeal.τ Cert.PrepIdeal.sig) → Buf (Elt Ideal) ℓ) : Prop :=
  ∀ c : Dev Cert.PrepIdeal.nD,
    (Cert.Pre_indices_in_range.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4))) = (fun _ => 1#1)

def Pre_PrepReferenceIdeal [hPre_indices_in_range : Cert.Pre_indices_in_range.Facts] (m : (ℓ : Loc Cert.PrepReferenceIdeal.nD Cert.PrepReferenceIdeal.τ Cert.PrepReferenceIdeal.sig) → Buf (Elt Ideal) ℓ) : Prop :=
  ∀ c : Dev Cert.PrepReferenceIdeal.nD,
    (Cert.Pre_indices_in_range.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4))) = (fun _ => 1#1)

def Pre_Knn (m : (ℓ : Loc Cert.Knn.nD Cert.Knn.τ Cert.Knn.sig) → Buf (Elt Bits) ℓ) : Prop :=
  True

def Pre_KnnIdeal (m : (ℓ : Loc Cert.KnnIdeal.nD Cert.KnnIdeal.τ Cert.KnnIdeal.sig) → Buf (Elt Ideal) ℓ) : Prop :=
  True

def Pre_KnnIdeal_points_finite [hPre_points_finite : Cert.Pre_points_finite.Facts] (m : (ℓ : Loc Cert.KnnIdeal.nD Cert.KnnIdeal.τ Cert.KnnIdeal.sig) → Buf (Elt Ideal) ℓ) : Prop :=
  ∀ c : Dev Cert.KnnIdeal.nD,
    (Cert.Pre_points_finite.fn (F := Ideal) (m ((c.tc : Thread Cert.KnnIdeal.nD Cert.KnnIdeal.τ).loc Cert.KnnIdeal.main_arg0)) (m ((c.tc : Thread Cert.KnnIdeal.nD Cert.KnnIdeal.τ).loc Cert.KnnIdeal.main_arg1)) (m ((c.tc : Thread Cert.KnnIdeal.nD Cert.KnnIdeal.τ).loc Cert.KnnIdeal.main_arg2)) (m ((c.tc : Thread Cert.KnnIdeal.nD Cert.KnnIdeal.τ).loc Cert.KnnIdeal.main_arg3)) (m ((c.tc : Thread Cert.KnnIdeal.nD Cert.KnnIdeal.τ).loc Cert.KnnIdeal.main_arg4)) (m ((c.tc : Thread Cert.KnnIdeal.nD Cert.KnnIdeal.τ).loc Cert.KnnIdeal.main_arg5)) (m ((c.tc : Thread Cert.KnnIdeal.nD Cert.KnnIdeal.τ).loc Cert.KnnIdeal.main_arg6)) (m ((c.tc : Thread Cert.KnnIdeal.nD Cert.KnnIdeal.τ).loc Cert.KnnIdeal.main_arg7)) (m ((c.tc : Thread Cert.KnnIdeal.nD Cert.KnnIdeal.τ).loc Cert.KnnIdeal.main_arg8)) (m ((c.tc : Thread Cert.KnnIdeal.nD Cert.KnnIdeal.τ).loc Cert.KnnIdeal.main_arg9))) = (fun _ => 1#1)

def Pre_KnnReferenceIdeal (m : (ℓ : Loc Cert.KnnReferenceIdeal.nD Cert.KnnReferenceIdeal.τ Cert.KnnReferenceIdeal.sig) → Buf (Elt Ideal) ℓ) : Prop :=
  True

def Pre_KnnReferenceIdeal_points_finite [hPre_points_finite : Cert.Pre_points_finite.Facts] (m : (ℓ : Loc Cert.KnnReferenceIdeal.nD Cert.KnnReferenceIdeal.τ Cert.KnnReferenceIdeal.sig) → Buf (Elt Ideal) ℓ) : Prop :=
  ∀ c : Dev Cert.KnnReferenceIdeal.nD,
    (Cert.Pre_points_finite.fn (F := Ideal) (m ((c.tc : Thread Cert.KnnReferenceIdeal.nD Cert.KnnReferenceIdeal.τ).loc Cert.KnnReferenceIdeal.main_arg0)) (m ((c.tc : Thread Cert.KnnReferenceIdeal.nD Cert.KnnReferenceIdeal.τ).loc Cert.KnnReferenceIdeal.main_arg1)) (m ((c.tc : Thread Cert.KnnReferenceIdeal.nD Cert.KnnReferenceIdeal.τ).loc Cert.KnnReferenceIdeal.main_arg2)) (m ((c.tc : Thread Cert.KnnReferenceIdeal.nD Cert.KnnReferenceIdeal.τ).loc Cert.KnnReferenceIdeal.main_arg3)) (m ((c.tc : Thread Cert.KnnReferenceIdeal.nD Cert.KnnReferenceIdeal.τ).loc Cert.KnnReferenceIdeal.main_arg4)) (m ((c.tc : Thread Cert.KnnReferenceIdeal.nD Cert.KnnReferenceIdeal.τ).loc Cert.KnnReferenceIdeal.main_arg5)) (m ((c.tc : Thread Cert.KnnReferenceIdeal.nD Cert.KnnReferenceIdeal.τ).loc Cert.KnnReferenceIdeal.main_arg6)) (m ((c.tc : Thread Cert.KnnReferenceIdeal.nD Cert.KnnReferenceIdeal.τ).loc Cert.KnnReferenceIdeal.main_arg7)) (m ((c.tc : Thread Cert.KnnReferenceIdeal.nD Cert.KnnReferenceIdeal.τ).loc Cert.KnnReferenceIdeal.main_arg8)) (m ((c.tc : Thread Cert.KnnReferenceIdeal.nD Cert.KnnReferenceIdeal.τ).loc Cert.KnnReferenceIdeal.main_arg9))) = (fun _ => 1#1)

def quiescent_Dens [hDens : Cert.Dens.Facts] [hPre_cands_in_range : Cert.Pre_cands_in_range.Facts] : Prop :=
  ∀ (m : (ℓ : Loc Cert.Dens.nD Cert.Dens.τ Cert.Dens.sig) → Buf (Elt Bits) ℓ) (g : Dev Cert.Dens.nD → PrngReg), Pre_Dens m →
    θ_run (Cert.Dens.defs (F := Bits)) (Cert.Dens.threads (F := Bits)) ⟨m, fun _ => 0, g⟩ (fun r => (∀ c : Dev Cert.Dens.nD,
      r.2.mem ((c.tc : Thread Cert.Dens.nD Cert.Dens.τ).loc Cert.Dens.main_arg0) = m ((c.tc : Thread Cert.Dens.nD Cert.Dens.τ).loc Cert.Dens.main_arg0)
      ∧ r.2.mem ((c.tc : Thread Cert.Dens.nD Cert.Dens.τ).loc Cert.Dens.main_arg1) = m ((c.tc : Thread Cert.Dens.nD Cert.Dens.τ).loc Cert.Dens.main_arg1)
      ∧ r.2.mem ((c.tc : Thread Cert.Dens.nD Cert.Dens.τ).loc Cert.Dens.main_arg2) = m ((c.tc : Thread Cert.Dens.nD Cert.Dens.τ).loc Cert.Dens.main_arg2))
      ∧ r.2.sem = fun _ => 0)

def quiescent_DensIdeal [hDensIdeal : Cert.DensIdeal.Facts] [hPre_cands_in_range : Cert.Pre_cands_in_range.Facts] : Prop :=
  ∀ (m : (ℓ : Loc Cert.DensIdeal.nD Cert.DensIdeal.τ Cert.DensIdeal.sig) → Buf (Elt Ideal) ℓ) (g : Dev Cert.DensIdeal.nD → PrngReg), Pre_DensIdeal m →
    θ_run (Cert.DensIdeal.defs (F := Ideal)) (Cert.DensIdeal.threads (F := Ideal)) ⟨m, fun _ => 0, g⟩ (fun r => (∀ c : Dev Cert.DensIdeal.nD,
      r.2.mem ((c.tc : Thread Cert.DensIdeal.nD Cert.DensIdeal.τ).loc Cert.DensIdeal.main_arg0) = m ((c.tc : Thread Cert.DensIdeal.nD Cert.DensIdeal.τ).loc Cert.DensIdeal.main_arg0)
      ∧ r.2.mem ((c.tc : Thread Cert.DensIdeal.nD Cert.DensIdeal.τ).loc Cert.DensIdeal.main_arg1) = m ((c.tc : Thread Cert.DensIdeal.nD Cert.DensIdeal.τ).loc Cert.DensIdeal.main_arg1)
      ∧ r.2.mem ((c.tc : Thread Cert.DensIdeal.nD Cert.DensIdeal.τ).loc Cert.DensIdeal.main_arg2) = m ((c.tc : Thread Cert.DensIdeal.nD Cert.DensIdeal.τ).loc Cert.DensIdeal.main_arg2))
      ∧ r.2.sem = fun _ => 0)

def quiescent_DensReferenceIdeal [hDensReferenceIdeal : Cert.DensReferenceIdeal.Facts] [hPre_cands_in_range : Cert.Pre_cands_in_range.Facts] : Prop :=
  ∀ (m : (ℓ : Loc Cert.DensReferenceIdeal.nD Cert.DensReferenceIdeal.τ Cert.DensReferenceIdeal.sig) → Buf (Elt Ideal) ℓ) (g : Dev Cert.DensReferenceIdeal.nD → PrngReg), Pre_DensReferenceIdeal m →
    θ_run (Cert.DensReferenceIdeal.defs (F := Ideal)) (onTc (τ := Cert.DensReferenceIdeal.τ) (Cert.DensReferenceIdeal.main (F := Ideal))) ⟨m, fun _ => 0, g⟩ (fun r => (∀ c : Dev Cert.DensReferenceIdeal.nD,
      r.2.mem ((c.tc : Thread Cert.DensReferenceIdeal.nD Cert.DensReferenceIdeal.τ).loc Cert.DensReferenceIdeal.main_arg0) = m ((c.tc : Thread Cert.DensReferenceIdeal.nD Cert.DensReferenceIdeal.τ).loc Cert.DensReferenceIdeal.main_arg0)
      ∧ r.2.mem ((c.tc : Thread Cert.DensReferenceIdeal.nD Cert.DensReferenceIdeal.τ).loc Cert.DensReferenceIdeal.main_arg1) = m ((c.tc : Thread Cert.DensReferenceIdeal.nD Cert.DensReferenceIdeal.τ).loc Cert.DensReferenceIdeal.main_arg1)
      ∧ r.2.mem ((c.tc : Thread Cert.DensReferenceIdeal.nD Cert.DensReferenceIdeal.τ).loc Cert.DensReferenceIdeal.main_arg2) = m ((c.tc : Thread Cert.DensReferenceIdeal.nD Cert.DensReferenceIdeal.τ).loc Cert.DensReferenceIdeal.main_arg2))
      ∧ r.2.sem = fun _ => 0)

def quiescent_Prep [hPrep : Cert.Prep.Facts] [hPre_indices_in_range : Cert.Pre_indices_in_range.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (Cert.Prep.threads (F := Bits)) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] [hPre_indices_in_range : Cert.Pre_indices_in_range.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (Cert.PrepIdeal.threads (F := Ideal)) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepReferenceIdeal [hPrepReferenceIdeal : Cert.PrepReferenceIdeal.Facts] [hPre_indices_in_range : Cert.Pre_indices_in_range.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4))
      ∧ r.2.sem = fun _ => 0)

def quiescent_Knn [hKnn : Cert.Knn.Facts] : Prop :=
  ∀ (m : (ℓ : Loc Cert.Knn.nD Cert.Knn.τ Cert.Knn.sig) → Buf (Elt Bits) ℓ) (g : Dev Cert.Knn.nD → PrngReg), Pre_Knn m →
    θ_run (Cert.Knn.defs (F := Bits)) (onTc (τ := Cert.Knn.τ) (Cert.Knn.main (F := Bits))) ⟨m, fun _ => 0, g⟩ (fun r => (∀ c : Dev Cert.Knn.nD,
      r.2.mem ((c.tc : Thread Cert.Knn.nD Cert.Knn.τ).loc Cert.Knn.main_arg0) = m ((c.tc : Thread Cert.Knn.nD Cert.Knn.τ).loc Cert.Knn.main_arg0)
      ∧ r.2.mem ((c.tc : Thread Cert.Knn.nD Cert.Knn.τ).loc Cert.Knn.main_arg1) = m ((c.tc : Thread Cert.Knn.nD Cert.Knn.τ).loc Cert.Knn.main_arg1)
      ∧ r.2.mem ((c.tc : Thread Cert.Knn.nD Cert.Knn.τ).loc Cert.Knn.main_arg2) = m ((c.tc : Thread Cert.Knn.nD Cert.Knn.τ).loc Cert.Knn.main_arg2)
      ∧ r.2.mem ((c.tc : Thread Cert.Knn.nD Cert.Knn.τ).loc Cert.Knn.main_arg3) = m ((c.tc : Thread Cert.Knn.nD Cert.Knn.τ).loc Cert.Knn.main_arg3)
      ∧ r.2.mem ((c.tc : Thread Cert.Knn.nD Cert.Knn.τ).loc Cert.Knn.main_arg4) = m ((c.tc : Thread Cert.Knn.nD Cert.Knn.τ).loc Cert.Knn.main_arg4)
      ∧ r.2.mem ((c.tc : Thread Cert.Knn.nD Cert.Knn.τ).loc Cert.Knn.main_arg5) = m ((c.tc : Thread Cert.Knn.nD Cert.Knn.τ).loc Cert.Knn.main_arg5)
      ∧ r.2.mem ((c.tc : Thread Cert.Knn.nD Cert.Knn.τ).loc Cert.Knn.main_arg6) = m ((c.tc : Thread Cert.Knn.nD Cert.Knn.τ).loc Cert.Knn.main_arg6)
      ∧ r.2.mem ((c.tc : Thread Cert.Knn.nD Cert.Knn.τ).loc Cert.Knn.main_arg7) = m ((c.tc : Thread Cert.Knn.nD Cert.Knn.τ).loc Cert.Knn.main_arg7)
      ∧ r.2.mem ((c.tc : Thread Cert.Knn.nD Cert.Knn.τ).loc Cert.Knn.main_arg8) = m ((c.tc : Thread Cert.Knn.nD Cert.Knn.τ).loc Cert.Knn.main_arg8)
      ∧ r.2.mem ((c.tc : Thread Cert.Knn.nD Cert.Knn.τ).loc Cert.Knn.main_arg9) = m ((c.tc : Thread Cert.Knn.nD Cert.Knn.τ).loc Cert.Knn.main_arg9))
      ∧ r.2.sem = fun _ => 0)

def quiescent_KnnIdeal [hKnnIdeal : Cert.KnnIdeal.Facts] : Prop :=
  ∀ (m : (ℓ : Loc Cert.KnnIdeal.nD Cert.KnnIdeal.τ Cert.KnnIdeal.sig) → Buf (Elt Ideal) ℓ) (g : Dev Cert.KnnIdeal.nD → PrngReg), Pre_KnnIdeal m →
    θ_run (Cert.KnnIdeal.defs (F := Ideal)) (onTc (τ := Cert.KnnIdeal.τ) (Cert.KnnIdeal.main (F := Ideal))) ⟨m, fun _ => 0, g⟩ (fun r => (∀ c : Dev Cert.KnnIdeal.nD,
      r.2.mem ((c.tc : Thread Cert.KnnIdeal.nD Cert.KnnIdeal.τ).loc Cert.KnnIdeal.main_arg0) = m ((c.tc : Thread Cert.KnnIdeal.nD Cert.KnnIdeal.τ).loc Cert.KnnIdeal.main_arg0)
      ∧ r.2.mem ((c.tc : Thread Cert.KnnIdeal.nD Cert.KnnIdeal.τ).loc Cert.KnnIdeal.main_arg1) = m ((c.tc : Thread Cert.KnnIdeal.nD Cert.KnnIdeal.τ).loc Cert.KnnIdeal.main_arg1)
      ∧ r.2.mem ((c.tc : Thread Cert.KnnIdeal.nD Cert.KnnIdeal.τ).loc Cert.KnnIdeal.main_arg2) = m ((c.tc : Thread Cert.KnnIdeal.nD Cert.KnnIdeal.τ).loc Cert.KnnIdeal.main_arg2)
      ∧ r.2.mem ((c.tc : Thread Cert.KnnIdeal.nD Cert.KnnIdeal.τ).loc Cert.KnnIdeal.main_arg3) = m ((c.tc : Thread Cert.KnnIdeal.nD Cert.KnnIdeal.τ).loc Cert.KnnIdeal.main_arg3)
      ∧ r.2.mem ((c.tc : Thread Cert.KnnIdeal.nD Cert.KnnIdeal.τ).loc Cert.KnnIdeal.main_arg4) = m ((c.tc : Thread Cert.KnnIdeal.nD Cert.KnnIdeal.τ).loc Cert.KnnIdeal.main_arg4)
      ∧ r.2.mem ((c.tc : Thread Cert.KnnIdeal.nD Cert.KnnIdeal.τ).loc Cert.KnnIdeal.main_arg5) = m ((c.tc : Thread Cert.KnnIdeal.nD Cert.KnnIdeal.τ).loc Cert.KnnIdeal.main_arg5)
      ∧ r.2.mem ((c.tc : Thread Cert.KnnIdeal.nD Cert.KnnIdeal.τ).loc Cert.KnnIdeal.main_arg6) = m ((c.tc : Thread Cert.KnnIdeal.nD Cert.KnnIdeal.τ).loc Cert.KnnIdeal.main_arg6)
      ∧ r.2.mem ((c.tc : Thread Cert.KnnIdeal.nD Cert.KnnIdeal.τ).loc Cert.KnnIdeal.main_arg7) = m ((c.tc : Thread Cert.KnnIdeal.nD Cert.KnnIdeal.τ).loc Cert.KnnIdeal.main_arg7)
      ∧ r.2.mem ((c.tc : Thread Cert.KnnIdeal.nD Cert.KnnIdeal.τ).loc Cert.KnnIdeal.main_arg8) = m ((c.tc : Thread Cert.KnnIdeal.nD Cert.KnnIdeal.τ).loc Cert.KnnIdeal.main_arg8)
      ∧ r.2.mem ((c.tc : Thread Cert.KnnIdeal.nD Cert.KnnIdeal.τ).loc Cert.KnnIdeal.main_arg9) = m ((c.tc : Thread Cert.KnnIdeal.nD Cert.KnnIdeal.τ).loc Cert.KnnIdeal.main_arg9))
      ∧ r.2.sem = fun _ => 0)

def quiescent_KnnIdeal_pre_points_finite [hKnnIdeal : Cert.KnnIdeal.Facts] [hPre_points_finite : Cert.Pre_points_finite.Facts] : Prop :=
  ∀ (m : (ℓ : Loc Cert.KnnIdeal.nD Cert.KnnIdeal.τ Cert.KnnIdeal.sig) → Buf (Elt Ideal) ℓ) (g : Dev Cert.KnnIdeal.nD → PrngReg), Pre_KnnIdeal_points_finite m →
    θ_run (Cert.KnnIdeal.defs (F := Ideal)) (onTc (τ := Cert.KnnIdeal.τ) (Cert.KnnIdeal.main (F := Ideal))) ⟨m, fun _ => 0, g⟩ (fun r => (∀ c : Dev Cert.KnnIdeal.nD,
      r.2.mem ((c.tc : Thread Cert.KnnIdeal.nD Cert.KnnIdeal.τ).loc Cert.KnnIdeal.main_arg0) = m ((c.tc : Thread Cert.KnnIdeal.nD Cert.KnnIdeal.τ).loc Cert.KnnIdeal.main_arg0)
      ∧ r.2.mem ((c.tc : Thread Cert.KnnIdeal.nD Cert.KnnIdeal.τ).loc Cert.KnnIdeal.main_arg1) = m ((c.tc : Thread Cert.KnnIdeal.nD Cert.KnnIdeal.τ).loc Cert.KnnIdeal.main_arg1)
      ∧ r.2.mem ((c.tc : Thread Cert.KnnIdeal.nD Cert.KnnIdeal.τ).loc Cert.KnnIdeal.main_arg2) = m ((c.tc : Thread Cert.KnnIdeal.nD Cert.KnnIdeal.τ).loc Cert.KnnIdeal.main_arg2)
      ∧ r.2.mem ((c.tc : Thread Cert.KnnIdeal.nD Cert.KnnIdeal.τ).loc Cert.KnnIdeal.main_arg3) = m ((c.tc : Thread Cert.KnnIdeal.nD Cert.KnnIdeal.τ).loc Cert.KnnIdeal.main_arg3)
      ∧ r.2.mem ((c.tc : Thread Cert.KnnIdeal.nD Cert.KnnIdeal.τ).loc Cert.KnnIdeal.main_arg4) = m ((c.tc : Thread Cert.KnnIdeal.nD Cert.KnnIdeal.τ).loc Cert.KnnIdeal.main_arg4)
      ∧ r.2.mem ((c.tc : Thread Cert.KnnIdeal.nD Cert.KnnIdeal.τ).loc Cert.KnnIdeal.main_arg5) = m ((c.tc : Thread Cert.KnnIdeal.nD Cert.KnnIdeal.τ).loc Cert.KnnIdeal.main_arg5)
      ∧ r.2.mem ((c.tc : Thread Cert.KnnIdeal.nD Cert.KnnIdeal.τ).loc Cert.KnnIdeal.main_arg6) = m ((c.tc : Thread Cert.KnnIdeal.nD Cert.KnnIdeal.τ).loc Cert.KnnIdeal.main_arg6)
      ∧ r.2.mem ((c.tc : Thread Cert.KnnIdeal.nD Cert.KnnIdeal.τ).loc Cert.KnnIdeal.main_arg7) = m ((c.tc : Thread Cert.KnnIdeal.nD Cert.KnnIdeal.τ).loc Cert.KnnIdeal.main_arg7)
      ∧ r.2.mem ((c.tc : Thread Cert.KnnIdeal.nD Cert.KnnIdeal.τ).loc Cert.KnnIdeal.main_arg8) = m ((c.tc : Thread Cert.KnnIdeal.nD Cert.KnnIdeal.τ).loc Cert.KnnIdeal.main_arg8)
      ∧ r.2.mem ((c.tc : Thread Cert.KnnIdeal.nD Cert.KnnIdeal.τ).loc Cert.KnnIdeal.main_arg9) = m ((c.tc : Thread Cert.KnnIdeal.nD Cert.KnnIdeal.τ).loc Cert.KnnIdeal.main_arg9))
      ∧ r.2.sem = fun _ => 0)

def quiescent_KnnReferenceIdeal [hKnnReferenceIdeal : Cert.KnnReferenceIdeal.Facts] : Prop :=
  ∀ (m : (ℓ : Loc Cert.KnnReferenceIdeal.nD Cert.KnnReferenceIdeal.τ Cert.KnnReferenceIdeal.sig) → Buf (Elt Ideal) ℓ) (g : Dev Cert.KnnReferenceIdeal.nD → PrngReg), Pre_KnnReferenceIdeal m →
    θ_run (Cert.KnnReferenceIdeal.defs (F := Ideal)) (onTc (τ := Cert.KnnReferenceIdeal.τ) (Cert.KnnReferenceIdeal.main (F := Ideal))) ⟨m, fun _ => 0, g⟩ (fun r => (∀ c : Dev Cert.KnnReferenceIdeal.nD,
      r.2.mem ((c.tc : Thread Cert.KnnReferenceIdeal.nD Cert.KnnReferenceIdeal.τ).loc Cert.KnnReferenceIdeal.main_arg0) = m ((c.tc : Thread Cert.KnnReferenceIdeal.nD Cert.KnnReferenceIdeal.τ).loc Cert.KnnReferenceIdeal.main_arg0)
      ∧ r.2.mem ((c.tc : Thread Cert.KnnReferenceIdeal.nD Cert.KnnReferenceIdeal.τ).loc Cert.KnnReferenceIdeal.main_arg1) = m ((c.tc : Thread Cert.KnnReferenceIdeal.nD Cert.KnnReferenceIdeal.τ).loc Cert.KnnReferenceIdeal.main_arg1)
      ∧ r.2.mem ((c.tc : Thread Cert.KnnReferenceIdeal.nD Cert.KnnReferenceIdeal.τ).loc Cert.KnnReferenceIdeal.main_arg2) = m ((c.tc : Thread Cert.KnnReferenceIdeal.nD Cert.KnnReferenceIdeal.τ).loc Cert.KnnReferenceIdeal.main_arg2)
      ∧ r.2.mem ((c.tc : Thread Cert.KnnReferenceIdeal.nD Cert.KnnReferenceIdeal.τ).loc Cert.KnnReferenceIdeal.main_arg3) = m ((c.tc : Thread Cert.KnnReferenceIdeal.nD Cert.KnnReferenceIdeal.τ).loc Cert.KnnReferenceIdeal.main_arg3)
      ∧ r.2.mem ((c.tc : Thread Cert.KnnReferenceIdeal.nD Cert.KnnReferenceIdeal.τ).loc Cert.KnnReferenceIdeal.main_arg4) = m ((c.tc : Thread Cert.KnnReferenceIdeal.nD Cert.KnnReferenceIdeal.τ).loc Cert.KnnReferenceIdeal.main_arg4)
      ∧ r.2.mem ((c.tc : Thread Cert.KnnReferenceIdeal.nD Cert.KnnReferenceIdeal.τ).loc Cert.KnnReferenceIdeal.main_arg5) = m ((c.tc : Thread Cert.KnnReferenceIdeal.nD Cert.KnnReferenceIdeal.τ).loc Cert.KnnReferenceIdeal.main_arg5)
      ∧ r.2.mem ((c.tc : Thread Cert.KnnReferenceIdeal.nD Cert.KnnReferenceIdeal.τ).loc Cert.KnnReferenceIdeal.main_arg6) = m ((c.tc : Thread Cert.KnnReferenceIdeal.nD Cert.KnnReferenceIdeal.τ).loc Cert.KnnReferenceIdeal.main_arg6)
      ∧ r.2.mem ((c.tc : Thread Cert.KnnReferenceIdeal.nD Cert.KnnReferenceIdeal.τ).loc Cert.KnnReferenceIdeal.main_arg7) = m ((c.tc : Thread Cert.KnnReferenceIdeal.nD Cert.KnnReferenceIdeal.τ).loc Cert.KnnReferenceIdeal.main_arg7)
      ∧ r.2.mem ((c.tc : Thread Cert.KnnReferenceIdeal.nD Cert.KnnReferenceIdeal.τ).loc Cert.KnnReferenceIdeal.main_arg8) = m ((c.tc : Thread Cert.KnnReferenceIdeal.nD Cert.KnnReferenceIdeal.τ).loc Cert.KnnReferenceIdeal.main_arg8)
      ∧ r.2.mem ((c.tc : Thread Cert.KnnReferenceIdeal.nD Cert.KnnReferenceIdeal.τ).loc Cert.KnnReferenceIdeal.main_arg9) = m ((c.tc : Thread Cert.KnnReferenceIdeal.nD Cert.KnnReferenceIdeal.τ).loc Cert.KnnReferenceIdeal.main_arg9))
      ∧ r.2.sem = fun _ => 0)

def quiescent_KnnReferenceIdeal_pre_points_finite [hKnnReferenceIdeal : Cert.KnnReferenceIdeal.Facts] [hPre_points_finite : Cert.Pre_points_finite.Facts] : Prop :=
  ∀ (m : (ℓ : Loc Cert.KnnReferenceIdeal.nD Cert.KnnReferenceIdeal.τ Cert.KnnReferenceIdeal.sig) → Buf (Elt Ideal) ℓ) (g : Dev Cert.KnnReferenceIdeal.nD → PrngReg), Pre_KnnReferenceIdeal_points_finite m →
    θ_run (Cert.KnnReferenceIdeal.defs (F := Ideal)) (onTc (τ := Cert.KnnReferenceIdeal.τ) (Cert.KnnReferenceIdeal.main (F := Ideal))) ⟨m, fun _ => 0, g⟩ (fun r => (∀ c : Dev Cert.KnnReferenceIdeal.nD,
      r.2.mem ((c.tc : Thread Cert.KnnReferenceIdeal.nD Cert.KnnReferenceIdeal.τ).loc Cert.KnnReferenceIdeal.main_arg0) = m ((c.tc : Thread Cert.KnnReferenceIdeal.nD Cert.KnnReferenceIdeal.τ).loc Cert.KnnReferenceIdeal.main_arg0)
      ∧ r.2.mem ((c.tc : Thread Cert.KnnReferenceIdeal.nD Cert.KnnReferenceIdeal.τ).loc Cert.KnnReferenceIdeal.main_arg1) = m ((c.tc : Thread Cert.KnnReferenceIdeal.nD Cert.KnnReferenceIdeal.τ).loc Cert.KnnReferenceIdeal.main_arg1)
      ∧ r.2.mem ((c.tc : Thread Cert.KnnReferenceIdeal.nD Cert.KnnReferenceIdeal.τ).loc Cert.KnnReferenceIdeal.main_arg2) = m ((c.tc : Thread Cert.KnnReferenceIdeal.nD Cert.KnnReferenceIdeal.τ).loc Cert.KnnReferenceIdeal.main_arg2)
      ∧ r.2.mem ((c.tc : Thread Cert.KnnReferenceIdeal.nD Cert.KnnReferenceIdeal.τ).loc Cert.KnnReferenceIdeal.main_arg3) = m ((c.tc : Thread Cert.KnnReferenceIdeal.nD Cert.KnnReferenceIdeal.τ).loc Cert.KnnReferenceIdeal.main_arg3)
      ∧ r.2.mem ((c.tc : Thread Cert.KnnReferenceIdeal.nD Cert.KnnReferenceIdeal.τ).loc Cert.KnnReferenceIdeal.main_arg4) = m ((c.tc : Thread Cert.KnnReferenceIdeal.nD Cert.KnnReferenceIdeal.τ).loc Cert.KnnReferenceIdeal.main_arg4)
      ∧ r.2.mem ((c.tc : Thread Cert.KnnReferenceIdeal.nD Cert.KnnReferenceIdeal.τ).loc Cert.KnnReferenceIdeal.main_arg5) = m ((c.tc : Thread Cert.KnnReferenceIdeal.nD Cert.KnnReferenceIdeal.τ).loc Cert.KnnReferenceIdeal.main_arg5)
      ∧ r.2.mem ((c.tc : Thread Cert.KnnReferenceIdeal.nD Cert.KnnReferenceIdeal.τ).loc Cert.KnnReferenceIdeal.main_arg6) = m ((c.tc : Thread Cert.KnnReferenceIdeal.nD Cert.KnnReferenceIdeal.τ).loc Cert.KnnReferenceIdeal.main_arg6)
      ∧ r.2.mem ((c.tc : Thread Cert.KnnReferenceIdeal.nD Cert.KnnReferenceIdeal.τ).loc Cert.KnnReferenceIdeal.main_arg7) = m ((c.tc : Thread Cert.KnnReferenceIdeal.nD Cert.KnnReferenceIdeal.τ).loc Cert.KnnReferenceIdeal.main_arg7)
      ∧ r.2.mem ((c.tc : Thread Cert.KnnReferenceIdeal.nD Cert.KnnReferenceIdeal.τ).loc Cert.KnnReferenceIdeal.main_arg8) = m ((c.tc : Thread Cert.KnnReferenceIdeal.nD Cert.KnnReferenceIdeal.τ).loc Cert.KnnReferenceIdeal.main_arg8)
      ∧ r.2.mem ((c.tc : Thread Cert.KnnReferenceIdeal.nD Cert.KnnReferenceIdeal.τ).loc Cert.KnnReferenceIdeal.main_arg9) = m ((c.tc : Thread Cert.KnnReferenceIdeal.nD Cert.KnnReferenceIdeal.τ).loc Cert.KnnReferenceIdeal.main_arg9))
      ∧ r.2.sem = fun _ => 0)

def preserves_Dens_DensIdeal : Prop :=
  True

def algebraic_DensIdeal_DensReferenceIdeal [hDensIdeal : Cert.DensIdeal.Facts] [hDensReferenceIdeal : Cert.DensReferenceIdeal.Facts] [hPre_cands_in_range : Cert.Pre_cands_in_range.Facts] : Prop :=
  ∀ (m : (ℓ : Loc Cert.DensIdeal.nD Cert.DensIdeal.τ Cert.DensIdeal.sig) → Buf (Elt Ideal) ℓ) (g : Dev Cert.DensIdeal.nD → PrngReg)
    (m' : (ℓ : Loc Cert.DensReferenceIdeal.nD Cert.DensReferenceIdeal.τ Cert.DensReferenceIdeal.sig) → Buf (Elt Ideal) ℓ) (g' : Dev Cert.DensReferenceIdeal.nD → PrngReg), Pre_DensIdeal m →
    (∀ c : Dev Cert.DensIdeal.nD,
      m' ((c.tc : Thread Cert.DensReferenceIdeal.nD Cert.DensReferenceIdeal.τ).loc Cert.DensReferenceIdeal.main_arg0) = m ((c.tc : Thread Cert.DensIdeal.nD Cert.DensIdeal.τ).loc Cert.DensIdeal.main_arg0)
      ∧ m' ((c.tc : Thread Cert.DensReferenceIdeal.nD Cert.DensReferenceIdeal.τ).loc Cert.DensReferenceIdeal.main_arg1) = m ((c.tc : Thread Cert.DensIdeal.nD Cert.DensIdeal.τ).loc Cert.DensIdeal.main_arg1)
      ∧ m' ((c.tc : Thread Cert.DensReferenceIdeal.nD Cert.DensReferenceIdeal.τ).loc Cert.DensReferenceIdeal.main_arg2) = m ((c.tc : Thread Cert.DensIdeal.nD Cert.DensIdeal.τ).loc Cert.DensIdeal.main_arg2)) →
    ∃ (v0 : (c : Dev Cert.DensIdeal.nD) → Buf (Elt Ideal) ((c.tc : Thread Cert.DensIdeal.nD Cert.DensIdeal.τ).loc Cert.DensIdeal.main_v6)),
      θ_run (Cert.DensIdeal.defs (F := Ideal)) (Cert.DensIdeal.threads (F := Ideal)) ⟨m, fun _ => 0, g⟩ (fun r => ∀ c : Dev Cert.DensIdeal.nD,
          r.2.mem ((c.tc : Thread Cert.DensIdeal.nD Cert.DensIdeal.τ).loc Cert.DensIdeal.main_v6) = v0 c
          ∧ r.2.mem ((c.tc : Thread Cert.DensIdeal.nD Cert.DensIdeal.τ).loc Cert.DensIdeal.main_arg0) = m ((c.tc : Thread Cert.DensIdeal.nD Cert.DensIdeal.τ).loc Cert.DensIdeal.main_arg0)
          ∧ r.2.mem ((c.tc : Thread Cert.DensIdeal.nD Cert.DensIdeal.τ).loc Cert.DensIdeal.main_arg1) = m ((c.tc : Thread Cert.DensIdeal.nD Cert.DensIdeal.τ).loc Cert.DensIdeal.main_arg1)
          ∧ r.2.mem ((c.tc : Thread Cert.DensIdeal.nD Cert.DensIdeal.τ).loc Cert.DensIdeal.main_arg2) = m ((c.tc : Thread Cert.DensIdeal.nD Cert.DensIdeal.τ).loc Cert.DensIdeal.main_arg2))
      ∧ θ_run (Cert.DensReferenceIdeal.defs (F := Ideal)) (onTc (τ := Cert.DensReferenceIdeal.τ) (Cert.DensReferenceIdeal.main (F := Ideal))) ⟨m', fun _ => 0, g'⟩ (fun r => ∀ c : Dev Cert.DensReferenceIdeal.nD,
          r.2.mem ((c.tc : Thread Cert.DensReferenceIdeal.nD Cert.DensReferenceIdeal.τ).loc Cert.DensReferenceIdeal.main_v13) = v0 c
          ∧ r.2.mem ((c.tc : Thread Cert.DensReferenceIdeal.nD Cert.DensReferenceIdeal.τ).loc Cert.DensReferenceIdeal.main_arg0) = m' ((c.tc : Thread Cert.DensReferenceIdeal.nD Cert.DensReferenceIdeal.τ).loc Cert.DensReferenceIdeal.main_arg0)
          ∧ r.2.mem ((c.tc : Thread Cert.DensReferenceIdeal.nD Cert.DensReferenceIdeal.τ).loc Cert.DensReferenceIdeal.main_arg1) = m' ((c.tc : Thread Cert.DensReferenceIdeal.nD Cert.DensReferenceIdeal.τ).loc Cert.DensReferenceIdeal.main_arg1)
          ∧ r.2.mem ((c.tc : Thread Cert.DensReferenceIdeal.nD Cert.DensReferenceIdeal.τ).loc Cert.DensReferenceIdeal.main_arg2) = m' ((c.tc : Thread Cert.DensReferenceIdeal.nD Cert.DensReferenceIdeal.τ).loc Cert.DensReferenceIdeal.main_arg2))

def preserves_Prep_PrepIdeal : Prop :=
  True

def algebraic_PrepIdeal_PrepReferenceIdeal [hPrepIdeal : Cert.PrepIdeal.Facts] [hPrepReferenceIdeal : Cert.PrepReferenceIdeal.Facts] [hPre_indices_in_range : Cert.Pre_indices_in_range.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v29_0)) (v1 : (c : Dev Cert.PrepIdeal.nD) → Buf (Elt Ideal) ((c.tc : Thread Cert.PrepIdeal.nD Cert.PrepIdeal.τ).loc Cert.PrepIdeal.main_v29_1)) (v2 : (c : Dev Cert.PrepIdeal.nD) → Buf (Elt Ideal) ((c.tc : Thread Cert.PrepIdeal.nD Cert.PrepIdeal.τ).loc Cert.PrepIdeal.main_v29_2)) (v3 : (c : Dev Cert.PrepIdeal.nD) → Buf (Elt Ideal) ((c.tc : Thread Cert.PrepIdeal.nD Cert.PrepIdeal.τ).loc Cert.PrepIdeal.main_v29_3)) (v4 : (c : Dev Cert.PrepIdeal.nD) → Buf (Elt Ideal) ((c.tc : Thread Cert.PrepIdeal.nD Cert.PrepIdeal.τ).loc Cert.PrepIdeal.main_v29_4)) (v5 : (c : Dev Cert.PrepIdeal.nD) → Buf (Elt Ideal) ((c.tc : Thread Cert.PrepIdeal.nD Cert.PrepIdeal.τ).loc Cert.PrepIdeal.main_v29_5)) (v6 : (c : Dev Cert.PrepIdeal.nD) → Buf (Elt Ideal) ((c.tc : Thread Cert.PrepIdeal.nD Cert.PrepIdeal.τ).loc Cert.PrepIdeal.main_v29_6)) (v7 : (c : Dev Cert.PrepIdeal.nD) → Buf (Elt Ideal) ((c.tc : Thread Cert.PrepIdeal.nD Cert.PrepIdeal.τ).loc Cert.PrepIdeal.main_v29_7)) (v8 : (c : Dev Cert.PrepIdeal.nD) → Buf (Elt Ideal) ((c.tc : Thread Cert.PrepIdeal.nD Cert.PrepIdeal.τ).loc Cert.PrepIdeal.main_v29_8)) (v9 : (c : Dev Cert.PrepIdeal.nD) → Buf (Elt Ideal) ((c.tc : Thread Cert.PrepIdeal.nD Cert.PrepIdeal.τ).loc Cert.PrepIdeal.main_v29_9)),
      θ_run (Cert.PrepIdeal.defs (F := Ideal)) (Cert.PrepIdeal.threads (F := Ideal)) ⟨m, fun _ => 0, g⟩ (fun r => ∀ c : Dev Cert.PrepIdeal.nD,
          r.2.mem ((c.tc : Thread Cert.PrepIdeal.nD Cert.PrepIdeal.τ).loc Cert.PrepIdeal.main_v29_0) = v0 c
          ∧ r.2.mem ((c.tc : Thread Cert.PrepIdeal.nD Cert.PrepIdeal.τ).loc Cert.PrepIdeal.main_v29_1) = v1 c
          ∧ r.2.mem ((c.tc : Thread Cert.PrepIdeal.nD Cert.PrepIdeal.τ).loc Cert.PrepIdeal.main_v29_2) = v2 c
          ∧ r.2.mem ((c.tc : Thread Cert.PrepIdeal.nD Cert.PrepIdeal.τ).loc Cert.PrepIdeal.main_v29_3) = v3 c
          ∧ r.2.mem ((c.tc : Thread Cert.PrepIdeal.nD Cert.PrepIdeal.τ).loc Cert.PrepIdeal.main_v29_4) = v4 c
          ∧ r.2.mem ((c.tc : Thread Cert.PrepIdeal.nD Cert.PrepIdeal.τ).loc Cert.PrepIdeal.main_v29_5) = v5 c
          ∧ r.2.mem ((c.tc : Thread Cert.PrepIdeal.nD Cert.PrepIdeal.τ).loc Cert.PrepIdeal.main_v29_6) = v6 c
          ∧ r.2.mem ((c.tc : Thread Cert.PrepIdeal.nD Cert.PrepIdeal.τ).loc Cert.PrepIdeal.main_v29_7) = v7 c
          ∧ r.2.mem ((c.tc : Thread Cert.PrepIdeal.nD Cert.PrepIdeal.τ).loc Cert.PrepIdeal.main_v29_8) = v8 c
          ∧ r.2.mem ((c.tc : Thread Cert.PrepIdeal.nD Cert.PrepIdeal.τ).loc Cert.PrepIdeal.main_v29_9) = v9 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v63) = v0 c
          ∧ r.2.mem ((c.tc : Thread Cert.PrepReferenceIdeal.nD Cert.PrepReferenceIdeal.τ).loc Cert.PrepReferenceIdeal.main_v65) = v1 c
          ∧ r.2.mem ((c.tc : Thread Cert.PrepReferenceIdeal.nD Cert.PrepReferenceIdeal.τ).loc Cert.PrepReferenceIdeal.main_v67) = v2 c
          ∧ r.2.mem ((c.tc : Thread Cert.PrepReferenceIdeal.nD Cert.PrepReferenceIdeal.τ).loc Cert.PrepReferenceIdeal.main_v69) = v3 c
          ∧ r.2.mem ((c.tc : Thread Cert.PrepReferenceIdeal.nD Cert.PrepReferenceIdeal.τ).loc Cert.PrepReferenceIdeal.main_v70) = v4 c
          ∧ r.2.mem ((c.tc : Thread Cert.PrepReferenceIdeal.nD Cert.PrepReferenceIdeal.τ).loc Cert.PrepReferenceIdeal.main_v134) = v5 c
          ∧ r.2.mem ((c.tc : Thread Cert.PrepReferenceIdeal.nD Cert.PrepReferenceIdeal.τ).loc Cert.PrepReferenceIdeal.main_v136) = v6 c
          ∧ r.2.mem ((c.tc : Thread Cert.PrepReferenceIdeal.nD Cert.PrepReferenceIdeal.τ).loc Cert.PrepReferenceIdeal.main_v138) = v7 c
          ∧ r.2.mem ((c.tc : Thread Cert.PrepReferenceIdeal.nD Cert.PrepReferenceIdeal.τ).loc Cert.PrepReferenceIdeal.main_v140) = v8 c
          ∧ r.2.mem ((c.tc : Thread Cert.PrepReferenceIdeal.nD Cert.PrepReferenceIdeal.τ).loc Cert.PrepReferenceIdeal.main_v141) = v9 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4))

def preserves_Knn_KnnIdeal : Prop :=
  True

def algebraic_KnnIdeal_KnnReferenceIdeal_pre_points_finite [hKnnIdeal : Cert.KnnIdeal.Facts] [hKnnReferenceIdeal : Cert.KnnReferenceIdeal.Facts] [hPre_points_finite : Cert.Pre_points_finite.Facts] : Prop :=
  ∀ (m : (ℓ : Loc Cert.KnnIdeal.nD Cert.KnnIdeal.τ Cert.KnnIdeal.sig) → Buf (Elt Ideal) ℓ) (g : Dev Cert.KnnIdeal.nD → PrngReg)
    (m' : (ℓ : Loc Cert.KnnReferenceIdeal.nD Cert.KnnReferenceIdeal.τ Cert.KnnReferenceIdeal.sig) → Buf (Elt Ideal) ℓ) (g' : Dev Cert.KnnReferenceIdeal.nD → PrngReg), Pre_KnnIdeal_points_finite m →
    (∀ c : Dev Cert.KnnIdeal.nD,
      m' ((c.tc : Thread Cert.KnnReferenceIdeal.nD Cert.KnnReferenceIdeal.τ).loc Cert.KnnReferenceIdeal.main_arg0) = m ((c.tc : Thread Cert.KnnIdeal.nD Cert.KnnIdeal.τ).loc Cert.KnnIdeal.main_arg0)
      ∧ m' ((c.tc : Thread Cert.KnnReferenceIdeal.nD Cert.KnnReferenceIdeal.τ).loc Cert.KnnReferenceIdeal.main_arg1) = m ((c.tc : Thread Cert.KnnIdeal.nD Cert.KnnIdeal.τ).loc Cert.KnnIdeal.main_arg1)
      ∧ m' ((c.tc : Thread Cert.KnnReferenceIdeal.nD Cert.KnnReferenceIdeal.τ).loc Cert.KnnReferenceIdeal.main_arg2) = m ((c.tc : Thread Cert.KnnIdeal.nD Cert.KnnIdeal.τ).loc Cert.KnnIdeal.main_arg2)
      ∧ m' ((c.tc : Thread Cert.KnnReferenceIdeal.nD Cert.KnnReferenceIdeal.τ).loc Cert.KnnReferenceIdeal.main_arg3) = m ((c.tc : Thread Cert.KnnIdeal.nD Cert.KnnIdeal.τ).loc Cert.KnnIdeal.main_arg3)
      ∧ m' ((c.tc : Thread Cert.KnnReferenceIdeal.nD Cert.KnnReferenceIdeal.τ).loc Cert.KnnReferenceIdeal.main_arg4) = m ((c.tc : Thread Cert.KnnIdeal.nD Cert.KnnIdeal.τ).loc Cert.KnnIdeal.main_arg4)
      ∧ m' ((c.tc : Thread Cert.KnnReferenceIdeal.nD Cert.KnnReferenceIdeal.τ).loc Cert.KnnReferenceIdeal.main_arg5) = m ((c.tc : Thread Cert.KnnIdeal.nD Cert.KnnIdeal.τ).loc Cert.KnnIdeal.main_arg5)
      ∧ m' ((c.tc : Thread Cert.KnnReferenceIdeal.nD Cert.KnnReferenceIdeal.τ).loc Cert.KnnReferenceIdeal.main_arg6) = m ((c.tc : Thread Cert.KnnIdeal.nD Cert.KnnIdeal.τ).loc Cert.KnnIdeal.main_arg6)
      ∧ m' ((c.tc : Thread Cert.KnnReferenceIdeal.nD Cert.KnnReferenceIdeal.τ).loc Cert.KnnReferenceIdeal.main_arg7) = m ((c.tc : Thread Cert.KnnIdeal.nD Cert.KnnIdeal.τ).loc Cert.KnnIdeal.main_arg7)
      ∧ m' ((c.tc : Thread Cert.KnnReferenceIdeal.nD Cert.KnnReferenceIdeal.τ).loc Cert.KnnReferenceIdeal.main_arg8) = m ((c.tc : Thread Cert.KnnIdeal.nD Cert.KnnIdeal.τ).loc Cert.KnnIdeal.main_arg8)
      ∧ m' ((c.tc : Thread Cert.KnnReferenceIdeal.nD Cert.KnnReferenceIdeal.τ).loc Cert.KnnReferenceIdeal.main_arg9) = m ((c.tc : Thread Cert.KnnIdeal.nD Cert.KnnIdeal.τ).loc Cert.KnnIdeal.main_arg9)) →
    ∃ (v0 : (c : Dev Cert.KnnIdeal.nD) → Buf (Elt Ideal) ((c.tc : Thread Cert.KnnIdeal.nD Cert.KnnIdeal.τ).loc Cert.KnnIdeal.main_v19_0)) (v1 : (c : Dev Cert.KnnIdeal.nD) → Buf (Elt Ideal) ((c.tc : Thread Cert.KnnIdeal.nD Cert.KnnIdeal.τ).loc Cert.KnnIdeal.main_v19_1)) (v2 : (c : Dev Cert.KnnIdeal.nD) → Buf (Elt Ideal) ((c.tc : Thread Cert.KnnIdeal.nD Cert.KnnIdeal.τ).loc Cert.KnnIdeal.main_v19_2)) (v3 : (c : Dev Cert.KnnIdeal.nD) → Buf (Elt Ideal) ((c.tc : Thread Cert.KnnIdeal.nD Cert.KnnIdeal.τ).loc Cert.KnnIdeal.main_v19_3)),
      θ_run (Cert.KnnIdeal.defs (F := Ideal)) (onTc (τ := Cert.KnnIdeal.τ) (Cert.KnnIdeal.main (F := Ideal))) ⟨m, fun _ => 0, g⟩ (fun r => ∀ c : Dev Cert.KnnIdeal.nD,
          r.2.mem ((c.tc : Thread Cert.KnnIdeal.nD Cert.KnnIdeal.τ).loc Cert.KnnIdeal.main_v19_0) = v0 c
          ∧ r.2.mem ((c.tc : Thread Cert.KnnIdeal.nD Cert.KnnIdeal.τ).loc Cert.KnnIdeal.main_v19_1) = v1 c
          ∧ r.2.mem ((c.tc : Thread Cert.KnnIdeal.nD Cert.KnnIdeal.τ).loc Cert.KnnIdeal.main_v19_2) = v2 c
          ∧ r.2.mem ((c.tc : Thread Cert.KnnIdeal.nD Cert.KnnIdeal.τ).loc Cert.KnnIdeal.main_v19_3) = v3 c
          ∧ r.2.mem ((c.tc : Thread Cert.KnnIdeal.nD Cert.KnnIdeal.τ).loc Cert.KnnIdeal.main_arg0) = m ((c.tc : Thread Cert.KnnIdeal.nD Cert.KnnIdeal.τ).loc Cert.KnnIdeal.main_arg0)
          ∧ r.2.mem ((c.tc : Thread Cert.KnnIdeal.nD Cert.KnnIdeal.τ).loc Cert.KnnIdeal.main_arg1) = m ((c.tc : Thread Cert.KnnIdeal.nD Cert.KnnIdeal.τ).loc Cert.KnnIdeal.main_arg1)
          ∧ r.2.mem ((c.tc : Thread Cert.KnnIdeal.nD Cert.KnnIdeal.τ).loc Cert.KnnIdeal.main_arg2) = m ((c.tc : Thread Cert.KnnIdeal.nD Cert.KnnIdeal.τ).loc Cert.KnnIdeal.main_arg2)
          ∧ r.2.mem ((c.tc : Thread Cert.KnnIdeal.nD Cert.KnnIdeal.τ).loc Cert.KnnIdeal.main_arg3) = m ((c.tc : Thread Cert.KnnIdeal.nD Cert.KnnIdeal.τ).loc Cert.KnnIdeal.main_arg3)
          ∧ r.2.mem ((c.tc : Thread Cert.KnnIdeal.nD Cert.KnnIdeal.τ).loc Cert.KnnIdeal.main_arg4) = m ((c.tc : Thread Cert.KnnIdeal.nD Cert.KnnIdeal.τ).loc Cert.KnnIdeal.main_arg4)
          ∧ r.2.mem ((c.tc : Thread Cert.KnnIdeal.nD Cert.KnnIdeal.τ).loc Cert.KnnIdeal.main_arg5) = m ((c.tc : Thread Cert.KnnIdeal.nD Cert.KnnIdeal.τ).loc Cert.KnnIdeal.main_arg5)
          ∧ r.2.mem ((c.tc : Thread Cert.KnnIdeal.nD Cert.KnnIdeal.τ).loc Cert.KnnIdeal.main_arg6) = m ((c.tc : Thread Cert.KnnIdeal.nD Cert.KnnIdeal.τ).loc Cert.KnnIdeal.main_arg6)
          ∧ r.2.mem ((c.tc : Thread Cert.KnnIdeal.nD Cert.KnnIdeal.τ).loc Cert.KnnIdeal.main_arg7) = m ((c.tc : Thread Cert.KnnIdeal.nD Cert.KnnIdeal.τ).loc Cert.KnnIdeal.main_arg7)
          ∧ r.2.mem ((c.tc : Thread Cert.KnnIdeal.nD Cert.KnnIdeal.τ).loc Cert.KnnIdeal.main_arg8) = m ((c.tc : Thread Cert.KnnIdeal.nD Cert.KnnIdeal.τ).loc Cert.KnnIdeal.main_arg8)
          ∧ r.2.mem ((c.tc : Thread Cert.KnnIdeal.nD Cert.KnnIdeal.τ).loc Cert.KnnIdeal.main_arg9) = m ((c.tc : Thread Cert.KnnIdeal.nD Cert.KnnIdeal.τ).loc Cert.KnnIdeal.main_arg9))
      ∧ θ_run (Cert.KnnReferenceIdeal.defs (F := Ideal)) (onTc (τ := Cert.KnnReferenceIdeal.τ) (Cert.KnnReferenceIdeal.main (F := Ideal))) ⟨m', fun _ => 0, g'⟩ (fun r => ∀ c : Dev Cert.KnnReferenceIdeal.nD,
          r.2.mem ((c.tc : Thread Cert.KnnReferenceIdeal.nD Cert.KnnReferenceIdeal.τ).loc Cert.KnnReferenceIdeal.main_indices) = v0 c
          ∧ r.2.mem ((c.tc : Thread Cert.KnnReferenceIdeal.nD Cert.KnnReferenceIdeal.τ).loc Cert.KnnReferenceIdeal.main_v34) = v1 c
          ∧ r.2.mem ((c.tc : Thread Cert.KnnReferenceIdeal.nD Cert.KnnReferenceIdeal.τ).loc Cert.KnnReferenceIdeal.main_v38) = v2 c
          ∧ r.2.mem ((c.tc : Thread Cert.KnnReferenceIdeal.nD Cert.KnnReferenceIdeal.τ).loc Cert.KnnReferenceIdeal.main_v42) = v3 c
          ∧ r.2.mem ((c.tc : Thread Cert.KnnReferenceIdeal.nD Cert.KnnReferenceIdeal.τ).loc Cert.KnnReferenceIdeal.main_arg0) = m' ((c.tc : Thread Cert.KnnReferenceIdeal.nD Cert.KnnReferenceIdeal.τ).loc Cert.KnnReferenceIdeal.main_arg0)
          ∧ r.2.mem ((c.tc : Thread Cert.KnnReferenceIdeal.nD Cert.KnnReferenceIdeal.τ).loc Cert.KnnReferenceIdeal.main_arg1) = m' ((c.tc : Thread Cert.KnnReferenceIdeal.nD Cert.KnnReferenceIdeal.τ).loc Cert.KnnReferenceIdeal.main_arg1)
          ∧ r.2.mem ((c.tc : Thread Cert.KnnReferenceIdeal.nD Cert.KnnReferenceIdeal.τ).loc Cert.KnnReferenceIdeal.main_arg2) = m' ((c.tc : Thread Cert.KnnReferenceIdeal.nD Cert.KnnReferenceIdeal.τ).loc Cert.KnnReferenceIdeal.main_arg2)
          ∧ r.2.mem ((c.tc : Thread Cert.KnnReferenceIdeal.nD Cert.KnnReferenceIdeal.τ).loc Cert.KnnReferenceIdeal.main_arg3) = m' ((c.tc : Thread Cert.KnnReferenceIdeal.nD Cert.KnnReferenceIdeal.τ).loc Cert.KnnReferenceIdeal.main_arg3)
          ∧ r.2.mem ((c.tc : Thread Cert.KnnReferenceIdeal.nD Cert.KnnReferenceIdeal.τ).loc Cert.KnnReferenceIdeal.main_arg4) = m' ((c.tc : Thread Cert.KnnReferenceIdeal.nD Cert.KnnReferenceIdeal.τ).loc Cert.KnnReferenceIdeal.main_arg4)
          ∧ r.2.mem ((c.tc : Thread Cert.KnnReferenceIdeal.nD Cert.KnnReferenceIdeal.τ).loc Cert.KnnReferenceIdeal.main_arg5) = m' ((c.tc : Thread Cert.KnnReferenceIdeal.nD Cert.KnnReferenceIdeal.τ).loc Cert.KnnReferenceIdeal.main_arg5)
          ∧ r.2.mem ((c.tc : Thread Cert.KnnReferenceIdeal.nD Cert.KnnReferenceIdeal.τ).loc Cert.KnnReferenceIdeal.main_arg6) = m' ((c.tc : Thread Cert.KnnReferenceIdeal.nD Cert.KnnReferenceIdeal.τ).loc Cert.KnnReferenceIdeal.main_arg6)
          ∧ r.2.mem ((c.tc : Thread Cert.KnnReferenceIdeal.nD Cert.KnnReferenceIdeal.τ).loc Cert.KnnReferenceIdeal.main_arg7) = m' ((c.tc : Thread Cert.KnnReferenceIdeal.nD Cert.KnnReferenceIdeal.τ).loc Cert.KnnReferenceIdeal.main_arg7)
          ∧ r.2.mem ((c.tc : Thread Cert.KnnReferenceIdeal.nD Cert.KnnReferenceIdeal.τ).loc Cert.KnnReferenceIdeal.main_arg8) = m' ((c.tc : Thread Cert.KnnReferenceIdeal.nD Cert.KnnReferenceIdeal.τ).loc Cert.KnnReferenceIdeal.main_arg8)
          ∧ r.2.mem ((c.tc : Thread Cert.KnnReferenceIdeal.nD Cert.KnnReferenceIdeal.τ).loc Cert.KnnReferenceIdeal.main_arg9) = m' ((c.tc : Thread Cert.KnnReferenceIdeal.nD Cert.KnnReferenceIdeal.τ).loc Cert.KnnReferenceIdeal.main_arg9))

def Claim : Prop :=
  ∃ (hDens : Cert.Dens.Facts) (hDensIdeal : Cert.DensIdeal.Facts) (hDensReferenceIdeal : Cert.DensReferenceIdeal.Facts) (hPrep : Cert.Prep.Facts) (hPrepIdeal : Cert.PrepIdeal.Facts) (hPrepReferenceIdeal : Cert.PrepReferenceIdeal.Facts) (hKnn : Cert.Knn.Facts) (hKnnIdeal : Cert.KnnIdeal.Facts) (hKnnReferenceIdeal : Cert.KnnReferenceIdeal.Facts) (hPre_cands_in_range : Cert.Pre_cands_in_range.Facts) (hPre_indices_in_range : Cert.Pre_indices_in_range.Facts) (hPre_points_finite : Cert.Pre_points_finite.Facts),
    quiescent_Dens (hDens := hDens) (hPre_cands_in_range := hPre_cands_in_range)
    ∧ quiescent_DensIdeal (hDensIdeal := hDensIdeal) (hPre_cands_in_range := hPre_cands_in_range)
    ∧ quiescent_DensReferenceIdeal (hDensReferenceIdeal := hDensReferenceIdeal) (hPre_cands_in_range := hPre_cands_in_range)
    ∧ quiescent_Prep (hPrep := hPrep) (hPre_indices_in_range := hPre_indices_in_range)
    ∧ quiescent_PrepIdeal (hPrepIdeal := hPrepIdeal) (hPre_indices_in_range := hPre_indices_in_range)
    ∧ quiescent_PrepReferenceIdeal (hPrepReferenceIdeal := hPrepReferenceIdeal) (hPre_indices_in_range := hPre_indices_in_range)
    ∧ quiescent_Knn (hKnn := hKnn)
    ∧ quiescent_KnnIdeal (hKnnIdeal := hKnnIdeal)
    ∧ quiescent_KnnIdeal_pre_points_finite (hKnnIdeal := hKnnIdeal) (hPre_points_finite := hPre_points_finite)
    ∧ quiescent_KnnReferenceIdeal (hKnnReferenceIdeal := hKnnReferenceIdeal)
    ∧ quiescent_KnnReferenceIdeal_pre_points_finite (hKnnReferenceIdeal := hKnnReferenceIdeal) (hPre_points_finite := hPre_points_finite)
    ∧ preserves_Dens_DensIdeal
    ∧ algebraic_DensIdeal_DensReferenceIdeal (hDensIdeal := hDensIdeal) (hDensReferenceIdeal := hDensReferenceIdeal) (hPre_cands_in_range := hPre_cands_in_range)
    ∧ preserves_Prep_PrepIdeal
    ∧ algebraic_PrepIdeal_PrepReferenceIdeal (hPrepIdeal := hPrepIdeal) (hPrepReferenceIdeal := hPrepReferenceIdeal) (hPre_indices_in_range := hPre_indices_in_range)
    ∧ preserves_Knn_KnnIdeal
    ∧ algebraic_KnnIdeal_KnnReferenceIdeal_pre_points_finite (hKnnIdeal := hKnnIdeal) (hKnnReferenceIdeal := hKnnReferenceIdeal) (hPre_points_finite := hPre_points_finite)
-- ==== Pre_cands_in_range.lean ====
abbrev S1x32768 : Shape := ⟨2, ![1, 32768]⟩
abbrev S8192x5 : Shape := ⟨2, ![8192, 5]⟩
abbrev S1x8192 : Shape := ⟨2, ![1, 8192]⟩
abbrev S_ : Shape := ⟨0, ![]⟩

class Facts : Prop where
  bcast_S_S8192x5 : S_.BroadcastsInDim S8192x5 (![] : Fin 0 → Fin S8192x5.rank)

variable [Facts]

def fn {F : FTy → Type} [FloatOps F] (main_arg0 : FVec F S1x32768 .f32) (main_arg1 : IVec S8192x5 32) (main_arg2 : FVec F S1x8192 .f32) : IVec S8192x5 1 :=
  let main_c : IVec S_ 32 := constantI S_ 32 0#32
  let main_v0 : IVec S8192x5 32 := broadcastInDim S8192x5 ![] bcast_S_S8192x5 main_c
  let main_v1 : IVec S8192x5 1 := cmpi .sge main_arg1 main_v0
  let main_c_0 : IVec S_ 32 := constantI S_ 32 32768#32
  let main_v2 : IVec S8192x5 32 := broadcastInDim S8192x5 ![] bcast_S_S8192x5 main_c_0
  let main_v3 : IVec S8192x5 1 := cmpi .slt main_arg1 main_v2
  let main_v4 : IVec S8192x5 1 := andi main_v1 main_v3
  main_v4
-- ==== Pre_indices_in_range.lean ====
abbrev S8192x4 : Shape := ⟨2, ![8192, 4]⟩
abbrev S32768x4 : Shape := ⟨2, ![32768, 4]⟩
abbrev S32768x3 : Shape := ⟨2, ![32768, 3]⟩
abbrev S8192x3 : Shape := ⟨2, ![8192, 3]⟩
abbrev S10000x3 : Shape := ⟨2, ![10000, 3]⟩
abbrev S_ : Shape := ⟨0, ![]⟩

class Facts : Prop where
  bcast_S_S8192x4 : S_.BroadcastsInDim S8192x4 (![] : Fin 0 → Fin S8192x4.rank)
  reducesTo_S8192x4_S_d0_1 : S8192x4.ReducesTo [0, 1] S_
  h_S_ : 0 < S_.numel
  bcast_S_S32768x4 : S_.BroadcastsInDim S32768x4 (![] : Fin 0 → Fin S32768x4.rank)
  reducesTo_S32768x4_S_d0_1 : S32768x4.ReducesTo [0, 1] S_

variable [Facts]

def fn {F : FTy → Type} [FloatOps F] (main_arg0 : IVec S8192x4 32) (main_arg1 : IVec S32768x4 32) (main_arg2 : FVec F S32768x3 .f32) (main_arg3 : FVec F S8192x3 .f32) (main_arg4 : FVec F S10000x3 .f32) : IVec S_ 1 :=
  let main_c : IVec S_ 32 := constantI S_ 32 0#32
  let main_v0 : IVec S8192x4 32 := broadcastInDim S8192x4 ![] bcast_S_S8192x4 main_c
  let main_v1 : IVec S8192x4 1 := cmpi .sge main_arg0 main_v0
  let main_c_0 : IVec S_ 1 := constantI S_ 1 1#1
  let main_v2 : IVec S_ 1 := (fun x v => Host.reduce IntOp.andi x v reducesTo_S8192x4_S_d0_1 h_S_) main_v1 main_c_0
  let main_c_1 : IVec S_ 32 := constantI S_ 32 10000#32
  let main_v3 : IVec S8192x4 32 := broadcastInDim S8192x4 ![] bcast_S_S8192x4 main_c_1
  let main_v4 : IVec S8192x4 1 := cmpi .slt main_arg0 main_v3
  let main_c_2 : IVec S_ 1 := constantI S_ 1 1#1
  let main_v5 : IVec S_ 1 := (fun x v => Host.reduce IntOp.andi x v reducesTo_S8192x4_S_d0_1 h_S_) main_v4 main_c_2
  let main_v6 : IVec S_ 1 := andi main_v2 main_v5
  let main_c_3 : IVec S_ 32 := constantI S_ 32 0#32
  let main_v7 : IVec S32768x4 32 := broadcastInDim S32768x4 ![] bcast_S_S32768x4 main_c_3
  let main_v8 : IVec S32768x4 1 := cmpi .sge main_arg1 main_v7
  let main_c_4 : IVec S_ 1 := constantI S_ 1 1#1
  let main_v9 : IVec S_ 1 := (fun x v => Host.reduce IntOp.andi x v reducesTo_S32768x4_S_d0_1 h_S_) main_v8 main_c_4
  let main_v10 : IVec S_ 1 := andi main_v6 main_v9
  let main_c_5 : IVec S_ 32 := constantI S_ 32 10000#32
  let main_v11 : IVec S32768x4 32 := broadcastInDim S32768x4 ![] bcast_S_S32768x4 main_c_5
  let main_v12 : IVec S32768x4 1 := cmpi .slt main_arg1 main_v11
  let main_c_6 : IVec S_ 1 := constantI S_ 1 1#1
  let main_v13 : IVec S_ 1 := (fun x v => Host.reduce IntOp.andi x v reducesTo_S32768x4_S_d0_1 h_S_) main_v12 main_c_6
  let main_v14 : IVec S_ 1 := andi main_v10 main_v13
  main_v14
-- ==== Pre_points_finite.lean ====
abbrev S32768 : Shape := ⟨1, ![32768]⟩
abbrev S8192 : Shape := ⟨1, ![8192]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel
  bcast_S_S8192 : S_.BroadcastsInDim S8192 (![] : Fin 0 → Fin S8192.rank)
  reducesTo_S8192_S_d0 : S8192.ReducesTo [0] S_

variable [Facts]

def fn_part2 {F : FTy → Type} [FloatOps F] (main_arg8 : FVec F S8192 .f32) (main_v33 : IVec S_ 1) : IVec S_ 1 :=
  let main_v34 : FVec F S8192 .f32 := Host.absf main_arg8
  let main_cst_12 : FVec F S_ .f32 := constant S_ .f32 0x7F800000#32
  let main_v35 : FVec F S8192 .f32 := broadcastInDim S8192 ![] bcast_S_S8192 main_cst_12
  let main_v36 : IVec S8192 1 := cmpf .olt main_v34 main_v35
  let main_c_13 : IVec S_ 1 := constantI S_ 1 1#1
  let main_v37 : IVec S_ 1 := (fun x v => Host.reduce IntOp.andi x v reducesTo_S8192_S_d0 h_S_) main_v36 main_c_13
  let main_v38 : IVec S_ 1 := andi main_v33 main_v37
  main_v38

def fn_part1 {F : FTy → Type} [FloatOps F] (main_arg5 : FVec F S8192 .f32) (main_arg6 : FVec F S8192 .f32) (main_arg7 : FVec F S8192 .f32) (main_arg8 : FVec F S8192 .f32) (main_v13 : IVec S_ 1) (main_v16 : IVec S32768 1) : IVec S_ 1 :=
  let main_c_5 : IVec S_ 1 := constantI S_ 1 1#1
  let main_v17 : IVec S_ 1 := (fun x v => Host.reduce IntOp.andi x v reducesTo_S32768_S_d0 h_S_) main_v16 main_c_5
  let main_v18 : IVec S_ 1 := andi main_v13 main_v17
  let main_v19 : FVec F S8192 .f32 := Host.absf main_arg5
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192 .f32 := Host.absf main_arg6
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S8192 .f32 := Host.absf main_arg7
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  fn_part2 (F := F) main_arg8 main_v33

def fn {F : FTy → Type} [FloatOps F] (main_arg0 : FVec F S32768 .f32) (main_arg1 : FVec F S32768 .f32) (main_arg2 : FVec F S32768 .f32) (main_arg3 : FVec F S32768 .f32) (main_arg4 : FVec F S32768 .f32) (main_arg5 : FVec F S8192 .f32) (main_arg6 : FVec F S8192 .f32) (main_arg7 : FVec F S8192 .f32) (main_arg8 : FVec F S8192 .f32) (main_arg9 : FVec F S8192 .f32) : IVec S_ 1 :=
  let main_v0 : FVec F S32768 .f32 := Host.absf main_arg0
  let main_cst : FVec F S_ .f32 := constant S_ .f32 0x7F800000#32
  let main_v1 : FVec F S32768 .f32 := broadcastInDim S32768 ![] bcast_S_S32768 main_cst
  let main_v2 : IVec S32768 1 := cmpf .olt main_v0 main_v1
  let main_c : IVec S_ 1 := constantI S_ 1 1#1
  let main_v3 : IVec S_ 1 := (fun x v => Host.reduce IntOp.andi x v reducesTo_S32768_S_d0 h_S_) main_v2 main_c
  let main_v4 : FVec F S32768 .f32 := Host.absf main_arg1
  let main_cst_0 : FVec F S_ .f32 := constant S_ .f32 0x7F800000#32
  let main_v5 : FVec F S32768 .f32 := broadcastInDim S32768 ![] bcast_S_S32768 main_cst_0
  let main_v6 : IVec S32768 1 := cmpf .olt main_v4 main_v5
  let main_c_1 : IVec S_ 1 := constantI S_ 1 1#1
  let main_v7 : IVec S_ 1 := (fun x v => Host.reduce IntOp.andi x v reducesTo_S32768_S_d0 h_S_) main_v6 main_c_1
  let main_v8 : IVec S_ 1 := andi main_v3 main_v7
  let main_v9 : FVec F S32768 .f32 := Host.absf main_arg2
  let main_cst_2 : FVec F S_ .f32 := constant S_ .f32 0x7F800000#32
  let main_v10 : FVec F S32768 .f32 := broadcastInDim S32768 ![] bcast_S_S32768 main_cst_2
  let main_v11 : IVec S32768 1 := cmpf .olt main_v9 main_v10
  let main_c_3 : IVec S_ 1 := constantI S_ 1 1#1
  let main_v12 : IVec S_ 1 := (fun x v => Host.reduce IntOp.andi x v reducesTo_S32768_S_d0 h_S_) main_v11 main_c_3
  let main_v13 : IVec S_ 1 := andi main_v8 main_v12
  let main_v14 : FVec F S32768 .f32 := Host.absf main_arg3
  let main_cst_4 : FVec F S_ .f32 := constant S_ .f32 0x7F800000#32
  let main_v15 : FVec F S32768 .f32 := broadcastInDim S32768 ![] bcast_S_S32768 main_cst_4
  let main_v16 : IVec S32768 1 := cmpf .olt main_v14 main_v15
  fn_part1 (F := F) main_arg5 main_arg6 main_arg7 main_arg8 main_v13 main_v16
-- ==== Dens.lean ====
abbrev S1x32768 : Shape := ⟨2, ![1, 32768]⟩
abbrev S8192x5 : Shape := ⟨2, ![8192, 5]⟩
abbrev S1x8192 : Shape := ⟨2, ![1, 8192]⟩
abbrev S8192x1 : Shape := ⟨2, ![8192, 1]⟩
abbrev S32768 : Shape := ⟨1, ![32768]⟩
abbrev S40960 : Shape := ⟨1, ![40960]⟩
abbrev S1280 : Shape := ⟨1, ![1280]⟩
abbrev S_ : Shape := ⟨0, ![]⟩
abbrev S16 : Shape := ⟨1, ![16]⟩

abbrev nBuf : Table → Nat
  | .hbm => 10
  | .local .scVector .vmem => 4
  | _ => 0

abbrev bufTy : (tb : Table) → Fin (nBuf tb) → BufTy
  | .hbm, ⟨0, _⟩ => ⟨S1x32768, .f32⟩
  | .hbm, ⟨1, _⟩ => ⟨S8192x5, .i32⟩
  | .hbm, ⟨2, _⟩ => ⟨S1x8192, .f32⟩
  | .hbm, ⟨3, _⟩ => ⟨S8192x1, .f32⟩
  | .hbm, ⟨4, _⟩ => ⟨S8192x5, .f32⟩
  | .hbm, ⟨5, _⟩ => ⟨S32768, .f32⟩
  | .hbm, ⟨6, _⟩ => ⟨S40960, .i32⟩
  | .hbm, ⟨7, _⟩ => ⟨S40960, .f32⟩
  | .hbm, ⟨8, _⟩ => ⟨S40960, .f32⟩
  | .hbm, ⟨9, _⟩ => ⟨S8192x5, .f32⟩
  | .local .scVector .vmem, ⟨0, _⟩ => ⟨S32768, .f32⟩
  | .local .scVector .vmem, ⟨1, _⟩ => ⟨S1280, .i32⟩
  | .local .scVector .vmem, ⟨2, _⟩ => ⟨S1280, .f32⟩
  | .local .scVector .vmem, ⟨3, _⟩ => ⟨S1280, .f32⟩
  | _, _ => ⟨S1x32768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v2_scv : Ref sig .scVector := ⟨.hbm, 5, rfl⟩
abbrev main_v3_scv : Ref sig .scVector := ⟨.hbm, 6, rfl⟩
abbrev main_v4_scv : Ref sig .scVector := ⟨.hbm, 7, rfl⟩
abbrev main_v5_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  ![v2.toNat]
@[reducible] def k0_t1_loop : Scf.Loop 32 :=
  let c0_i32_0 : BitVec 32 := 0#32
  let c80_i32 : BitVec 32 := 80#32
  let v3 : BitVec 32 := Scalar.addi c0_i32_0 c80_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg10 : BitVec 32 := Scf.iv c0_i32_0 c1_i32 k0_t1
  let c16_i32 : BitVec 32 := 16#32
  let v5 : BitVec 32 := Scalar.muli arg10 c16_i32
  let v6 : Index := Scalar.indexCast v5
  ![v6.toNat]

def k0_chk1 (v7 : IVec S16 32) : Prop :=
  (∀ a x, ((![v7] : Fin 1 → IVec S16 32) a x).toNat < S32768.size a)
theorem k0_idx1_inb : ∀ (v7 : IVec S16 32) (k0_hw1 : k0_chk1 v7), ∀ a x, ((![v7] : Fin 1 → IVec S16 32) a x).toNat < S32768.size a := fun v7 k0_hw1 => k0_hw1
def k0_off3 (k0_t1 : Fin k0_t1_loop.trips) : Fin 1 → Nat :=
  let c0_i32_0 : BitVec 32 := 0#32
  let c1_i32 : BitVec 32 := 1#32
  let arg10 : BitVec 32 := Scf.iv c0_i32_0 c1_i32 k0_t1
  let c16_i32 : BitVec 32 := 16#32
  let v5 : BitVec 32 := Scalar.muli arg10 c16_i32
  let v9 : Index := Scalar.indexCast v5
  ![v9.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== DensReferenceIdeal.lean ====
abbrev S1x32768 : Shape := ⟨2, ![1, 32768]⟩
abbrev S8192x5 : Shape := ⟨2, ![8192, 5]⟩
abbrev S1x8192 : Shape := ⟨2, ![1, 8192]⟩
abbrev S8192 : Shape := ⟨1, ![8192]⟩
abbrev S8192x1 : Shape := ⟨2, ![8192, 1]⟩
abbrev S32768 : Shape := ⟨1, ![32768]⟩
abbrev S_ : Shape := ⟨0, ![]⟩
abbrev S8192x5x1 : Shape := ⟨3, ![8192, 5, 1]⟩

abbrev nBuf : Space → Nat
  | .hbm => 20
  | .vmem => 0
  | .smem => 0
  | _ => 0

abbrev bufTy : (tb : Table) → Fin (tcTables nBuf tb) → BufTy
  | .hbm, ⟨0, _⟩ => ⟨S1x32768, .f32⟩
  | .hbm, ⟨1, _⟩ => ⟨S8192x5, .i32⟩
  | .hbm, ⟨2, _⟩ => ⟨S1x8192, .f32⟩
  | .hbm, ⟨3, _⟩ => ⟨S8192, .f32⟩
  | .hbm, ⟨4, _⟩ => ⟨S8192x1, .f32⟩
  | .hbm, ⟨5, _⟩ => ⟨S32768, .f32⟩
  | .hbm, ⟨6, _⟩ => ⟨S_, .i32⟩
  | .hbm, ⟨7, _⟩ => ⟨S8192x5, .i32⟩
  | .hbm, ⟨8, _⟩ => ⟨S8192x5, .i1⟩
  | .hbm, ⟨9, _⟩ => ⟨S_, .i32⟩
  | .hbm, ⟨10, _⟩ => ⟨S8192x5, .i32⟩
  | .hbm, ⟨11, _⟩ => ⟨S8192x5, .i32⟩
  | .hbm, ⟨12, _⟩ => ⟨S8192x5, .i32⟩
  | .hbm, ⟨13, _⟩ => ⟨S8192x5x1, .i32⟩
  | .hbm, ⟨14, _⟩ => ⟨S8192x5, .f32⟩
  | .hbm, ⟨15, _⟩ => ⟨S_, .f32⟩
  | .hbm, ⟨16, _⟩ => ⟨S8192x5, .f32⟩
  | .hbm, ⟨17, _⟩ => ⟨S8192x5, .f32⟩
  | .hbm, ⟨18, _⟩ => ⟨S8192x5, .f32⟩
  | .hbm, ⟨19, _⟩ => ⟨S8192x5, .f32⟩
  | _, _ => ⟨S1x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Prep.lean ====
abbrev S8192x4 : Shape := ⟨2, ![8192, 4]⟩
abbrev S32768x4 : Shape := ⟨2, ![32768, 4]⟩
abbrev S32768x3 : Shape := ⟨2, ![32768, 3]⟩
abbrev S8192x3 : Shape := ⟨2, ![8192, 3]⟩
abbrev S10000x3 : Shape := ⟨2, ![10000, 3]⟩
abbrev S32768x1 : Shape := ⟨2, ![32768, 1]⟩
abbrev S32768 : Shape := ⟨1, ![32768]⟩
abbrev S8192x1 : Shape := ⟨2, ![8192, 1]⟩
abbrev S8192 : Shape := ⟨1, ![8192]⟩
abbrev S30000 : Shape := ⟨1, ![30000]⟩
abbrev S1024 : Shape := ⟨1, ![1024]⟩
abbrev S256 : Shape := ⟨1, ![256]⟩
abbrev S_ : Shape := ⟨0, ![]⟩
abbrev S16 : Shape := ⟨1, ![16]⟩

abbrev nBuf : Table → Nat
  | .hbm => 44
  | .local .scVector .vmem => 25
  | _ => 0

abbrev bufTy : (tb : Table) → Fin (nBuf tb) → BufTy
  | .hbm, ⟨0, _⟩ => ⟨S8192x4, .i32⟩
  | .hbm, ⟨1, _⟩ => ⟨S32768x4, .i32⟩
  | .hbm, ⟨2, _⟩ => ⟨S32768x3, .f32⟩
  | .hbm, ⟨3, _⟩ => ⟨S8192x3, .f32⟩
  | .hbm, ⟨4, _⟩ => ⟨S10000x3, .f32⟩
  | .hbm, ⟨5, _⟩ => ⟨S32768x1, .i32⟩
  | .hbm, ⟨6, _⟩ => ⟨S32768, .i32⟩
  | .hbm, ⟨7, _⟩ => ⟨S32768x1, .i32⟩
  | .hbm, ⟨8, _⟩ => ⟨S32768, .i32⟩
  | .hbm, ⟨9, _⟩ => ⟨S32768x1, .i32⟩
  | .hbm, ⟨10, _⟩ => ⟨S32768, .i32⟩
  | .hbm, ⟨11, _⟩ => ⟨S32768x1, .i32⟩
  | .hbm, ⟨12, _⟩ => ⟨S32768, .i32⟩
  | .hbm, ⟨13, _⟩ => ⟨S8192x1, .i32⟩
  | .hbm, ⟨14, _⟩ => ⟨S8192, .i32⟩
  | .hbm, ⟨15, _⟩ => ⟨S8192x1, .i32⟩
  | .hbm, ⟨16, _⟩ => ⟨S8192, .i32⟩
  | .hbm, ⟨17, _⟩ => ⟨S8192x1, .i32⟩
  | .hbm, ⟨18, _⟩ => ⟨S8192, .i32⟩
  | .hbm, ⟨19, _⟩ => ⟨S8192x1, .i32⟩
  | .hbm, ⟨20, _⟩ => ⟨S8192, .i32⟩
  | .hbm, ⟨21, _⟩ => ⟨S32768x1, .f32⟩
  | .hbm, ⟨22, _⟩ => ⟨S32768, .f32⟩
  | .hbm, ⟨23, _⟩ => ⟨S32768x1, .f32⟩
  | .hbm, ⟨24, _⟩ => ⟨S32768, .f32⟩
  | .hbm, ⟨25, _⟩ => ⟨S32768x1, .f32⟩
  | .hbm, ⟨26, _⟩ => ⟨S32768, .f32⟩
  | .hbm, ⟨27, _⟩ => ⟨S8192x1, .f32⟩
  | .hbm, ⟨28, _⟩ => ⟨S8192, .f32⟩
  | .hbm, ⟨29, _⟩ => ⟨S8192x1, .f32⟩
  | .hbm, ⟨30, _⟩ => ⟨S8192, .f32⟩
  | .hbm, ⟨31, _⟩ => ⟨S8192x1, .f32⟩
  | .hbm, ⟨32, _⟩ => ⟨S8192, .f32⟩
  | .hbm, ⟨33, _⟩ => ⟨S30000, .f32⟩
  | .hbm, ⟨34, _⟩ => ⟨S32768, .f32⟩
  | .hbm, ⟨35, _⟩ => ⟨S32768, .f32⟩
  | .hbm, ⟨36, _⟩ => ⟨S32768, .f32⟩
  | .hbm, ⟨37, _⟩ => ⟨S32768, .f32⟩
  | .hbm, ⟨38, _⟩ => ⟨S32768, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S8192, .f32⟩
  | .local .scVector .vmem, ⟨0, _⟩ => ⟨S30000, .f32⟩
  | .local .scVector .vmem, ⟨1, _⟩ => ⟨S1024, .i32⟩
  | .local .scVector .vmem, ⟨2, _⟩ => ⟨S1024, .i32⟩
  | .local .scVector .vmem, ⟨3, _⟩ => ⟨S1024, .i32⟩
  | .local .scVector .vmem, ⟨4, _⟩ => ⟨S1024, .i32⟩
  | .local .scVector .vmem, ⟨5, _⟩ => ⟨S1024, .f32⟩
  | .local .scVector .vmem, ⟨6, _⟩ => ⟨S1024, .f32⟩
  | .local .scVector .vmem, ⟨7, _⟩ => ⟨S1024, .f32⟩
  | .local .scVector .vmem, ⟨8, _⟩ => ⟨S256, .i32⟩
  | .local .scVector .vmem, ⟨9, _⟩ => ⟨S256, .i32⟩
  | .local .scVector .vmem, ⟨10, _⟩ => ⟨S256, .i32⟩
  | .local .scVector .vmem, ⟨11, _⟩ => ⟨S256, .i32⟩
  | .local .scVector .vmem, ⟨12, _⟩ => ⟨S256, .f32⟩
  | .local .scVector .vmem, ⟨13, _⟩ => ⟨S256, .f32⟩
  | .local .scVector .vmem, ⟨14, _⟩ => ⟨S256, .f32⟩
  | .local .scVector .vmem, ⟨15, _⟩ => ⟨S1024, .f32⟩
  | .local .scVector .vmem, ⟨16, _⟩ => ⟨S1024, .f32⟩
  | .local .scVector .vmem, ⟨17, _⟩ => ⟨S1024, .f32⟩
  | .local .scVector .vmem, ⟨18, _⟩ => ⟨S1024, .f32⟩
  | .local .scVector .vmem, ⟨19, _⟩ => ⟨S1024, .f32⟩
  | .local .scVector .vmem, ⟨20, _⟩ => ⟨S256, .f32⟩
  | .local .scVector .vmem, ⟨21, _⟩ => ⟨S256, .f32⟩
  | .local .scVector .vmem, ⟨22, _⟩ => ⟨S256, .f32⟩
  | .local .scVector .vmem, ⟨23, _⟩ => ⟨S256, .f32⟩
  | .local .scVector .vmem, ⟨24, _⟩ => ⟨S256, .f32⟩
  | _, _ => ⟨S8192x4, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29_0 : Ref sig .tc := ⟨.hbm, 34, rfl⟩
abbrev main_v29_1 : Ref sig .tc := ⟨.hbm, 35, rfl⟩
abbrev main_v29_2 : Ref sig .tc := ⟨.hbm, 36, rfl⟩
abbrev main_v29_3 : Ref sig .tc := ⟨.hbm, 37, rfl⟩
abbrev main_v29_4 : Ref sig .tc := ⟨.hbm, 38, rfl⟩
abbrev main_v29_5 : Ref sig .tc := ⟨.hbm, 39, rfl⟩
abbrev main_v29_6 : Ref sig .tc := ⟨.hbm, 40, rfl⟩
abbrev main_v29_7 : Ref sig .tc := ⟨.hbm, 41, rfl⟩
abbrev main_v29_8 : Ref sig .tc := ⟨.hbm, 42, rfl⟩
abbrev main_v29_9 : Ref sig .tc := ⟨.hbm, 43, rfl⟩
abbrev main_v1_scv : Ref sig .scVector := ⟨.hbm, 6, rfl⟩
abbrev main_v3_scv : Ref sig .scVector := ⟨.hbm, 8, rfl⟩
abbrev main_v5_scv : Ref sig .scVector := ⟨.hbm, 10, rfl⟩
abbrev main_v7_scv : Ref sig .scVector := ⟨.hbm, 12, rfl⟩
abbrev main_v17_scv : Ref sig .scVector := ⟨.hbm, 22, rfl⟩
abbrev main_v19_scv : Ref sig .scVector := ⟨.hbm, 24, rfl⟩
abbrev main_v21_scv : Ref sig .scVector := ⟨.hbm, 26, rfl⟩
abbrev main_v9_scv : Ref sig .scVector := ⟨.hbm, 14, rfl⟩
abbrev main_v11_scv : Ref sig .scVector := ⟨.hbm, 16, rfl⟩
abbrev main_v13_scv : Ref sig .scVector := ⟨.hbm, 18, rfl⟩
abbrev main_v15_scv : Ref sig .scVector := ⟨.hbm, 20, rfl⟩
abbrev main_v23_scv : Ref sig .scVector := ⟨.hbm, 28, rfl⟩
abbrev main_v25_scv : Ref sig .scVector := ⟨.hbm, 30, rfl⟩
abbrev main_v27_scv : Ref sig .scVector := ⟨.hbm, 32, rfl⟩
abbrev main_v28_scv : Ref sig .scVector := ⟨.hbm, 33, rfl⟩
abbrev main_v29_0_scv : Ref sig .scVector := ⟨.hbm, 34, rfl⟩
abbrev main_v29_1_scv : Ref sig .scVector := ⟨.hbm, 35, rfl⟩
abbrev main_v29_2_scv : Ref sig .scVector := ⟨.hbm, 36, rfl⟩
abbrev main_v29_3_scv : Ref sig .scVector := ⟨.hbm, 37, rfl⟩
abbrev main_v29_4_scv : Ref sig .scVector := ⟨.hbm, 38, rfl⟩
abbrev main_v29_5_scv : Ref sig .scVector := ⟨.hbm, 39, rfl⟩
abbrev main_v29_6_scv : Ref sig .scVector := ⟨.hbm, 40, rfl⟩
abbrev main_v29_7_scv : Ref sig .scVector := ⟨.hbm, 41, rfl⟩
abbrev main_v29_8_scv : Ref sig .scVector := ⟨.hbm, 42, rfl⟩
abbrev main_v29_9_scv : Ref sig .scVector := ⟨.hbm, 43, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev cc0_scratch15 : Ref sig .scVector := ⟨.vmem, 15, rfl⟩
abbrev cc0_scratch16 : Ref sig .scVector := ⟨.vmem, 16, rfl⟩
abbrev cc0_scratch17 : Ref sig .scVector := ⟨.vmem, 17, rfl⟩
abbrev cc0_scratch18 : Ref sig .scVector := ⟨.vmem, 18, rfl⟩
abbrev cc0_scratch19 : Ref sig .scVector := ⟨.vmem, 19, rfl⟩
abbrev cc0_scratch20 : Ref sig .scVector := ⟨.vmem, 20, rfl⟩
abbrev cc0_scratch21 : Ref sig .scVector := ⟨.vmem, 21, rfl⟩
abbrev cc0_scratch22 : Ref sig .scVector := ⟨.vmem, 22, rfl⟩
abbrev cc0_scratch23 : Ref sig .scVector := ⟨.vmem, 23, rfl⟩
abbrev cc0_scratch24 : Ref sig .scVector := ⟨.vmem, 24, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v3 : BitVec 32 := Scalar.muli v1 c256_i32
  ![v3.toNat]
@[reducible] def k0_t1_loop : Scf.Loop 32 :=
  let c0_i32_12 : BitVec 32 := 0#32
  let c64_i32 : BitVec 32 := 64#32
  let v16 : BitVec 32 := Scalar.addi c0_i32_12 c64_i32
  let c1_i32 : BitVec 32 := 1#32
  ⟨c0_i32_12, v16, c1_i32⟩
def k0_off3 (k0_t1 : Fin k0_t1_loop.trips) : Fin 1 → Nat :=
  let c0_i32_12 : BitVec 32 := 0#32
  let c1_i32 : BitVec 32 := 1#32
  let arg52 : BitVec 32 := Scf.iv c0_i32_12 c1_i32 k0_t1
  let c16_i32_28 : BitVec 32 := 16#32
  let v30 : BitVec 32 := Scalar.muli arg52 c16_i32_28
  let v31 : Index := Scalar.indexCast v30
  ![v31.toNat]

def k0_chk1 (v48 : IVec S16 32) : Prop :=
  (∀ a x, ((![v48] : Fin 1 → IVec S16 32) a x).toNat < S30000.size a)
theorem k0_idx1_inb : ∀ (v48 : IVec S16 32) (k0_hw1 : k0_chk1 v48), ∀ a x, ((![v48] : Fin 1 → IVec S16 32) a x).toNat < S30000.size a := fun v48 k0_hw1 => k0_hw1

def k0_chk2 (v51 : IVec S16 32) : Prop :=
  (∀ a x, ((![v51] : Fin 1 → IVec S16 32) a x).toNat < S30000.size a)
theorem k0_idx2_inb : ∀ (v51 : IVec S16 32) (k0_hw2 : k0_chk2 v51), ∀ a x, ((![v51] : Fin 1 → IVec S16 32) a x).toNat < S30000.size a := fun v51 k0_hw2 => k0_hw2

def k0_chk3 (v54 : IVec S16 32) : Prop :=
  (∀ a x, ((![v54] : Fin 1 → IVec S16 32) a x).toNat < S30000.size a)
theorem k0_idx3_inb : ∀ (v54 : IVec S16 32) (k0_hw3 : k0_chk3 v54), ∀ a x, ((![v54] : Fin 1 → IVec S16 32) a x).toNat < S30000.size a := fun v54 k0_hw3 => k0_hw3

def k0_chk4 (v57 : IVec S16 32) : Prop :=
  (∀ a x, ((![v57] : Fin 1 → IVec S16 32) a x).toNat < S30000.size a)
theorem k0_idx4_inb : ∀ (v57 : IVec S16 32) (k0_hw4 : k0_chk4 v57), ∀ a x, ((![v57] : Fin 1 → IVec S16 32) a x).toNat < S30000.size a := fun v57 k0_hw4 => k0_hw4

def k0_chk5 (v60 : IVec S16 32) : Prop :=
  (∀ a x, ((![v60] : Fin 1 → IVec S16 32) a x).toNat < S30000.size a)
theorem k0_idx5_inb : ∀ (v60 : IVec S16 32) (k0_hw5 : k0_chk5 v60), ∀ a x, ((![v60] : Fin 1 → IVec S16 32) a x).toNat < S30000.size a := fun v60 k0_hw5 => k0_hw5

def k0_chk6 (v63 : IVec S16 32) : Prop :=
  (∀ a x, ((![v63] : Fin 1 → IVec S16 32) a x).toNat < S30000.size a)
theorem k0_idx6_inb : ∀ (v63 : IVec S16 32) (k0_hw6 : k0_chk6 v63), ∀ a x, ((![v63] : Fin 1 → IVec S16 32) a x).toNat < S30000.size a := fun v63 k0_hw6 => k0_hw6

def k0_chk7 (v66 : IVec S16 32) : Prop :=
  (∀ a x, ((![v66] : Fin 1 → IVec S16 32) a x).toNat < S30000.size a)
theorem k0_idx7_inb : ∀ (v66 : IVec S16 32) (k0_hw7 : k0_chk7 v66), ∀ a x, ((![v66] : Fin 1 → IVec S16 32) a x).toNat < S30000.size a := fun v66 k0_hw7 => k0_hw7

def k0_chk8 (v69 : IVec S16 32) : Prop :=
  (∀ a x, ((![v69] : Fin 1 → IVec S16 32) a x).toNat < S30000.size a)
theorem k0_idx8_inb : ∀ (v69 : IVec S16 32) (k0_hw8 : k0_chk8 v69), ∀ a x, ((![v69] : Fin 1 → IVec S16 32) a x).toNat < S30000.size a := fun v69 k0_hw8 => k0_hw8

def k0_chk9 (v72 : IVec S16 32) : Prop :=
  (∀ a x, ((![v72] : Fin 1 → IVec S16 32) a x).toNat < S30000.size a)
theorem k0_idx9_inb : ∀ (v72 : IVec S16 32) (k0_hw9 : k0_chk9 v72), ∀ a x, ((![v72] : Fin 1 → IVec S16 32) a x).toNat < S30000.size a := fun v72 k0_hw9 => k0_hw9

def k0_chk10 (v75 : IVec S16 32) : Prop :=
  (∀ a x, ((![v75] : Fin 1 → IVec S16 32) a x).toNat < S30000.size a)
theorem k0_idx10_inb : ∀ (v75 : IVec S16 32) (k0_hw10 : k0_chk10 v75), ∀ a x, ((![v75] : Fin 1 → IVec S16 32) a x).toNat < S30000.size a := fun v75 k0_hw10 => k0_hw10

def k0_chk11 (v78 : IVec S16 32) : Prop :=
  (∀ a x, ((![v78] : Fin 1 → IVec S16 32) a x).toNat < S30000.size a)
theorem k0_idx11_inb : ∀ (v78 : IVec S16 32) (k0_hw11 : k0_chk11 v78), ∀ a x, ((![v78] : Fin 1 → IVec S16 32) a x).toNat < S30000.size a := fun v78 k0_hw11 => k0_hw11

def k0_chk12 (v81 : IVec S16 32) : Prop :=
  (∀ a x, ((![v81] : Fin 1 → IVec S16 32) a x).toNat < S30000.size a)
theorem k0_idx12_inb : ∀ (v81 : IVec S16 32) (k0_hw12 : k0_chk12 v81), ∀ a x, ((![v81] : Fin 1 → IVec S16 32) a x).toNat < S30000.size a := fun v81 k0_hw12 => k0_hw12
def k0_off4 (k0_t1 : Fin k0_t1_loop.trips) : Fin 1 → Nat :=
  let c0_i32_12 : BitVec 32 := 0#32
  let c1_i32 : BitVec 32 := 1#32
  let arg52 : BitVec 32 := Scf.iv c0_i32_12 c1_i32 k0_t1
  let c16_i32_28 : BitVec 32 := 16#32
  let v30 : BitVec 32 := Scalar.muli arg52 c16_i32_28
  let v88 : Index := Scalar.indexCast v30
  ![v88.toNat]
@[reducible] def k0_t2_loop : Scf.Loop 32 :=
  let c0_i32_15 : BitVec 32 := 0#32
  let c16_i32 : BitVec 32 := 16#32
  let v18 : BitVec 32 := Scalar.addi c0_i32_15 c16_i32
  let c1_i32_16 : BitVec 32 := 1#32
  ⟨c0_i32_15, v18, c1_i32_16⟩
def k0_off5 (k0_t2 : Fin k0_t2_loop.trips) : Fin 1 → Nat :=
  let c0_i32_15 : BitVec 32 := 0#32
  let c1_i32_16 : BitVec 32 := 1#32
  let arg52 : BitVec 32 := Scf.iv c0_i32_15 c1_i32_16 k0_t2
  let c16_i32_28 : BitVec 32 := 16#32
  let v30 : BitVec 32 := Scalar.muli arg52 c16_i32_28
  let v31 : Index := Scalar.indexCast v30
  ![v31.toNat]

def k0_chk13 (v48 : IVec S16 32) : Prop :=
  (∀ a x, ((![v48] : Fin 1 → IVec S16 32) a x).toNat < S30000.size a)
theorem k0_idx13_inb : ∀ (v48 : IVec S16 32) (k0_hw13 : k0_chk13 v48), ∀ a x, ((![v48] : Fin 1 → IVec S16 32) a x).toNat < S30000.size a := fun v48 k0_hw13 => k0_hw13

def k0_chk14 (v51 : IVec S16 32) : Prop :=
  (∀ a x, ((![v51] : Fin 1 → IVec S16 32) a x).toNat < S30000.size a)
theorem k0_idx14_inb : ∀ (v51 : IVec S16 32) (k0_hw14 : k0_chk14 v51), ∀ a x, ((![v51] : Fin 1 → IVec S16 32) a x).toNat < S30000.size a := fun v51 k0_hw14 => k0_hw14

def k0_chk15 (v54 : IVec S16 32) : Prop :=
  (∀ a x, ((![v54] : Fin 1 → IVec S16 32) a x).toNat < S30000.size a)
theorem k0_idx15_inb : ∀ (v54 : IVec S16 32) (k0_hw15 : k0_chk15 v54), ∀ a x, ((![v54] : Fin 1 → IVec S16 32) a x).toNat < S30000.size a := fun v54 k0_hw15 => k0_hw15

def k0_chk16 (v57 : IVec S16 32) : Prop :=
  (∀ a x, ((![v57] : Fin 1 → IVec S16 32) a x).toNat < S30000.size a)
theorem k0_idx16_inb : ∀ (v57 : IVec S16 32) (k0_hw16 : k0_chk16 v57), ∀ a x, ((![v57] : Fin 1 → IVec S16 32) a x).toNat < S30000.size a := fun v57 k0_hw16 => k0_hw16

def k0_chk17 (v60 : IVec S16 32) : Prop :=
  (∀ a x, ((![v60] : Fin 1 → IVec S16 32) a x).toNat < S30000.size a)
theorem k0_idx17_inb : ∀ (v60 : IVec S16 32) (k0_hw17 : k0_chk17 v60), ∀ a x, ((![v60] : Fin 1 → IVec S16 32) a x).toNat < S30000.size a := fun v60 k0_hw17 => k0_hw17

def k0_chk18 (v63 : IVec S16 32) : Prop :=
  (∀ a x, ((![v63] : Fin 1 → IVec S16 32) a x).toNat < S30000.size a)
theorem k0_idx18_inb : ∀ (v63 : IVec S16 32) (k0_hw18 : k0_chk18 v63), ∀ a x, ((![v63] : Fin 1 → IVec S16 32) a x).toNat < S30000.size a := fun v63 k0_hw18 => k0_hw18

def k0_chk19 (v66 : IVec S16 32) : Prop :=
  (∀ a x, ((![v66] : Fin 1 → IVec S16 32) a x).toNat < S30000.size a)
theorem k0_idx19_inb : ∀ (v66 : IVec S16 32) (k0_hw19 : k0_chk19 v66), ∀ a x, ((![v66] : Fin 1 → IVec S16 32) a x).toNat < S30000.size a := fun v66 k0_hw19 => k0_hw19

def k0_chk20 (v69 : IVec S16 32) : Prop :=
  (∀ a x, ((![v69] : Fin 1 → IVec S16 32) a x).toNat < S30000.size a)
theorem k0_idx20_inb : ∀ (v69 : IVec S16 32) (k0_hw20 : k0_chk20 v69), ∀ a x, ((![v69] : Fin 1 → IVec S16 32) a x).toNat < S30000.size a := fun v69 k0_hw20 => k0_hw20

def k0_chk21 (v72 : IVec S16 32) : Prop :=
  (∀ a x, ((![v72] : Fin 1 → IVec S16 32) a x).toNat < S30000.size a)
theorem k0_idx21_inb : ∀ (v72 : IVec S16 32) (k0_hw21 : k0_chk21 v72), ∀ a x, ((![v72] : Fin 1 → IVec S16 32) a x).toNat < S30000.size a := fun v72 k0_hw21 => k0_hw21

def k0_chk22 (v75 : IVec S16 32) : Prop :=
  (∀ a x, ((![v75] : Fin 1 → IVec S16 32) a x).toNat < S30000.size a)
theorem k0_idx22_inb : ∀ (v75 : IVec S16 32) (k0_hw22 : k0_chk22 v75), ∀ a x, ((![v75] : Fin 1 → IVec S16 32) a x).toNat < S30000.size a := fun v75 k0_hw22 => k0_hw22

def k0_chk23 (v78 : IVec S16 32) : Prop :=
  (∀ a x, ((![v78] : Fin 1 → IVec S16 32) a x).toNat < S30000.size a)
theorem k0_idx23_inb : ∀ (v78 : IVec S16 32) (k0_hw23 : k0_chk23 v78), ∀ a x, ((![v78] : Fin 1 → IVec S16 32) a x).toNat < S30000.size a := fun v78 k0_hw23 => k0_hw23

def k0_chk24 (v81 : IVec S16 32) : Prop :=
  (∀ a x, ((![v81] : Fin 1 → IVec S16 32) a x).toNat < S30000.size a)
theorem k0_idx24_inb : ∀ (v81 : IVec S16 32) (k0_hw24 : k0_chk24 v81), ∀ a x, ((![v81] : Fin 1 → IVec S16 32) a x).toNat < S30000.size a := fun v81 k0_hw24 => k0_hw24
def k0_off6 (k0_t2 : Fin k0_t2_loop.trips) : Fin 1 → Nat :=
  let c0_i32_15 : BitVec 32 := 0#32
  let c1_i32_16 : BitVec 32 := 1#32
  let arg52 : BitVec 32 := Scf.iv c0_i32_15 c1_i32_16 k0_t2
  let c16_i32_28 : BitVec 32 := 16#32
  let v30 : BitVec 32 := Scalar.muli arg52 c16_i32_28
  let v88 : Index := Scalar.indexCast v30
  ![v88.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== PrepReferenceIdeal.lean ====
abbrev S8192x4 : Shape := ⟨2, ![8192, 4]⟩
abbrev S32768x4 : Shape := ⟨2, ![32768, 4]⟩
abbrev S32768x3 : Shape := ⟨2, ![32768, 3]⟩
abbrev S8192x3 : Shape := ⟨2, ![8192, 3]⟩
abbrev S10000x3 : Shape := ⟨2, ![10000, 3]⟩
abbrev S_ : Shape := ⟨0, ![]⟩
abbrev S32768x4x1 : Shape := ⟨3, ![32768, 4, 1]⟩
abbrev S32768x4x3 : Shape := ⟨3, ![32768, 4, 3]⟩
abbrev S32768x1x3 : Shape := ⟨3, ![32768, 1, 3]⟩
abbrev S32768 : Shape := ⟨1, ![32768]⟩
abbrev S1x32768 : Shape := ⟨2, ![1, 32768]⟩
abbrev S6x32768 : Shape := ⟨2, ![6, 32768]⟩
abbrev S32768x1 : Shape := ⟨2, ![32768, 1]⟩
abbrev S8192x4x1 : Shape := ⟨3, ![8192, 4, 1]⟩
abbrev S8192x4x3 : Shape := ⟨3, ![8192, 4, 3]⟩
abbrev S8192x1x3 : Shape := ⟨3, ![8192, 1, 3]⟩
abbrev S8192 : Shape := ⟨1, ![8192]⟩
abbrev S1x8192 : Shape := ⟨2, ![1, 8192]⟩
abbrev S6x8192 : Shape := ⟨2, ![6, 8192]⟩
abbrev S8192x1 : Shape := ⟨2, ![8192, 1]⟩

abbrev nBuf : Space → Nat
  | .hbm => 173
  | .vmem => 0
  | .smem => 0
  | _ => 0

abbrev hbmTy0_0 (i : Nat) : BufTy := match i % 128 with
  | 0 => ⟨S8192x4, .i32⟩
  | 1 => ⟨S32768x4, .i32⟩
  | 2 => ⟨S32768x3, .f32⟩
  | 3 => ⟨S8192x3, .f32⟩
  | 4 => ⟨S10000x3, .f32⟩
  | 5 => ⟨S_, .i32⟩
  | 6 => ⟨S32768x4, .i32⟩
  | 7 => ⟨S32768x4, .i1⟩
  | 8 => ⟨S_, .i32⟩
  | 9 => ⟨S32768x4, .i32⟩
  | 10 => ⟨S32768x4, .i32⟩
  | 11 => ⟨S32768x4, .i32⟩
  | 12 => ⟨S32768x4x1, .i32⟩
  | 13 => ⟨S32768x4x3, .f32⟩
  | 14 => ⟨S_, .f32⟩
  | 15 => ⟨S32768x3, .f32⟩
  | 16 => ⟨S_, .f32⟩
  | 17 => ⟨S32768x3, .f32⟩
  | 18 => ⟨S32768x3, .f32⟩
  | 19 => ⟨S32768x3, .f32⟩
  | 20 => ⟨S_, .f32⟩
  | 21 => ⟨S32768x3, .f32⟩
  | 22 => ⟨S32768x3, .f32⟩
  | 23 => ⟨S32768x1x3, .f32⟩
  | 24 => ⟨S32768x3, .f32⟩
  | 25 => ⟨S32768x1x3, .f32⟩
  | 26 => ⟨S32768x3, .f32⟩
  | 27 => ⟨S32768x3, .f32⟩
  | 28 => ⟨S32768x3, .f32⟩
  | 29 => ⟨S_, .f32⟩
  | 30 => ⟨S32768, .f32⟩
  | 31 => ⟨S32768x1x3, .f32⟩
  | 32 => ⟨S32768x3, .f32⟩
  | 33 => ⟨S32768x1x3, .f32⟩
  | 34 => ⟨S32768x3, .f32⟩
  | 35 => ⟨S32768x3, .f32⟩
  | 36 => ⟨S32768x3, .f32⟩
  | 37 => ⟨S_, .f32⟩
  | 38 => ⟨S32768, .f32⟩
  | 39 => ⟨S32768x1x3, .f32⟩
  | 40 => ⟨S32768x3, .f32⟩
  | 41 => ⟨S32768x1x3, .f32⟩
  | 42 => ⟨S32768x3, .f32⟩
  | 43 => ⟨S32768x3, .f32⟩
  | 44 => ⟨S32768x3, .f32⟩
  | 45 => ⟨S_, .f32⟩
  | 46 => ⟨S32768, .f32⟩
  | 47 => ⟨S32768x1x3, .f32⟩
  | 48 => ⟨S32768x3, .f32⟩
  | 49 => ⟨S32768x1x3, .f32⟩
  | 50 => ⟨S32768x3, .f32⟩
  | 51 => ⟨S32768x3, .f32⟩
  | 52 => ⟨S32768x3, .f32⟩
  | 53 => ⟨S_, .f32⟩
  | 54 => ⟨S32768, .f32⟩
  | 55 => ⟨S32768x1x3, .f32⟩
  | 56 => ⟨S32768x3, .f32⟩
  | 57 => ⟨S32768x1x3, .f32⟩
  | 58 => ⟨S32768x3, .f32⟩
  | 59 => ⟨S32768x3, .f32⟩
  | 60 => ⟨S32768x3, .f32⟩
  | 61 => ⟨S_, .f32⟩
  | 62 => ⟨S32768, .f32⟩
  | 63 => ⟨S32768x1x3, .f32⟩
  | 64 => ⟨S32768x3, .f32⟩
  | 65 => ⟨S32768x1x3, .f32⟩
  | 66 => ⟨S32768x3, .f32⟩
  | 67 => ⟨S32768x3, .f32⟩
  | 68 => ⟨S32768x3, .f32⟩
  | 69 => ⟨S_, .f32⟩
  | 70 => ⟨S32768, .f32⟩
  | 71 => ⟨S1x32768, .f32⟩
  | 72 => ⟨S1x32768, .f32⟩
  | 73 => ⟨S1x32768, .f32⟩
  | 74 => ⟨S1x32768, .f32⟩
  | 75 => ⟨S1x32768, .f32⟩
  | 76 => ⟨S1x32768, .f32⟩
  | 77 => ⟨S6x32768, .f32⟩
  | 78 => ⟨S32768x1, .f32⟩
  | 79 => ⟨S32768, .f32⟩
  | 80 => ⟨S32768x1, .f32⟩
  | 81 => ⟨S32768, .f32⟩
  | 82 => ⟨S32768x1, .f32⟩
  | 83 => ⟨S32768, .f32⟩
  | 84 => ⟨S32768x3, .f32⟩
  | 85 => ⟨S_, .f32⟩
  | 86 => ⟨S32768, .f32⟩
  | 87 => ⟨S_, .f32⟩
  | 88 => ⟨S32768, .f32⟩
  | 89 => ⟨S_, .i32⟩
  | 90 => ⟨S8192x4, .i32⟩
  | 91 => ⟨S8192x4, .i1⟩
  | 92 => ⟨S_, .i32⟩
  | 93 => ⟨S8192x4, .i32⟩
  | 94 => ⟨S8192x4, .i32⟩
  | 95 => ⟨S8192x4, .i32⟩
  | 96 => ⟨S8192x4x1, .i32⟩
  | 97 => ⟨S8192x4x3, .f32⟩
  | 98 => ⟨S_, .f32⟩
  | 99 => ⟨S8192x3, .f32⟩
  | 100 => ⟨S_, .f32⟩
  | 101 => ⟨S8192x3, .f32⟩
  | 102 => ⟨S8192x3, .f32⟩
  | 103 => ⟨S8192x3, .f32⟩
  | 104 => ⟨S_, .f32⟩
  | 105 => ⟨S8192x3, .f32⟩
  | 106 => ⟨S8192x3, .f32⟩
  | 107 => ⟨S8192x1x3, .f32⟩
  | 108 => ⟨S8192x3, .f32⟩
  | 109 => ⟨S8192x1x3, .f32⟩
  | 110 => ⟨S8192x3, .f32⟩
  | 111 => ⟨S8192x3, .f32⟩
  | 112 => ⟨S8192x3, .f32⟩
  | 113 => ⟨S_, .f32⟩
  | 114 => ⟨S8192, .f32⟩
  | 115 => ⟨S8192x1x3, .f32⟩
  | 116 => ⟨S8192x3, .f32⟩
  | 117 => ⟨S8192x1x3, .f32⟩
  | 118 => ⟨S8192x3, .f32⟩
  | 119 => ⟨S8192x3, .f32⟩
  | 120 => ⟨S8192x3, .f32⟩
  | 121 => ⟨S_, .f32⟩
  | 122 => ⟨S8192, .f32⟩
  | 123 => ⟨S8192x1x3, .f32⟩
  | 124 => ⟨S8192x3, .f32⟩
  | 125 => ⟨S8192x1x3, .f32⟩
  | 126 => ⟨S8192x3, .f32⟩
  | 127 => ⟨S8192x3, .f32⟩
  | _ => ⟨S8192x4, .i32⟩

abbrev hbmTy0_1 (i : Nat) : BufTy := match i % 128 with
  | 0 => ⟨S8192x3, .f32⟩
  | 1 => ⟨S_, .f32⟩
  | 2 => ⟨S8192, .f32⟩
  | 3 => ⟨S8192x1x3, .f32⟩
  | 4 => ⟨S8192x3, .f32⟩
  | 5 => ⟨S8192x1x3, .f32⟩
  | 6 => ⟨S8192x3, .f32⟩
  | 7 => ⟨S8192x3, .f32⟩
  | 8 => ⟨S8192x3, .f32⟩
  | 9 => ⟨S_, .f32⟩
  | 10 => ⟨S8192, .f32⟩
  | 11 => ⟨S8192x1x3, .f32⟩
  | 12 => ⟨S8192x3, .f32⟩
  | 13 => ⟨S8192x1x3, .f32⟩
  | 14 => ⟨S8192x3, .f32⟩
  | 15 => ⟨S8192x3, .f32⟩
  | 16 => ⟨S8192x3, .f32⟩
  | 17 => ⟨S_, .f32⟩
  | 18 => ⟨S8192, .f32⟩
  | 19 => ⟨S8192x1x3, .f32⟩
  | 20 => ⟨S8192x3, .f32⟩
  | 21 => ⟨S8192x1x3, .f32⟩
  | 22 => ⟨S8192x3, .f32⟩
  | 23 => ⟨S8192x3, .f32⟩
  | 24 => ⟨S8192x3, .f32⟩
  | 25 => ⟨S_, .f32⟩
  | 26 => ⟨S8192, .f32⟩
  | 27 => ⟨S1x8192, .f32⟩
  | 28 => ⟨S1x8192, .f32⟩
  | 29 => ⟨S1x8192, .f32⟩
  | 30 => ⟨S1x8192, .f32⟩
  | 31 => ⟨S1x8192, .f32⟩
  | 32 => ⟨S1x8192, .f32⟩
  | 33 => ⟨S6x8192, .f32⟩
  | 34 => ⟨S8192x1, .f32⟩
  | 35 => ⟨S8192, .f32⟩
  | 36 => ⟨S8192x1, .f32⟩
  | 37 => ⟨S8192, .f32⟩
  | 38 => ⟨S8192x1, .f32⟩
  | 39 => ⟨S8192, .f32⟩
  | 40 => ⟨S8192x3, .f32⟩
  | 41 => ⟨S_, .f32⟩
  | 42 => ⟨S8192, .f32⟩
  | 43 => ⟨S_, .f32⟩
  | 44 => ⟨S8192, .f32⟩
  | _ => ⟨S8192x4, .i32⟩

abbrev hbmTy (i : Nat) : BufTy := match i / 128 with
  | 0 => hbmTy0_0 i
  | 1 => hbmTy0_1 i
  | _ => ⟨S8192x4, .i32⟩

abbrev bufTy : (tb : Table) → Fin (tcTables nBuf tb) → BufTy
  | .hbm, ⟨i, _⟩ => hbmTy i
  | _, _ => ⟨S8192x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_9 : Ref sig .tc := ⟨.hbm, 85, rfl⟩
abbrev main_v69 : Ref sig .tc := ⟨.hbm, 86, rfl⟩
abbrev main_cst_10 : Ref sig .tc := ⟨.hbm, 87, rfl⟩
abbrev main_v70 : Ref sig .tc := ⟨.hbm, 88, rfl⟩
abbrev main_c_11 : Ref sig .tc := ⟨.hbm, 89, rfl⟩
abbrev main_v71 : Ref sig .tc := ⟨.hbm, 90, rfl⟩
abbrev main_v72 : Ref sig .tc := ⟨.hbm, 91, rfl⟩
abbrev main_c_12 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_13 : Ref sig .tc := ⟨.hbm, 98, rfl⟩
abbrev main_v78 : Ref sig .tc := ⟨.hbm, 99, rfl⟩
abbrev main_cst_14 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_15 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_16 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_17 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_cst_18 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_cst_19 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_cst_20 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_cst_21 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_cst_22 : Ref sig .tc := ⟨.hbm, 169, rfl⟩
abbrev main_v140 : Ref sig .tc := ⟨.hbm, 170, rfl⟩
abbrev main_cst_23 : Ref sig .tc := ⟨.hbm, 171, rfl⟩
abbrev main_v141 : Ref sig .tc := ⟨.hbm, 172, rfl⟩

abbrev nD : Nat := 1
abbrev τ : Topo := Topo.v7x

variable {F : FTy → Type} [FloatOps F]
-- ==== Knn.lean ====
abbrev S32768 : Shape := ⟨1, ![32768]⟩
abbrev S8192 : Shape := ⟨1, ![8192]⟩
abbrev S_ : Shape := ⟨0, ![]⟩
abbrev S8x32768 : Shape := ⟨2, ![8, 32768]⟩
abbrev S1 : Shape := ⟨1, ![1]⟩
abbrev S8192x8 : Shape := ⟨2, ![8192, 8]⟩
abbrev S1x32768 : Shape := ⟨2, ![1, 32768]⟩
abbrev S8192x1 : Shape := ⟨2, ![8192, 1]⟩
abbrev S8192x128 : Shape := ⟨2, ![8192, 128]⟩
abbrev S1x8192 : Shape := ⟨2, ![1, 8192]⟩
abbrev S8192x5 : Shape := ⟨2, ![8192, 5]⟩
abbrev S256x8 : Shape := ⟨2, ![256, 8]⟩
abbrev S256x128 : Shape := ⟨2, ![256, 128]⟩
abbrev S1x1024 : Shape := ⟨2, ![1, 1024]⟩
abbrev S1x256 : Shape := ⟨2, ![1, 256]⟩
abbrev S256x5 : Shape := ⟨2, ![256, 5]⟩
abbrev S256x1 : Shape := ⟨2, ![256, 1]⟩
abbrev S8x8192 : Shape := ⟨2, ![8, 8192]⟩
abbrev S256x8192 : Shape := ⟨2, ![256, 8192]⟩
abbrev S256 : Shape := ⟨1, ![256]⟩
abbrev S256x10 : Shape := ⟨2, ![256, 10]⟩

abbrev nBuf : Space → Nat
  | .hbm => 41
  | .vmem => 18
  | .smem => 0
  | _ => 0

abbrev bufTy : (tb : Table) → Fin (tcTables nBuf tb) → BufTy
  | .hbm, ⟨0, _⟩ => ⟨S32768, .f32⟩
  | .hbm, ⟨1, _⟩ => ⟨S32768, .f32⟩
  | .hbm, ⟨2, _⟩ => ⟨S32768, .f32⟩
  | .hbm, ⟨3, _⟩ => ⟨S32768, .f32⟩
  | .hbm, ⟨4, _⟩ => ⟨S32768, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S8x32768, .f32⟩
  | .hbm, ⟨12, _⟩ => ⟨S_, .i32⟩
  | .hbm, ⟨13, _⟩ => ⟨S1, .i32⟩
  | .hbm, ⟨14, _⟩ => ⟨S8x32768, .f32⟩
  | .hbm, ⟨15, _⟩ => ⟨S_, .i32⟩
  | .hbm, ⟨16, _⟩ => ⟨S1, .i32⟩
  | .hbm, ⟨17, _⟩ => ⟨S8x32768, .f32⟩
  | .hbm, ⟨18, _⟩ => ⟨S_, .i32⟩
  | .hbm, ⟨19, _⟩ => ⟨S1, .i32⟩
  | .hbm, ⟨20, _⟩ => ⟨S8x32768, .f32⟩
  | .hbm, ⟨21, _⟩ => ⟨S_, .f32⟩
  | .hbm, ⟨22, _⟩ => ⟨S8192x8, .f32⟩
  | .hbm, ⟨23, _⟩ => ⟨S_, .i32⟩
  | .hbm, ⟨24, _⟩ => ⟨S1, .i32⟩
  | .hbm, ⟨25, _⟩ => ⟨S8192x8, .f32⟩
  | .hbm, ⟨26, _⟩ => ⟨S_, .i32⟩
  | .hbm, ⟨27, _⟩ => ⟨S1, .i32⟩
  | .hbm, ⟨28, _⟩ => ⟨S8192x8, .f32⟩
  | .hbm, ⟨29, _⟩ => ⟨S_, .i32⟩
  | .hbm, ⟨30, _⟩ => ⟨S1, .i32⟩
  | .hbm, ⟨31, _⟩ => ⟨S8192x8, .f32⟩
  | .hbm, ⟨32, _⟩ => ⟨S1x32768, .f32⟩
  | .hbm, ⟨33, _⟩ => ⟨S8192x1, .f32⟩
  | .hbm, ⟨34, _⟩ => ⟨S8192x128, .f32⟩
  | .hbm, ⟨35, _⟩ => ⟨S1x32768, .f32⟩
  | .hbm, ⟨36, _⟩ => ⟨S1x8192, .f32⟩
  | .hbm, ⟨37, _⟩ => ⟨S8192x5, .i32⟩
  | .hbm, ⟨38, _⟩ => ⟨S8192x5, .f32⟩
  | .hbm, ⟨39, _⟩ => ⟨S1x32768, .f32⟩
  | .hbm, ⟨40, _⟩ => ⟨S1x8192, .f32⟩
  | .local _ .vmem, ⟨0, _⟩ => ⟨S256x8, .f32⟩
  | .local _ .vmem, ⟨1, _⟩ => ⟨S256x8, .f32⟩
  | .local _ .vmem, ⟨2, _⟩ => ⟨S8x32768, .f32⟩
  | .local _ .vmem, ⟨3, _⟩ => ⟨S1x32768, .f32⟩
  | .local _ .vmem, ⟨4, _⟩ => ⟨S256x128, .f32⟩
  | .local _ .vmem, ⟨5, _⟩ => ⟨S256x128, .f32⟩
  | .local _ .vmem, ⟨6, _⟩ => ⟨S1x1024, .f32⟩
  | .local _ .vmem, ⟨7, _⟩ => ⟨S1x1024, .f32⟩
  | .local _ .vmem, ⟨8, _⟩ => ⟨S1x256, .f32⟩
  | .local _ .vmem, ⟨9, _⟩ => ⟨S1x256, .f32⟩
  | .local _ .vmem, ⟨10, _⟩ => ⟨S256x5, .i32⟩
  | .local _ .vmem, ⟨11, _⟩ => ⟨S256x5, .i32⟩
  | .local _ .vmem, ⟨12, _⟩ => ⟨S256x5, .f32⟩
  | .local _ .vmem, ⟨13, _⟩ => ⟨S256x5, .f32⟩
  | .local _ .vmem, ⟨14, _⟩ => ⟨S1x1024, .f32⟩
  | .local _ .vmem, ⟨15, _⟩ => ⟨S1x1024, .f32⟩
  | .local _ .vmem, ⟨16, _⟩ => ⟨S1x256, .f32⟩
  | .local _ .vmem, ⟨17, _⟩ => ⟨S1x256, .f32⟩
  | _, _ => ⟨S32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_c_3 : Ref sig .tc := ⟨.hbm, 23, rfl⟩
abbrev main_v8 : Ref sig .tc := ⟨.hbm, 24, rfl⟩
abbrev main_v9 : Ref sig .tc := ⟨.hbm, 25, rfl⟩
abbrev main_c_4 : Ref sig .tc := ⟨.hbm, 26, rfl⟩
abbrev main_v10 : Ref sig .tc := ⟨.hbm, 27, rfl⟩
abbrev main_v11 : Ref sig .tc := ⟨.hbm, 28, rfl⟩
abbrev main_c_5 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19_0 : Ref sig .tc := ⟨.hbm, 37, rfl⟩
abbrev main_v19_1 : Ref sig .tc := ⟨.hbm, 38, rfl⟩
abbrev main_v19_2 : Ref sig .tc := ⟨.hbm, 39, rfl⟩
abbrev main_v19_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v8 : BitVec 32 := Scalar.addi c0_i32 c4_i32
  let c1_i32 : BitVec 32 := 1#32
  ⟨c0_i32, v8, c1_i32⟩
def k0_off1 (k0_t1 : Fin k0_t1_loop.trips) : Fin 2 → Nat :=
  let c0_22 : Index := 0#32
  let c0_i32 : BitVec 32 := 0#32
  let c1_i32 : BitVec 32 := 1#32
  let arg11 : BitVec 32 := Scf.iv c0_i32 c1_i32 k0_t1
  let c8192_i32 : BitVec 32 := 8192#32
  let v38 : BitVec 32 := Scalar.muli arg11 c8192_i32
  let v39 : Index := Scalar.indexCast v38
  ![0, v39.toNat]
def k0_off2 (k0_t1 : Fin k0_t1_loop.trips) : Fin 2 → Nat :=
  let c0_25 : Index := 0#32
  let c0_i32 : BitVec 32 := 0#32
  let c1_i32 : BitVec 32 := 1#32
  let arg11 : BitVec 32 := Scf.iv c0_i32 c1_i32 k0_t1
  let c8192_i32_24 : BitVec 32 := 8192#32
  let v44 : BitVec 32 := Scalar.muli arg11 c8192_i32_24
  let v45 : Index := Scalar.indexCast v44
  ![0, v45.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KnnReferenceIdeal.lean ====
abbrev S32768 : Shape := ⟨1, ![32768]⟩
abbrev S8192 : Shape := ⟨1, ![8192]⟩
abbrev S32768x1 : Shape := ⟨2, ![32768, 1]⟩
abbrev S32768x3 : Shape := ⟨2, ![32768, 3]⟩
abbrev S8192x1 : Shape := ⟨2, ![8192, 1]⟩
abbrev S8192x3 : Shape := ⟨2, ![8192, 3]⟩
abbrev S1x32768 : Shape := ⟨2, ![1, 32768]⟩
abbrev S8192x32768 : Shape := ⟨2, ![8192, 32768]⟩
abbrev S3x32768 : Shape := ⟨2, ![3, 32768]⟩
abbrev S_ : Shape := ⟨0, ![]⟩
abbrev S8192x5 : Shape := ⟨2, ![8192, 5]⟩
abbrev S1x8192 : Shape := ⟨2, ![1, 8192]⟩

abbrev nBuf : Space → Nat
  | .hbm => 62
  | .vmem => 0
  | .smem => 0
  | _ => 0

abbrev bufTy : (tb : Table) → Fin (tcTables nBuf tb) → BufTy
  | .hbm, ⟨0, _⟩ => ⟨S32768, .f32⟩
  | .hbm, ⟨1, _⟩ => ⟨S32768, .f32⟩
  | .hbm, ⟨2, _⟩ => ⟨S32768, .f32⟩
  | .hbm, ⟨3, _⟩ => ⟨S32768, .f32⟩
  | .hbm, ⟨4, _⟩ => ⟨S32768, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x3, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x3, .f32⟩
  | .hbm, ⟨18, _⟩ => ⟨S8192x1, .f32⟩
  | .hbm, ⟨19, _⟩ => ⟨S1x32768, .f32⟩
  | .hbm, ⟨20, _⟩ => ⟨S8192x32768, .f32⟩
  | .hbm, ⟨21, _⟩ => ⟨S8192x32768, .f32⟩
  | .hbm, ⟨22, _⟩ => ⟨S8192x32768, .f32⟩
  | .hbm, ⟨23, _⟩ => ⟨S3x32768, .f32⟩
  | .hbm, ⟨24, _⟩ => ⟨S8192x32768, .f32⟩
  | .hbm, ⟨25, _⟩ => ⟨S_, .f32⟩
  | .hbm, ⟨26, _⟩ => ⟨S8192x32768, .f32⟩
  | .hbm, ⟨27, _⟩ => ⟨S8192x32768, .f32⟩
  | .hbm, ⟨28, _⟩ => ⟨S8192x32768, .f32⟩
  | .hbm, ⟨29, _⟩ => ⟨S8192x32768, .f32⟩
  | .hbm, ⟨30, _⟩ => ⟨S8192x5, .f32⟩
  | .hbm, ⟨31, _⟩ => ⟨S8192x5, .i32⟩
  | .hbm, ⟨32, _⟩ => ⟨S8192x5, .f32⟩
  | .hbm, ⟨33, _⟩ => ⟨S_, .f32⟩
  | .hbm, ⟨34, _⟩ => ⟨S8192x5, .f32⟩
  | .hbm, ⟨35, _⟩ => ⟨S8192x5, .f32⟩
  | .hbm, ⟨36, _⟩ => ⟨S8192x5, .f32⟩
  | .hbm, ⟨37, _⟩ => ⟨S8192x5, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1, .f32⟩
  | .hbm, ⟨44, _⟩ => ⟨S8192x5, .f32⟩
  | .hbm, ⟨45, _⟩ => ⟨S8192x5, .f32⟩
  | .hbm, ⟨46, _⟩ => ⟨S8192x5, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x5, .f32⟩
  | .hbm, ⟨51, _⟩ => ⟨S8192x5, .f32⟩
  | .hbm, ⟨52, _⟩ => ⟨S_, .f32⟩
  | .hbm, ⟨53, _⟩ => ⟨S32768, .f32⟩
  | .hbm, ⟨54, _⟩ => ⟨S32768, .f32⟩
  | .hbm, ⟨55, _⟩ => ⟨S32768, .f32⟩
  | .hbm, ⟨56, _⟩ => ⟨S1x32768, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S1x8192, .f32⟩
  | _, _ => ⟨S32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_values : Ref sig .tc := ⟨.hbm, 30, rfl⟩
abbrev main_indices : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Proof.Parts.lean ====
/-
  Facts about separating conjunctions and tile-owned storage that every SparseCore call of this certificate uses:
  taking a list of members out of a conjunction over a finite set, and so a tile's named scratch buffers and
  semaphores out of all the storage it owns; dealing an array out as read shares and taking the shares back.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Frame
public import Idealize.ShloMosaic.Lib.Tactic
public import Idealize.ShloMosaic.Lib.Transfers
public import Idealize.ShloMosaic.Lib.Writes

@[expose] public section

noncomputable section

namespace Cert.Proof.Parts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

section Take

variable {M : Type} [URA M] {I : Type} [DecidableEq I]

/-- A conjunction over a finite set is the members of a list of distinct elements of it, in order, and the rest. -/
theorem bigSep_take (l : List I) (Φ : I → sProp M) : ∀ (s : Finset I), l.Nodup → (∀ i ∈ l, i ∈ s) →
    bigSep s Φ = l.foldr (fun i acc => iprop(Φ i ∗ acc)) (bigSep (s \ l.toFinset) Φ) := by
  induction l with
  | nil => intro s _ _; simp
  | cons a l ih =>
    intro s hnd hl
    obtain ⟨ha, hnd'⟩ := List.nodup_cons.mp hnd
    rw [SparseCore.bigSep_erase' (hl a (List.mem_cons_self ..)), List.foldr_cons,
      ih (s.erase a) hnd' fun i hi => Finset.mem_erase.mpr ⟨fun e => ha (e ▸ hi), hl i (List.mem_cons_of_mem _ hi)⟩,
      show s.erase a \ l.toFinset = s \ (a :: l).toFinset by
        ext x; simp only [Finset.mem_sdiff, Finset.mem_erase, List.toFinset_cons, Finset.mem_insert, List.mem_toFinset]; tauto]

omit [DecidableEq I] in
/-- A conjunction of nothings is nothing. -/
theorem bigSep_none (s : Finset I) : (bigSep s fun _ => (iprop(emp) : sProp M)) = iprop(emp) := bigSep_emp_const s

end Take

section Words

/-- What a range precondition says of one index word: both comparisons, signed, hold, so that the word read unsigned is
    below the bound. -/
theorem word_lt {n : ℕ} (hn : n < 2 ^ 31) (w : BitVec 32)
    (h : IntOp.andi (IntOp.cmpi .sge w 0#32) (IntOp.cmpi .slt w (BitVec.ofNat 32 n)) = 1#1) : w.toNat < n := by
  have hb : ∀ a b : Bool, BitVec.ofBool a &&& BitVec.ofBool b = 1#1 → a = true ∧ b = true := by decide
  obtain ⟨h0, h1⟩ := hb _ _ h
  have e0 : (0#32).toInt ≤ w.toInt := by simpa [BitVec.sle_eq_decide] using h0
  have e1 : w.toInt < (BitVec.ofNat 32 n).toInt := by simpa [BitVec.slt_eq_decide] using h1
  have := w.isLt
  simp only [BitVec.toInt_eq_toNat_cond, BitVec.toNat_ofNat] at e0 e1
  omega

end Words

section Row

variable {sig : RefSig} {κ : Kind} {sp : Space} {n : Nat} {e : EltTy} {Val : EltTy → Type}

/-- A store of one contiguous row at `o` into a buffer of one dimension that already agrees with `G` below `o`: where the
    row agrees with `G` too, the buffer agrees with `G` up to the row's end. -/
theorem row_stored {dm : Fin 1 → ℕ} (v : View sig κ sp (⟨1, dm⟩ : Shape) e) (f : v.ty.Contents Val) (off size : Fin 1 → ℕ)
    (inb : ∀ a : Fin 1, off a + size a ≤ dm a)
    (w : (Rect.unit (s := ⟨1, dm⟩) off size inb).shape.Idx → Val e) (G : (⟨1, dm⟩ : Shape).Idx → Val e) {o m : ℕ} (ho : off = ![o]) (hm : size 0 = m)
    (hw : ∀ y, w y = G ((Rect.unit (s := ⟨1, dm⟩) off size inb).emb y)) (x : (⟨1, dm⟩ : Shape).Idx) (hx : (x 0).val < o + m)
    (hf : (x 0).val < o → v.read Val f x = G x) :
    v.read Val (v.writes Val f [⟨Rect.unit (s := ⟨1, dm⟩) off size inb, w⟩]) x = G x := by
  subst ho hm
  by_cases h : o ≤ (x 0).val
  · refine View.read_writes_apply_of_pieces v f G _ (fun p hp => ?_) x ⟨_, List.mem_singleton_self _, ?_⟩
    · obtain rfl := List.mem_singleton.mp hp; exact hw
    · refine (Rect.mem_set_unit (inb := inb)).mpr fun a => ?_
      obtain rfl : a = 0 := Subsingleton.elim _ _
      exact ⟨h, hx⟩
  · rw [View.read_writes_cons_miss_of_axis v f _ _ x 0 o (size 0) rfl rfl rfl (Or.inl (by omega))]
    exact hf (by omega)

/-- A view written whole with what it reads of `g` agrees with `g` on its elements. -/
theorem cut_written {s : Shape} (v : View sig κ sp s e) (f : v.ty.Contents Val) (w : s.Idx → Val e) (g : v.ty.Contents Val)
    (hw : ∀ x, w x = v.read Val g x) : ∀ y ∈ v.set, v.writes Val f [⟨Rect.whole s, w⟩] y = g y := by
  intro y hy
  obtain ⟨x, -, rfl⟩ := Finset.mem_map.mp hy
  have h := (View.read_writes_cons_hit v f (Rect.whole s) w [] x x (Rect.emb_whole_apply _ x)).trans (hw x)
  rw [View.read_apply, View.read_apply] at h
  exact cast_inj _ |>.mp h

/-- An indexed load at one lane, the element named by its coordinates. -/
theorem loadIdx_eq {F : FTy → Type} {s t : Shape} {e : EltTy} {f : Vec F s e} {idxs : Fin s.rank → IVec t 32}
    {h : ∀ a x, (idxs a x).toNat < s.size a} {x : t.Idx} (i : s.Idx) (hi : ∀ a, (i a).val = (idxs a x).toNat) : loadIdx f idxs h x = f i :=
  congrArg f (funext fun a => Fin.ext (hi a).symm)

end Row

section Tile

variable {nD : Nat} {τ : Topo} {sig : RefSig} {Val : EltTy → Type} {Ix : Type} [DecidableEq Ix] {U : Type} [URA U]

local notation "𝕄" => MT nD τ sig Ix Val ℕ U ℕ

/-- A tile's named scratch buffers, each whole at some contents, taken out of the storage the tile owns. -/
theorem ownBufs_take (d : Dev nD) (c : Fin τ.nSC) (i : Fin τ.nSub) (l : List (Ref sig .scVector)) (hnd : l.Nodup)
    (hl : ∀ b ∈ l, ((Proc.scVector c i).devRef b : DevRef τ sig).owner = .proc (Proc.scVector c i)) :
    (ownBufs (V d c i) : sProp 𝕄)
      = l.foldr (fun b acc => iprop((∃ f, (V d c i).loc b ↦{fullShare} f) ∗ acc))
          (bigSep (ownRefs (τ := τ) (sig := sig) (.scVector c i) \ (l.map fun b => (Proc.scVector c i).devRef b).toFinset)
            fun b => iprop(∃ f, ((d, b) : Loc nD τ sig) ↦{fullShare} f)) := by
  unfold SparseCore.Cfg.ownBufs
  refine (bigSep_take (l.map fun b => (Proc.scVector c i).devRef b) _ _ (hnd.map (Proc.devRef_injective _)) ?_).trans ?_
  · intro b hb
    obtain ⟨r, hr, rfl⟩ := List.mem_map.mp hb
    exact SparseCore.Cfg.mem_ownRefs_of_owner (hl r hr)
  · rw [List.foldr_map]

/-- The same, each buffer at the view a kernel's memref of it has. -/
theorem ownBufs_views (d : Dev nD) (c : Fin τ.nSC) (i : Fin τ.nSub) (l : List (Ref sig .scVector)) (hnd : l.Nodup)
    (hl : ∀ b ∈ l, ((Proc.scVector c i).devRef b : DevRef τ sig).owner = .proc (Proc.scVector c i)) :
    (ownBufs (V d c i) : sProp 𝕄)
      = l.foldr (fun b acc => iprop((∃ f, (Memref.whole b).view.loc (V d c i) ↦{fullShare} f) ∗ acc))
          (bigSep (ownRefs (τ := τ) (sig := sig) (.scVector c i) \ (l.map fun b => (Proc.scVector c i).devRef b).toFinset)
            fun b => iprop(∃ f, ((d, b) : Loc nD τ sig) ↦{fullShare} f)) :=
  ownBufs_take d c i l hnd hl

/-- A scratch buffer a copy filled whole. -/
theorem fetched {κ : Kind} {thr : Thread nD τ} (b : Ref sig thr.2.kind) {q : PosShare TreeShare} {f w g : b.ty.Contents Val} (h : w = g) :
    ((Memref.whole b).view.loc thr ↦{q} View.write Val (Memref.whole b).view f w Finset.univ : sProp 𝕄) ⊢ ((Memref.whole b).view.loc thr ↦{q} g) :=
  Entails.of_eq (congrArg _ ((View.write_whole_univ _ _ _).trans h))

/-- A piece of an array a copy filled, where what was copied is what the piece reads of `g`. -/
theorem sent {thr : Thread nD τ} {sp : Space} {s : Shape} {e : EltTy} (v : View sig thr.2.kind sp s e) {f : v.ty.Contents Val} {w : s.Idx → Val e} (g : v.ty.Contents Val)
    (hw : ∀ x, w x = v.read Val g x) : (v.loc thr ↦[v.set]{fullShare} v.writes Val f [⟨Rect.whole s, w⟩] : sProp 𝕄) ⊢ (v.loc thr ↦[v.set]{fullShare} g) :=
  Entails.of_eq (pointsTo_congr (cut_written v f w g hw))

/-- A tile's named semaphores, each at zero, taken out of those the tile owns. -/
theorem ownSems_take (d : Dev nD) (c : Fin τ.nSC) (i : Fin τ.nSub) (l : List (SemLoc sig)) (hnd : l.Nodup)
    (hl : ∀ sm ∈ l, sm.isScoped .scVector = true) :
    (ownSems0 (V d c i) : sProp 𝕄)
      = l.foldr (fun sm acc => iprop(semVal (V d c i, sm) 0 ∗ acc))
          (bigSep (ownCells (V d c i) \ (l.map fun sm => ((V d c i, sm) : GSem nD τ sig)).toFinset) fun g => semVal g 0) := by
  unfold SparseCore.Cfg.ownSems0
  refine (bigSep_take (l.map fun sm => ((V d c i, sm) : GSem nD τ sig)) _ _ (hnd.map fun _ _ e => (Prod.mk.inj e).2) ?_).trans ?_
  · intro g hg
    obtain ⟨sm, hs, rfl⟩ := List.mem_map.mp hg
    exact mem_ownCells.mpr ⟨rfl, hl sm hs⟩
  · rw [List.foldr_map]

/-! ### An array dealt to the thirty-two tiles -/

/-- The read share of tile `(c, i)`, and what is left of the whole when every tile has its own. -/
def tileShare (c : Fin 2) (i : Fin 16) : PosShare TreeShare := Transfers.shareTok fullShare 32 (finProdFinEquiv (c, i))
def restShare : PosShare TreeShare := Transfers.shareDrop fullShare 32

/-- A whole array is a read share for each tile and a rest. -/
theorem share_tiles (ℓ : Loc nD τ sig) (f : Buf Val ℓ) :
    (ℓ ↦{fullShare} f : sProp 𝕄)
      ⊣⊢ iprop((ℓ ↦{restShare} f) ∗ bigSep Finset.univ fun c : Fin 2 => bigSep Finset.univ fun i : Fin 16 => ℓ ↦{tileShare c i} f) := by
  have h := Transfers.pointsTo_toks (Val := Val) (Ix := Ix) (Name := ℕ) (U := U) (Lvl := ℕ) (ℓ := ℓ) (S := Finset.univ) (f := f) fullShare 32
  rw [bigSep_univ_equiv (finProdFinEquiv (m := 2) (n := 16)), bigSep_univ_prod] at h
  exact h

/-- A whole array is one piece for each tile, the pieces disjoint and covering it. -/
theorem cut_tiles (ℓ : Loc nD τ sig) (f : Buf Val ℓ) (sets : Fin 2 → Fin 16 → Finset (Idx ℓ))
    (hd : ∀ c i c' i', (c, i) ≠ (c', i') → Disjoint (sets c i) (sets c' i')) (hc : ∀ x, ∃ c i, x ∈ sets c i) :
    (ℓ ↦{fullShare} f : sProp 𝕄) = bigSep Finset.univ fun c : Fin 2 => bigSep Finset.univ fun i : Fin 16 => ℓ ↦[sets c i]{fullShare} f := by
  have h := pointsTo_biUnion (Val := Val) (Ix := Ix) (Name := ℕ) (U := U) (Lvl := ℕ) (ℓ := ℓ) (q := fullShare) (f := f) (Finset.univ : Finset (Fin 2 × Fin 16))
    (fun p => sets p.1 p.2) fun p _ p' _ hne => hd p.1 p.2 p'.1 p'.2 hne
  rw [bigSep_univ_prod] at h
  rw [← h]
  congr 1
  exact (Finset.eq_univ_iff_forall.mpr fun x => by
    obtain ⟨c, i, hx⟩ := hc x
    exact Finset.mem_biUnion.mpr ⟨(c, i), Finset.mem_univ _, hx⟩).symm

/-- Two families of pieces, tile by tile. -/
theorem tiles_sep (Φ Ψ : Fin 2 → Fin 16 → sProp 𝕄) :
    (bigSep Finset.univ fun c : Fin 2 => bigSep Finset.univ fun i : Fin 16 => iprop(Φ c i ∗ Ψ c i))
      = iprop((bigSep Finset.univ fun c : Fin 2 => bigSep Finset.univ fun i : Fin 16 => Φ c i)
        ∗ bigSep Finset.univ fun c : Fin 2 => bigSep Finset.univ fun i : Fin 16 => Ψ c i) := by
  rw [← bigSep_sep']
  exact bigSep_congr fun c _ => bigSep_sep' _ _ _

end Tile

section Cut

variable {sig : RefSig} {κ : Kind} {sp : Space} {e : EltTy}

/-- The elements of a contiguous piece of an array of one dimension. -/
theorem mem_cut {dm : Fin 1 → ℕ} (off size : Fin 1 → ℕ) (inb : ∀ a : Fin 1, off a + size a ≤ dm a) (x : (⟨1, dm⟩ : Shape).Idx) :
    x ∈ (Rect.unit (s := ⟨1, dm⟩) off size inb).set ↔ off 0 ≤ (x 0).val ∧ (x 0).val < off 0 + size 0 := by
  refine (Rect.mem_set_unit (inb := inb)).trans ⟨fun h => h 0, fun h a => ?_⟩
  obtain rfl : a = 0 := Subsingleton.elim _ _
  exact h

end Cut

end Cert.Proof.Parts

end
-- ==== Proof.DensTile.lean ====
/-
  One tile of the density call: it fetches the whole table of old edge lengths, its 1280 candidate indices and its 1280
  new edge lengths, gathers the table at the candidates sixteen at a time, and copies the quotients out to its slice of
  the result. `tile_body` runs it from the arrays' contents and names what the slice holds afterwards (`densV`).
-/
module

public import proofs.«01_k».proof.Defs
public import proofs.«01_k».proof.Proof.Parts
public import proofs.«01_k».proof.Proof.Gen.DensIdeal
public import proofs.«01_k».proof.Proof.Gen.DensIdeal.Skeleton

@[expose] public section

noncomputable section

namespace Cert.Proof.Dens

open Cert.DensIdeal Cert.DensIdeal.Gen Cert.Proof.Parts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev omLoc (d : Dev nD) : Loc nD τ sig := (SparseCore.T d).loc main_v2
abbrev caLoc (d : Dev nD) : Loc nD τ sig := (SparseCore.T d).loc main_v3
abbrev nmLoc (d : Dev nD) : Loc nD τ sig := (SparseCore.T d).loc main_v4
abbrev deLoc (d : Dev nD) : Loc nD τ sig := (SparseCore.T d).loc main_v5

-- the kernel's memrefs, spelt as the body table passes them
local notation "omW" => (Memref.whole Cert.DensIdeal.main_v2_scv : Memref Cert.DensIdeal.sig Kind.scVector Space.hbm Cert.DensIdeal.S32768 EltTy.f32)
local notation "caW" => (Memref.whole Cert.DensIdeal.main_v3_scv : Memref Cert.DensIdeal.sig Kind.scVector Space.hbm Cert.DensIdeal.S40960 EltTy.i32)
local notation "nmW" => (Memref.whole Cert.DensIdeal.main_v4_scv : Memref Cert.DensIdeal.sig Kind.scVector Space.hbm Cert.DensIdeal.S40960 EltTy.f32)
local notation "deW" => (Memref.whole Cert.DensIdeal.main_v5_scv : Memref Cert.DensIdeal.sig Kind.scVector Space.hbm Cert.DensIdeal.S40960 EltTy.f32)
local notation "melS" => (Memref.whole Cert.DensIdeal.cc0_scratch0 : Memref Cert.DensIdeal.sig Kind.scVector Space.vmem Cert.DensIdeal.S32768 EltTy.f32)
local notation "idxS" => (Memref.whole Cert.DensIdeal.cc0_scratch1 : Memref Cert.DensIdeal.sig Kind.scVector Space.vmem Cert.DensIdeal.S1280 EltTy.i32)
local notation "nmS" => (Memref.whole Cert.DensIdeal.cc0_scratch2 : Memref Cert.DensIdeal.sig Kind.scVector Space.vmem Cert.DensIdeal.S1280 EltTy.f32)
local notation "outS" => (Memref.whole Cert.DensIdeal.cc0_scratch3 : Memref Cert.DensIdeal.sig Kind.scVector Space.vmem Cert.DensIdeal.S1280 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0

abbrev sliceR (L : grid0.Coords) : Rect S40960 := Rect.unit (s := S40960) (k0_off1 L) S1280.size (k0_off1_inb L)
abbrev deSl (L : grid0.Coords) : Memref sig .scVector .hbm S1280 .f32 := (deW).slice (sliceR L) (fun _ => rfl)

/-- The word `w` as an element of the table of edge lengths (its first component at `w`, where `w` is in range). -/
def tabIx (w : BitVec 32) : S32768.Idx := fun a => ⟨w.toNat % S32768.size a, Nat.mod_lt _ (by fin_cases a; decide)⟩

/-- What the call computes: at each candidate, the new edge length over the gathered old one plus `1e-8`. -/
def densV (fo : S32768.Idx → Elt F .f32) (fc : S40960.Idx → Elt F .i32) (fn : S40960.Idx → Elt F .f32) : S40960.Idx → Elt F .f32 :=
  fun j => FloatOps.divf (fn j) (FloatOps.addf (fo (tabIx (fc j))) (Scalar.ofBits .f32 0x322BCC77#32))

/-- Before trip `k` the first `16 k` entries of the tile's result are in the result scratch. -/
def inv (fo : Buf (Elt F) (omLoc d)) (fc : Buf (Elt F) (caLoc d)) (fn : Buf (Elt F) (nmLoc d)) (k : Nat) (_ : BitVec 32) : sProp 𝕄 :=
  iprop(((melS).view.loc (V d (cV L) (jV L)) ↦{fullShare} fo)
    ∗ ((idxS).view.loc (V d (cV L) (jV L)) ↦{fullShare} fun x : S1280.Idx => fc ((deSl L).view.emb x))
    ∗ ((nmS).view.loc (V d (cV L) (jV L)) ↦{fullShare} fun x : S1280.Idx => fn ((deSl L).view.emb x))
    ∗ ∃ f, ⌜∀ x : S1280.Idx, (x 0).val < 16 * k → f x = densV fo fc fn ((deSl L).view.emb x)⌝
        ∗ (outS).view.loc (V d (cV L) (jV L)) ↦{fullShare} f)

omit [FloatOps F] in
theorem chk_of (fc : Buf (Elt F) (caLoc d)) (hc : ∀ j : S40960.Idx, (fc j : BitVec 32).toNat < 32768) (k : Fin k0_t1_loop.trips) :
    k0_chk1 (View.readAt (Elt F) (idxS).view (Rect.unit (s := S1280) (k0_off2 k) S16.size (k0_off2_inb k)).toLoadRect fun x : S1280.Idx => fc ((deSl L).view.emb x)) := by
  intro a x
  obtain rfl : a = 0 := Subsingleton.elim _ _
  exact hc _

/-- The trip's store: the quotients at entries `16 k …` join those already in the result scratch. -/
theorem stored (fo : Buf (Elt F) (omLoc d)) (fc : Buf (Elt F) (caLoc d)) (fn : Buf (Elt F) (nmLoc d))
    (hc : ∀ j : S40960.Idx, (fc j : BitVec 32).toNat < 32768) (k : Fin k0_t1_loop.trips) (f : S1280.Idx → Elt F .f32)
    (hf : ∀ x : S1280.Idx, (x 0).val < 16 * k.val → f x = densV fo fc fn ((deSl L).view.emb x)) (x : S1280.Idx)
    (hx : (x 0).val < 16 * (k.val + 1)) :
    (outS).view.writes (Elt F) f
      [⟨Rect.unit (s := S1280) (k0_off3 k) S16.size (k0_off3_inb k),
        k0_pay1 (loadIdx (View.read (Elt F) ((melS).access (Rect.whole cc0_scratch0.ty.shape)) fo)
          ![View.readAt (Elt F) (idxS).view (Rect.unit (s := S1280) (k0_off2 k) S16.size (k0_off2_inb k)).toLoadRect fun x : S1280.Idx => fc ((deSl L).view.emb x)]
          (chk_of d L fc hc k))
        (View.readAt (Elt F) (nmS).view (Rect.unit (s := S1280) (k0_off3 k) S16.size (k0_off3_inb k)).toLoadRect fun x : S1280.Idx => fn ((deSl L).view.emb x))⟩] x
      = densV fo fc fn ((deSl L).view.emb x) := by
  have ho2 : k0_off2 k = ![16 * k.val] := k0_off2_eq k
  have ho3 : k0_off3 k = ![16 * k.val] := k0_off3_eq k
  refine row_stored (outS).view f (k0_off3 k) S16.size (k0_off3_inb k) _ (fun x => densV fo fc fn ((deSl L).view.emb x)) ho3 rfl (fun y => ?_) x
    (by rw [show S16.size 0 = 16 from rfl]; omega) (hf x)
  have e : (Rect.unit (s := S1280) (k0_off2 k) S16.size (k0_off2_inb k)).emb y = (Rect.unit (s := S1280) (k0_off3 k) S16.size (k0_off3_inb k)).emb y := by
    congr 1
  have hp : ∀ v8 v10 : FVec F S16 .f32, k0_pay1 v8 v10 y = FloatOps.divf (v10 y) (FloatOps.addf (v8 y) (Scalar.ofBits .f32 0x322BCC77#32)) := fun _ _ => by unfold k0_pay1; rfl
  refine (hp _ _).trans (congrArg₂ FloatOps.divf rfl (congrArg₂ FloatOps.addf ?_ rfl))
  refine (loadIdx_eq (tabIx (fc ((deSl L).view.emb ((Rect.unit (s := S1280) (k0_off2 k) S16.size (k0_off2_inb k)).emb y)))) fun a => ?_).trans ?_
  · obtain rfl : a = 0 := Subsingleton.elim _ _
    exact Nat.mod_eq_of_lt (hc _)
  · rw [e]; exact congrArg fo (Rect.emb_whole_apply S32768 _)

/-- The tile's slice of the result after the copy out. -/
theorem copied (fo : Buf (Elt F) (omLoc d)) (fc : Buf (Elt F) (caLoc d)) (fn : Buf (Elt F) (nmLoc d)) (f : S1280.Idx → Elt F .f32)
    (fd : Buf (Elt F) (deLoc d)) (hf : ∀ x : S1280.Idx, f x = densV fo fc fn ((deSl L).view.emb x)) :
    ∀ y ∈ (deSl L).view.set, (deSl L).view.writes (Elt F) fd [⟨Rect.whole S1280, f⟩] y = densV fo fc fn y := by
  exact cut_written (deSl L).view fd f (densV fo fc fn) hf

set_option maxHeartbeats 4000000 in
theorem tile_body (O : CellTallies nD τ sig (HIx 1)) (W : Waits sig (HIx 1)) (hO : ∀ g, O g none = 0)
    (q : PosShare TreeShare) (fo : Buf (Elt F) (omLoc d)) (fc : Buf (Elt F) (caLoc d)) (fn : Buf (Elt F) (nmLoc d))
    (hc : ∀ j : S40960.Idx, (fc j : BitVec 32).toNat < 32768) :
    (iprop(levAts (K (F := F)).L (K (F := F)).lev ∗ emp
        ∗ ((omLoc d ↦{q} fo) ∗ (caLoc d ↦{q} fc) ∗ (nmLoc d ↦{q} fn) ∗ ∃ f, deLoc d ↦[(deSl L).view.set]{fullShare} f)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__dens_body L omW (Memref.isWhole_whole _) caW (Memref.isWhole_whole _) nmW (Memref.isWhole_whole _) deW (Memref.isWhole_whole _)
            melS (Memref.isWhole_whole _) idxS (Memref.isWhole_whole _) nmS (Memref.isWhole_whole _) outS (Memref.isWhole_whole _) cc0_scoped0 cc0_scoped1 cc0_scoped2 cc0_scoped3)
          fun _ => iprop(((omLoc d ↦{q} fo) ∗ (caLoc d ↦{q} fc) ∗ (nmLoc d ↦{q} fn) ∗ deLoc d ↦[(deSl L).view.set]{fullShare} densV fo fc fn)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__dens_body_eq_skeleton]; unfold cc0__dens_body_skel
  rw [(K (F := F)).scopedBufs_V facts d (cV L) (jV L), SparseCore.Cfg.scopedSems0_V (Val := Elt F) d (cV L) (jV L),
    ownBufs_take d (cV L) (jV L) [cc0_scratch0, cc0_scratch1, cc0_scratch2, cc0_scratch3] (by decide) (by intro b hb; fin_cases hb <;> rfl),
    ownSems_take d (cV L) (jV L) [.dma cc0_scoped0.sem, .dma cc0_scoped1.sem, .dma cc0_scoped2.sem, .dma cc0_scoped3.sem] (by decide) (by decide)]
  simp only [List.foldr_cons, List.foldr_nil]
  iintro ⟨#Hlv, -, ⟨Hom, Hca, Hnm, %fd, Hde⟩, ⟨⟨%f0, Hs0⟩, ⟨%f1, Hs1⟩, ⟨%f2, Hs2⟩, ⟨%f3, Hs3⟩, Hbufs⟩, ⟨Hm0, Hm1, Hm2, Hm3, Hsems⟩, HO⟩
  ihave Hmw := ((K (F := F)).mayWaits_none (thr := V d (cV L) (jV L)) hO) $$ Hlv
  ihave Hom := (Entails.of_eq (show (omLoc d ↦{q} fo : sProp 𝕄) = ((omW).view.loc (V d (cV L) (jV L)) ↦{q} fo) from rfl)) $$ Hom
  ihave Hca := (Entails.of_eq (show (caLoc d ↦{q} fc : sProp 𝕄) = ((caW).view.loc (V d (cV L) (jV L)) ↦{q} fc) from rfl)) $$ Hca
  ihave Hnm := (Entails.of_eq (show (nmLoc d ↦{q} fn : sProp 𝕄) = ((nmW).view.loc (V d (cV L) (jV L)) ↦{q} fn) from rfl)) $$ Hnm
  ihave Hde := (Entails.of_eq (show (deLoc d ↦[(deSl L).view.set]{fullShare} fd : sProp 𝕄) = ((deSl L).view.loc (V d (cV L) (jV L)) ↦[(deSl L).view.set]{fullShare} fd) from rfl)) $$ Hde
  ihave Hs0 := (Entails.of_eq (show ((V d (cV L) (jV L)).loc cc0_scratch0 ↦{fullShare} f0 : sProp 𝕄) = ((melS).view.loc (V d (cV L) (jV L)) ↦{fullShare} f0) from rfl)) $$ Hs0
  ihave Hs1 := (Entails.of_eq (show ((V d (cV L) (jV L)).loc cc0_scratch1 ↦{fullShare} f1 : sProp 𝕄) = ((idxS).view.loc (V d (cV L) (jV L)) ↦{fullShare} f1) from rfl)) $$ Hs1
  ihave Hs2 := (Entails.of_eq (show ((V d (cV L) (jV L)).loc cc0_scratch2 ↦{fullShare} f2 : sProp 𝕄) = ((nmS).view.loc (V d (cV L) (jV L)) ↦{fullShare} f2) from rfl)) $$ Hs2
  ihave Hs3 := (Entails.of_eq (show ((V d (cV L) (jV L)).loc cc0_scratch3 ↦{fullShare} f3 : sProp 𝕄) = ((outS).view.loc (V d (cV L) (jV L)) ↦{fullShare} f3) from rfl)) $$ Hs3
  sl_exec
  ihave Hs0 := (Entails.of_eq (show ((melS).view.loc (V d (cV L) (jV L)) ↦{fullShare} View.write (Elt F) (Memref.whole cc0_scratch0).view f0 (tile_body.sl.dma0 d fo) Finset.univ : sProp 𝕄)
    = ((melS).view.loc (V d (cV L) (jV L)) ↦{fullShare} fo) from congrArg _ ((View.write_whole_univ _ _ _).trans rfl))) $$ Hs0
  ihave Hs1 := (Entails.of_eq (show ((idxS).view.loc (V d (cV L) (jV L)) ↦{fullShare} View.write (Elt F) (Memref.whole cc0_scratch1).view f1 (tile_body.sl.dma0_1 d L fc) Finset.univ : sProp 𝕄)
    = ((idxS).view.loc (V d (cV L) (jV L)) ↦{fullShare} fun x : S1280.Idx => fc ((deSl L).view.emb x)) from congrArg _ ((View.write_whole_univ _ _ _).trans rfl))) $$ Hs1
  ihave Hs2 := (Entails.of_eq (show ((nmS).view.loc (V d (cV L) (jV L)) ↦{fullShare} View.write (Elt F) (Memref.whole cc0_scratch2).view f2 (tile_body.sl.dma0_2 d L fn) Finset.univ : sProp 𝕄)
    = ((nmS).view.loc (V d (cV L) (jV L)) ↦{fullShare} fun x : S1280.Idx => fn ((deSl L).view.emb x)) from congrArg _ ((View.write_whole_univ _ _ _).trans rfl))) $$ Hs2
  sl_for (inv d L fo fc fn) $$ [Hs0 Hs1 Hs2 Hs3]
  case region =>
    intro k _
    unfold inv
    iintro ⟨Hs0, Hs1, Hs2, %f, %hf, Hs3⟩
    sl_exec
    rw [wp_assume_of _ _ _ _ (chk_of d L fc hc k)]
    iapply (SparseCore.wp_vectorLoadIdx 𝒱₀ (V d (cV L) (jV L)) none Set.univ (base := (melS)) (S := Finset.univ) (q := fullShare) (Finset.subset_univ _)) $$ Hs0; iintro Hs0
    sl_exec
    sl_step
    isplitl [Hs0]; · iexact Hs0
    isplitl [Hs1]; · iexact Hs1
    isplitl [Hs2]; · iexact Hs2
    iexists _; isplitr [Hs3]
    rotate_left
    · iexact Hs3
    · ipureintro; exact stored d L fo fc fn hc k f hf
  · unfold inv
    isplitl [Hs0]; · iexact Hs0
    isplitl [Hs1]; · iexact Hs1
    isplitl [Hs2]; · iexact Hs2
    iexists f3; isplitr
    · ipureintro; exact fun x hx => absurd hx (Nat.not_lt_zero _)
    · iexact Hs3
  iintro %_ HI
  unfold inv
  icases HI with ⟨Hs0, Hs1, Hs2, %f, %hf, Hs3⟩
  sl_exec
  sl_step
  ihave Hde := (Entails.of_eq (show ((deSl L).view.loc (V d (cV L) (jV L)) ↦[(deSl L).view.set]{fullShare} (deSl L).view.writes (Elt F) fd [⟨Rect.whole S1280, tile_body.sl.dma0_3 d L f⟩] : sProp 𝕄)
    = (deLoc d ↦[(deSl L).view.set]{fullShare} densV fo fc fn) from
      pointsTo_congr (copied d L fo fc fn f fd fun x => hf x (by have := (x 0).isLt; exact this)))) $$ Hde
  isplitl [Hom Hca Hnm Hde]
  · isplitl [Hom]; · iexact Hom
    isplitl [Hca]; · iexact Hca
    isplitl [Hnm]; · iexact Hnm
    iexact Hde
  isplitl [Hs0 Hs1 Hs2 Hs3 Hbufs]
  · isplitl [Hs0]; · iexists _; iexact Hs0
    isplitl [Hs1]; · iexists _; iexact Hs1
    isplitl [Hs2]; · iexists _; iexact Hs2
    isplitl [Hs3]; · iexists _; iexact Hs3
    iexact Hbufs
  isplitl [Hm0 Hm1 Hm2 Hm3 Hsems]
  · isplitl [Hm0]; · iexact Hm0
    isplitl [Hm1]; · iexact Hm1
    isplitl [Hm2]; · iexact Hm2
    isplitl [Hm3]; · iexact Hm3
    iexact Hsems
  iexists _; isplitr [HO]
  rotate_left
  · iexact HO
  · ipureintro
    intro p hp
    simp only [Finset.mem_insert] at hp
    rcases hp with rfl | rfl | rfl | rfl | hp
    · exact Or.inr rfl
    · exact Or.inr rfl
    · exact Or.inr rfl
    · exact Or.inr rfl
    · exact Or.inl hp

end Tile

end Cert.Proof.Dens

end
-- ==== Proof.DensRun.lean ====
/-
  The run of the density call's program from any launch memory whose candidate indices are in range: the host lines
  before the call, the call on the thirty-two tiles (each with a read share of the three operands and its own slice of the
  result), the host line after it. Every buffer's final contents are named (`fin`).
-/
module

public import proofs.«01_k».proof.Proof.DensTile

@[expose] public section

noncomputable section

namespace Cert.Proof.Dens

open Cert.DensIdeal Cert.DensIdeal.Gen Cert.Proof.Parts

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held seq after)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev omR : DevRef τ sig := Proc.devRef .tc (main_v2 : Ref sig .tc)
abbrev caR : DevRef τ sig := Proc.devRef .tc (main_v3 : Ref sig .tc)
abbrev nmR : DevRef τ sig := Proc.devRef .tc (main_v4 : Ref sig .tc)
abbrev deR : DevRef τ sig := Proc.devRef .tc (main_v5 : Ref sig .tc)

def coordsV (c : Fin (grid0.bound 0)) (s : Fin (grid0.bound 1)) : grid0.Coords :=
  fun | 0 => c | 1 => s | ⟨_ + 2, h⟩ => absurd h (Nat.not_lt.2 (Nat.le_add_left _ _))

/-- Tile `(c, i)`'s slice of the result. -/
abbrev deSet (c : Fin 2) (i : Fin 16) : Finset S40960.Idx := (deSl (coordsV c i)).view.set

/-- The array of quotients, from the contents of all buffers before the call. -/
abbrev densOf (A : Valuation τ sig (Elt F)) : Buf (Elt F) (deLoc 0) := densV (A omR) (A caR) (A nmR)

/-- What a tile is handed: read shares of the operands, its slice of the result at whatever it holds. -/
def goP (A : Dev nD → Valuation τ sig (Elt F)) (d : Dev nD) (c : Fin 2) (i : Fin 16) : sProp 𝕄 :=
  iprop((omLoc d ↦{tileShare c i} A d omR) ∗ (caLoc d ↦{tileShare c i} A d caR) ∗ (nmLoc d ↦{tileShare c i} A d nmR)
    ∗ ∃ f, deLoc d ↦[deSet c i]{fullShare} f)
/-- What it hands back: the slice at the quotients. -/
def tdP (A : Dev nD → Valuation τ sig (Elt F)) (d : Dev nD) (c : Fin 2) (i : Fin 16) : sProp 𝕄 :=
  iprop((omLoc d ↦{tileShare c i} A d omR) ∗ (caLoc d ↦{tileShare c i} A d caR) ∗ (nmLoc d ↦{tileShare c i} A d nmR)
    ∗ deLoc d ↦[deSet c i]{fullShare} densOf (A d))

instance (A : Dev nD → Valuation τ sig (Elt F)) (d : Dev nD) (c : Fin 2) (i : Fin 16) : Storable (upEmb : UEmb _ 𝕄) (goP A d c i : sProp 𝕄) := by unfold goP; infer_instance
instance (A : Dev nD → Valuation τ sig (Elt F)) (d : Dev nD) (c : Fin 2) (i : Fin 16) : Storable (upEmb : UEmb _ 𝕄) (tdP A d c i : sProp 𝕄) := by unfold tdP; infer_instance

def P (A : Dev nD → Valuation τ sig (Elt F)) : (K (F := F)).Pay (nD := nD) (Val := Elt F) (Name := ℕ) (U := UU) where
  st := fun q d c => match q, c with | 0, c => bigSep (Finset.univ : Finset (Fin 16)) fun i => goP A d c i
  dn := fun q d c => match q, c with | 0, c => bigSep (Finset.univ : Finset (Fin 16)) fun i => tdP A d c i
  go := fun q d c i => match q, c, i with | 0, c, i => goP A d c i
  td := fun q d c i => match q, c, i with | 0, c, i => tdP A d c i
  x := fun _ _ => iprop(emp)

instance P_storable (A : Dev nD → Valuation τ sig (Elt F)) : (P (F := F) A).IsStorable where
  st := fun q d c => match q with | 0 => inferInstanceAs (Storable (upEmb : UEmb _ 𝕄) (bigSep (Finset.univ : Finset (Fin 16)) fun i => goP A d c i))
  dn := fun q d c => match q with | 0 => inferInstanceAs (Storable (upEmb : UEmb _ 𝕄) (bigSep (Finset.univ : Finset (Fin 16)) fun i => tdP A d c i))
  go := fun q d c i => match q with | 0 => inferInstanceAs (Storable (upEmb : UEmb _ 𝕄) (goP A d c i))
  td := fun q d c i => match q with | 0 => inferInstanceAs (Storable (upEmb : UEmb _ 𝕄) (tdP A d c i))

theorem defs₀_vector (c : Fin τ.nSC) (s : Fin τ.nSub) :
    defs₀ (F := F) (.scVector c s) 0 ()
      = SparseCore.onTile hcore0 hsub0 (fun c s => cc0__dens_body (coordsV c s) (Memref.whole main_v2_scv) (Memref.isWhole_whole _)
          (Memref.whole main_v3_scv) (Memref.isWhole_whole _) (Memref.whole main_v4_scv) (Memref.isWhole_whole _) (Memref.whole main_v5_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scoped0 cc0_scoped1 cc0_scoped2 cc0_scoped3) ⟨⟩ c s := rfl

omit [FloatOps F] in
/-- A wait recorded against nothing is among those the call's task may record. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (A : Dev nD → Valuation τ sig (Elt F)) (hA : ∀ d (j : S40960.Idx), (A d caR j : BitVec 32).toNat < 32768) :
    (K (F := F)).TileObl (D (F := F)) 𝒱 (P A) v₀ 0 := by
  intro d c i O W hO _ _
  simp only [show (P A).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) O W hO (tileShare c i) (A d omR) (A d caR) (A d nmR) (hA d)).trans (wp_mono frame _ _ fun _ => obl_post)

theorem vecSplit (A : Dev nD → Valuation τ sig (Elt F)) : (K (F := F)).VecSplit' (P A) 0 := by
  intro d c
  show (bigSep (Finset.univ : Finset (Fin 16)) fun i => goP A d c i)
    ⊢ |={Set.univ}=> iprop((bigSep (Finset.univ : Finset (Fin 16)) fun i => goP A d c i)
      ∗ ((bigSep (Finset.univ : Finset (Fin 16)) fun i => tdP A d c i) -∗ bigSep (Finset.univ : Finset (Fin 16)) fun i => tdP A d c i))
  iintro H
  imodintro
  isplitl [H]; · iexact H
  iintro H; iexact H

/-! ## The call over all buffers -/

omit [FloatOps F] in
theorem deSet_eq (c : Fin 2) (i : Fin 16) : deSet c i = (sliceR (coordsV c i)).set := by
  show ((View.whole (main_v5_scv : Ref sig .scVector)).slice (sliceR (coordsV c i))).set = _
  rw [View.set_slice]; exact Finset.map_refl

omit [FloatOps F] in
theorem mem_deSet (c : Fin 2) (i : Fin 16) (x : S40960.Idx) :
    x ∈ deSet c i ↔ 2560 * i.val + 1280 * c.val ≤ (x 0).val ∧ (x 0).val < 2560 * i.val + 1280 * c.val + 1280 := by
  have h : k0_off1 (coordsV c i) 0 = 2560 * i.val + 1280 * c.val := congrFun (k0_off1_eq (coordsV c i)) 0
  rw [deSet_eq]
  refine (mem_cut (k0_off1 (coordsV c i)) S1280.size (k0_off1_inb (coordsV c i)) x).trans ?_
  rw [h]; exact Iff.rfl

theorem de_cut (d : Dev nD) (f : Buf (Elt F) (deLoc d)) :
    (deLoc d ↦{fullShare} f : sProp 𝕄) = bigSep Finset.univ fun c : Fin 2 => bigSep Finset.univ fun i : Fin 16 => deLoc d ↦[deSet c i]{fullShare} f := by
  refine cut_tiles (deLoc d) f deSet (fun c i c' i' hne => Finset.disjoint_left.mpr fun x hx hx' => hne ?_) fun x => ?_
  · have h := (mem_deSet c i x).mp hx; have h' := (mem_deSet c' i' x).mp hx'
    have hc := c.isLt; have hc' := c'.isLt
    exact Prod.ext (Fin.ext (by show c.val = c'.val; omega)) (Fin.ext (by show i.val = i'.val; omega))
  · have hx : ((x : S40960.Idx) 0).val < 40960 := ((x : S40960.Idx) 0).isLt
    exact ⟨⟨(((x : S40960.Idx) 0).val / 1280) % 2, by omega⟩, ⟨((x : S40960.Idx) 0).val / 2560, by omega⟩,
      (mem_deSet _ _ x).mpr ⟨by show 2560 * (_ / 2560) + 1280 * (_ / 1280 % 2) ≤ _; omega, by show _ < 2560 * (_ / 2560) + 1280 * (_ / 1280 % 2) + 1280; omega⟩⟩

/-- The contents after the call: the result array at the quotients, the rest as before. -/
def called (A : Valuation τ sig (Elt F)) : Valuation τ sig (Elt F) := Function.update A deR (densOf A)

abbrev callRefs : Finset (DevRef τ sig) := {omR, caR, nmR, deR}

theorem held_call (d : Dev nD) (A : Valuation τ sig (Elt F)) :
    (held (T d) callRefs A : sProp 𝕄) = iprop((omLoc d ↦{fullShare} A omR) ∗ (caLoc d ↦{fullShare} A caR) ∗ (nmLoc d ↦{fullShare} A nmR) ∗ deLoc d ↦{fullShare} A deR) := by
  unfold held
  rw [SparseCore.bigSep_insert' (by decide), SparseCore.bigSep_insert' (by decide), SparseCore.bigSep_insert' (by decide), bigSep_singleton]

theorem callRefs_sub : callRefs ⊆ ucRefs τ sig := by decide

theorem some_written (d : Dev nD) (f : Buf (Elt F) (deLoc d)) :
    (bigSep Finset.univ fun c : Fin 2 => bigSep Finset.univ fun i : Fin 16 => (deLoc d ↦[deSet c i]{fullShare} f) : sProp 𝕄)
      ⊢ bigSep Finset.univ fun c : Fin 2 => bigSep Finset.univ fun i : Fin 16 => iprop(∃ f, deLoc d ↦[deSet c i]{fullShare} f) := by
  have h : ∀ c i, (deLoc d ↦[deSet c i]{fullShare} f : sProp 𝕄) ⊢ iprop(∃ f, deLoc d ↦[deSet c i]{fullShare} f) := by
    intro c i
    iintro H
    iexists f
    iexact H
  exact bigSep_mono fun c _ => bigSep_mono fun i _ => h c i

/-- The tiles' operands make up what the call takes; -/
theorem st_deal (A : Dev nD → Valuation τ sig (Elt F)) (d : Dev nD) :
    iprop((bigSep Finset.univ fun c : Fin 2 => bigSep Finset.univ fun i : Fin 16 => omLoc d ↦{tileShare c i} A d omR)
        ∗ (bigSep Finset.univ fun c : Fin 2 => bigSep Finset.univ fun i : Fin 16 => caLoc d ↦{tileShare c i} A d caR)
        ∗ (bigSep Finset.univ fun c : Fin 2 => bigSep Finset.univ fun i : Fin 16 => nmLoc d ↦{tileShare c i} A d nmR)
        ∗ bigSep Finset.univ fun c : Fin 2 => bigSep Finset.univ fun i : Fin 16 => iprop(∃ f, deLoc d ↦[deSet c i]{fullShare} f))
      ⊢ (bigSep Finset.univ fun c : Fin ((K (F := F)).nCore 0) => (P A).st 0 d c : sProp 𝕄) := by
  show _ ⊢ (bigSep Finset.univ fun c : Fin 2 => bigSep Finset.univ fun i : Fin 16 => goP A d c i : sProp 𝕄)
  unfold goP
  rw [tiles_sep, tiles_sep, tiles_sep]

/-- what it hands back is theirs. -/
theorem dn_join (A : Dev nD → Valuation τ sig (Elt F)) (d : Dev nD) :
    (bigSep Finset.univ fun c : Fin ((K (F := F)).nCore 0) => (P A).dn 0 d c : sProp 𝕄)
      ⊢ iprop((bigSep Finset.univ fun c : Fin 2 => bigSep Finset.univ fun i : Fin 16 => omLoc d ↦{tileShare c i} A d omR)
        ∗ (bigSep Finset.univ fun c : Fin 2 => bigSep Finset.univ fun i : Fin 16 => caLoc d ↦{tileShare c i} A d caR)
        ∗ (bigSep Finset.univ fun c : Fin 2 => bigSep Finset.univ fun i : Fin 16 => nmLoc d ↦{tileShare c i} A d nmR)
        ∗ bigSep Finset.univ fun c : Fin 2 => bigSep Finset.univ fun i : Fin 16 => deLoc d ↦[deSet c i]{fullShare} densOf (A d)) := by
  show (bigSep Finset.univ fun c : Fin 2 => bigSep Finset.univ fun i : Fin 16 => tdP A d c i : sProp 𝕄) ⊢ _
  unfold tdP
  rw [tiles_sep, tiles_sep, tiles_sep]

/-- The call, from all unscoped buffers at `A d` to all of them at `called (A d)`. -/
theorem wp_call (A : Dev nD → Valuation τ sig (Elt F)) (κ : GSem nD τ sig → ℕ) (d : Dev nD) {Φ : PUnit → sProp 𝕄} :
    iprop((K (F := F)).ctx EH (P A) κ ∗ (K (F := F)).tcSt EH d 0 ∗ held (T d) (ucRefs τ sig) (A d)
        ∗ (((K (F := F)).tcSt EH d 1 ∗ held (T d) (ucRefs τ sig) (called (A d))) -∗ Φ ⟨⟩))
      ⊢ wp frame (wpE ((K (F := F)).defs (D (F := F))) 𝒱 (T d) none) Set.univ ((K (F := F)).run d 0) Φ := by
  rw [StableHlo.held_sub_split (T d) callRefs_sub, StableHlo.held_sub_split (T d) callRefs_sub, held_call, held_call,
    StableHlo.held_congr (T d) (S := ucRefs τ sig \ callRefs) (V := called (A d)) (V' := A d)
      (fun b hb => Function.update_of_ne (by rintro rfl; exact (Finset.mem_sdiff.mp hb).2 (by decide)) _ _),
    show called (A d) omR = A d omR from Function.update_of_ne (by decide) _ _,
    show called (A d) caR = A d caR from Function.update_of_ne (by decide) _ _,
    show called (A d) nmR = A d nmR from Function.update_of_ne (by decide) _ _,
    show called (A d) deR = densOf (A d) from Function.update_self _ _ _, de_cut, de_cut]
  iintro ⟨#Hctx, Hst, ⟨⟨Hom, Hca, Hnm, Hde⟩, Hrest⟩, Hk⟩
  ihave Hom := (share_tiles (omLoc d) (A d omR)).1 $$ Hom
  ihave Hca := (share_tiles (caLoc d) (A d caR)).1 $$ Hca
  ihave Hnm := (share_tiles (nmLoc d) (A d nmR)).1 $$ Hnm
  icases Hom with ⟨Hom', Hom⟩
  icases Hca with ⟨Hca', Hca⟩
  icases Hnm with ⟨Hnm', Hnm⟩
  iapply ((K (F := F)).wp_run (D (F := F)) 𝒱 (EH := EH) (P := P A) κ d 0) $$ [Hst Hom Hca Hnm Hde Hom' Hca' Hnm' Hrest Hk]
  isplitr; · iexact Hctx
  isplitl [Hst]; · iexact Hst
  isplitl [Hom Hca Hnm Hde]
  · iapply (st_deal A d)
    isplitl [Hom]; · iexact Hom
    isplitl [Hca]; · iexact Hca
    isplitl [Hnm]; · iexact Hnm
    iapply (some_written d (A d deR)) $$ Hde
  iintro ⟨Hst, Hdn⟩
  iapply Hk
  isplitl [Hst]; · iexact Hst
  ihave Hdn := (dn_join A d) $$ Hdn
  icases Hdn with ⟨Hom, Hca, Hnm, Hde⟩
  isplitr [Hrest]
  · isplitl [Hom Hom']; · iapply (share_tiles (omLoc d) (A d omR)).2; isplitl [Hom'] <;> iassumption
    isplitl [Hca Hca']; · iapply (share_tiles (caLoc d) (A d caR)).2; isplitl [Hca'] <;> iassumption
    isplitl [Hnm Hnm']; · iapply (share_tiles (nmLoc d) (A d nmR)).2; isplitl [Hnm'] <;> iassumption
    iexact Hde
  · iexact Hrest

/-! ## The launch -/

variable (m : (ℓ : Loc nD τ sig) → Buf (Elt F) ℓ) (ρ : Dev nD → PrngReg)

def u₀ : UU := (initOf (K (F := F)).hsCells (K (F := F)).hsToks, 1)

theorem hu₀ (A : Dev nD → Valuation τ sig (Elt F)) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair _ _) $$ Hu
  icases H with ⟨HH, -⟩
  imodintro
  isplitl [HH]; · iexact HH
  isplitr; · rw [bigSep_none]; iempintro
  unfold P; dsimp only
  rw [show (bigSep Finset.univ fun _ : Thread nD τ => bigSep Finset.univ fun _ : Fin 1 => (iprop(emp) : sProp 𝕄)) = iprop(emp) from by
    simp only [bigSep_none]]
  iempintro

abbrev pre : List (HloOp τ sig (Elt F)) :=
  [StableHlo.reshape main_arg2 main_v0 (rfl : (.f32 : EltTy) = .f32) shapeCasts_S1x8192_S8192x1,
   StableHlo.unary main_v0 main_v1 (broadcastInDim S8192x5 ![0, 1] bcast_S8192x1_S8192x5_0_1 : (⟨S8192x1, .f32⟩ : BufTy).Contents (Elt F) → (⟨S8192x5, .f32⟩ : BufTy).Contents (Elt F)),
   StableHlo.reshape main_arg0 main_v2 (rfl : (.f32 : EltTy) = .f32) shapeCasts_S1x32768_S32768,
   StableHlo.reshape main_arg1 main_v3 (rfl : (.i32 : EltTy) = .i32) shapeCasts_S8192x5_S40960,
   StableHlo.reshape main_v1 main_v4 (rfl : (.f32 : EltTy) = .f32) shapeCasts_S8192x5_S40960]
abbrev post : List (HloOp τ sig (Elt F)) :=
  [StableHlo.reshape main_v5 main_v6 (rfl : (.f32 : EltTy) = .f32) shapeCasts_S40960_S8192x5]

theorem main_eq (d : Dev nD) : main (F := F) d = seq pre >>= fun _ => ((K (F := F)).run d 0 >>= fun _ => seq post) := by
  simp only [main, pre, post, seq, bind_assoc, pure_bind]

/-- All buffers of device `d` before the call, and at the end. -/
def atCall (d : Dev nD) : Valuation τ sig (Elt F) := after pre (StableHlo.launchContents m d)
def fin (d : Dev nD) : Valuation τ sig (Elt F) := after post (called (atCall m d))

abbrev FIN (d : Dev nD) : sProp 𝕄 := held (T d) (ucRefs τ sig) (fin m d)

theorem pre_sub : ∀ op ∈ pre (F := F), op.bufs ⊆ ucRefs τ sig := by
  intro op hop
  simp only [pre, List.mem_cons, List.not_mem_nil, _root_.or_false] at hop
  rcases hop with rfl | rfl | rfl | rfl | rfl
  exacts [Pipeline.sub_ucRefs _ (StableHlo.reshape_bufs_sub ..), Pipeline.sub_ucRefs _ (StableHlo.unary_bufs_sub ..), Pipeline.sub_ucRefs _ (StableHlo.reshape_bufs_sub ..),
    Pipeline.sub_ucRefs _ (StableHlo.reshape_bufs_sub ..), Pipeline.sub_ucRefs _ (StableHlo.reshape_bufs_sub ..)]
theorem post_sub : ∀ op ∈ post (F := F), op.bufs ⊆ ucRefs τ sig := by
  intro op hop
  simp only [post, List.mem_cons, List.not_mem_nil, _root_.or_false] at hop
  subst hop; exact Pipeline.sub_ucRefs _ (StableHlo.reshape_bufs_sub ..)
theorem pre_fresh : ∀ op ∈ pre (F := F), op.fresh = ∅ := by
  intro op hop
  simp only [pre, List.mem_cons, List.not_mem_nil, _root_.or_false] at hop
  rcases hop with rfl | rfl | rfl | rfl | rfl <;> rfl
theorem post_fresh : ∀ op ∈ post (F := F), op.fresh = ∅ := by
  intro op hop
  simp only [post, List.mem_cons, List.not_mem_nil, _root_.or_false] at hop
  subst hop; rfl

theorem unscoped_held (d : Dev nD) : (unscopedBufs d (fun b => m ((SparseCore.T d).loc b)) : sProp 𝕄) = held (SparseCore.T d) (ucRefs τ sig) (StableHlo.launchContents m d) :=
  Pipeline.unscopedBufs_held d (StableHlo.launchContents m d)

theorem hmain (κ : GSem nD τ sig → ℕ) (d : Dev nD) :
    iprop((K (F := F)).ctx EH (P (atCall m)) κ ∗ (K (F := F)).tcSt EH d 0 ∗ (K (F := F)).tcRes m ρ d ∗ emp)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d (ucRefs τ sig) _ pre pre_sub pre_fresh _) $$ [Hb Hheld]
  · isplitl [Hb] <;> iassumption
  iintro ⟨Hb, Hheld⟩
  rw [wp_bind]
  iapply (wp_call (atCall m) κ d)
  isplitr; · iexact Hctx
  isplitl [Hst]; · iexact Hst
  isplitl [Hheld]; · iexact Hheld
  iintro ⟨Hst, Hheld⟩
  rw [show seq (Λ := SparseCore.Sig (ΛP (F := F)) 1) (nD := nD) (post (F := F)) = (seq post >>= fun u => Pure.pure u) from (bind_pure _).symm]
  iapply (StableHlo.wp_seq 𝒱 none Set.univ d (ucRefs τ sig) _ post post_sub post_fresh _) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

def fq (d : Dev nD) (s' : Phys nD τ sig (Elt F)) : Prop := ∀ b ∈ ucRefs τ sig, s'.mem.mem (d, b) = fin m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro; exact h

/-- The program's run: every unscoped buffer ends at `fin`, every semaphore counter at zero. -/
theorem run_main [∀ e, Nonempty (Elt F e)] (hA : ∀ d (j : S40960.Idx), (atCall m d caR j : BitVec 32).toNat < 32768) :
    θ_run (Cert.DensIdeal.defs (F := F)) (Cert.DensIdeal.threads (F := F)) ⟨m, fun _ => 0, ρ⟩
      (fun r => (∀ d, ∀ b ∈ ucRefs τ sig, r.2.mem (d, b) = fin m d b) ∧ r.2.sem = fun _ => 0) :=
  SparseCore.Cfg.θ_run_sc_quiescent (K := K (F := F)) (D := D (F := F)) (𝒱 := 𝒱) (EH := EH) (P := P (atCall m)) (A := ∅) facts v₀
    (fun q hq => match q with | 0 => nomatch hq)
    (fun q _ => match q with | 0 => tileObl (atCall m) hA)
    (fun q _ => match q with | 0 => SparseCore.Cfg.VecSplit.of_plain (vecSplit (atCall m)))
    m ρ main (fun _ => iprop(emp)) (FIN m) (u₀ (F := F)) (sep_elim_left.trans (hu₀ (atCall m))) (hmain m ρ) (fq m) (hfin m) _ (fun _ h hz => ⟨h, hz⟩)

end Cert.Proof.Dens

end
-- ==== Proof.DensClaims.lean ====
/-
  The claims of the density call: what each buffer of the ideal program holds at the end in terms of the launch contents,
  the range of the candidate indices read out of the precondition, the frames, and the equation with the reference.
-/
module

public import proofs.«01_k».proof.Defs
public import proofs.«01_k».proof.Proof.DensRun
public import proofs.«01_k».proof.Proof.Gen.Dens
public import proofs.«01_k».proof.Proof.Gen.DensReferenceIdeal.Run
public import proofs.«01_k».proof.Proof.Gen.Pre_cands_in_range
public import Idealize.ShloMosaic.Lib.Pipeline.Value
public import Idealize.ShloMosaic.Lib.Pipeline.FrameTail
public import Idealize.ShloMosaic.Lib.ValueIdx
public import Idealize.ShloMosaic.Lib.IdealHost

@[expose] public section

noncomputable section

namespace Cert.Proof.Dens

open Cert.DensIdeal Cert.DensIdeal.Gen Cert.Proof.Parts
open Idealize.ShloMosaic Idealize.SL.Sem
open Idealize.ShloMosaic.StableHlo (after after_cons after_nil launchContents)
open Idealize.ShloMosaic.Pipeline (ucRefs)
open Idealize.ShloMosaic.ValueIdx

section Contents

variable {F : FTy → Type} [FloatOps F] (m : (ℓ : Loc nD τ sig) → Buf (Elt F) ℓ) (d : Dev nD)

theorem atCall_om : atCall m d omR = shapeCast S32768 (m ((SparseCore.T d).loc main_arg0)) shapeCasts_S1x32768_S32768 := by
  unfold atCall pre; after_results <;> rfl
theorem atCall_ca : atCall m d caR = shapeCast S40960 (m ((SparseCore.T d).loc main_arg1)) shapeCasts_S8192x5_S40960 := by
  unfold atCall pre; after_results <;> rfl
theorem atCall_nm : atCall m d nmR
    = shapeCast S40960 (broadcastInDim S8192x5 ![0, 1] bcast_S8192x1_S8192x5_0_1
        (shapeCast S8192x1 (m ((SparseCore.T d).loc main_arg2)) shapeCasts_S1x8192_S8192x1)) shapeCasts_S8192x5_S40960 := by
  unfold atCall pre; after_results <;> rfl

/-- The result is the array of quotients, reshaped. -/
theorem fin_res : fin m d (Proc.devRef .tc (main_v6 : Ref sig .tc)) = shapeCast S8192x5 (densOf (atCall m d)) shapeCasts_S40960_S8192x5 := by
  unfold fin post; after_results
  unfold called; rw [Function.update_self]; rfl

/-- A buffer that no line and not the call writes keeps its launch contents. -/
theorem fin_kept (b : Ref sig .tc) (hb : b ∉ [main_v0, main_v1, main_v2, main_v3, main_v4, main_v5, main_v6]) :
    fin m d (Proc.devRef .tc b) = m ((SparseCore.T d).loc b) := by
  unfold fin
  rw [StableHlo.after_of_writes_sub (W := [main_v6]) post _ (by simp [post]) (fun h => hb (by simp_all))]
  unfold called
  rw [Function.update_of_ne (fun h => hb (by rw [Proc.devRef_injective _ h]; simp))]
  unfold atCall
  rw [StableHlo.after_of_writes_sub (W := [main_v0, main_v1, main_v2, main_v3, main_v4]) pre _ (by simp [pre]) (fun h => hb (by simp_all))]

end Contents

section Range

variable {F : FTy → Type} [FloatOps F]

/-- Under the precondition every candidate index is below `32768`. -/
theorem cand_lt {x0 : FVec F Pre_cands_in_range.S1x32768 .f32} {x1 : IVec Pre_cands_in_range.S8192x5 32} {x2 : FVec F Pre_cands_in_range.S1x8192 .f32}
    (h : Pre_cands_in_range.fn (F := F) x0 x1 x2 = fun _ => 1#1) (j : Pre_cands_in_range.S8192x5.Idx) : (x1 j).toNat < 32768 :=
  word_lt (by norm_num) _ (congrFun h j)

theorem call_lt (m : (ℓ : Loc nD τ sig) → Buf (Elt F) ℓ)
    (h : ∀ d j, (m ((SparseCore.T d).loc main_arg1) j : BitVec 32).toNat < 32768) (d : Dev nD) (j : S40960.Idx) :
    (atCall m d caR j : BitVec 32).toNat < 32768 := by
  rw [atCall_ca]; exact h d _

/-- The frame, over any float values: the run, its values dropped. -/
theorem frame_of [∀ e, Nonempty (Elt F e)] (m : (ℓ : Loc nD τ sig) → Buf (Elt F) ℓ) (ρ : Dev nD → PrngReg)
    (h : ∀ d j, (m ((SparseCore.T d).loc main_arg1) j : BitVec 32).toNat < 32768) :
    θ_run (Cert.DensIdeal.defs (F := F)) (Cert.DensIdeal.threads (F := F)) ⟨m, fun _ => 0, ρ⟩ (fun r =>
      (∀ d : Dev nD, r.2.mem ((SparseCore.T d).loc main_v6) = shapeCast S8192x5 (densOf (atCall m d)) shapeCasts_S40960_S8192x5
        ∧ r.2.mem ((SparseCore.T d).loc main_arg0) = m ((SparseCore.T d).loc main_arg0)
        ∧ r.2.mem ((SparseCore.T d).loc main_arg1) = m ((SparseCore.T d).loc main_arg1)
        ∧ r.2.mem ((SparseCore.T d).loc main_arg2) = m ((SparseCore.T d).loc main_arg2))
      ∧ r.2.sem = fun _ => 0) :=
  (θ_run _ _ _).mono (fun _ hr => ⟨fun d =>
    ⟨(hr.1 d _ (Pipeline.devRef_mem_ucRefs (b := main_v6) rfl)).trans (fin_res m d),
     (hr.1 d _ (Pipeline.devRef_mem_ucRefs (b := main_arg0) rfl)).trans (fin_kept m d main_arg0 (by decide)),
     (hr.1 d _ (Pipeline.devRef_mem_ucRefs (b := main_arg1) rfl)).trans (fin_kept m d main_arg1 (by decide)),
     (hr.1 d _ (Pipeline.devRef_mem_ucRefs (b := main_arg2) rfl)).trans (fin_kept m d main_arg2 (by decide))⟩, hr.2⟩)
    (run_main m ρ (call_lt m h))

end Range

theorem frame_ideal : Cert.quiescent_DensIdeal := fun m ρ hp =>
  (θ_run _ _ _).mono (fun _ h => ⟨fun c => (h.1 c).2, h.2⟩) (frame_of (F := Ideal) m ρ fun d j => cand_lt (hp d) j)

theorem frame_bits : Cert.quiescent_Dens := fun m ρ hp =>
  (θ_run Cert.DensIdeal.defs _ _).mono (fun _ h => ⟨fun c => (h.1 c).2, h.2⟩) (frame_of (F := Bits) m ρ fun d j => cand_lt (hp d) j)

end Cert.Proof.Dens

end
-- ==== Proof.DensValue.lean ====
/-
  The equation of the density call: the kernel's array of quotients, reshaped, is the reference's, at the ideal float
  values. An index in range is what the reference's wrap of negative indices and its clamped gather leave as it is.
-/
module

public import proofs.«01_k».proof.Proof.DensClaims

@[expose] public section

noncomputable section

namespace Cert.Proof.Dens

open Cert.DensReferenceIdeal Cert.DensReferenceIdeal.Gen
open Idealize.ShloMosaic Idealize.SL.Sem Idealize.ShloMosaic.ValueIdx Cert.Proof.Parts

/-- The reference's indices, negative ones wrapped. -/
abbrev wrapped (x1 : IVec S8192x5 32) : IVec S8192x5 32 :=
  select (cmpi .slt x1 (broadcastInDim S8192x5 ![] bcast_S_S8192x5 (constantI S_ 32 0#32))) (addi x1 (broadcastInDim S8192x5 ![] bcast_S_S8192x5 (constantI S_ 32 32768#32))) x1

/-- The reference's term of the three arguments. -/
abbrev refOut (x0 : FVec Ideal S1x32768 .f32) (x1 : IVec S8192x5 32) (x2 : FVec Ideal S1x8192 .f32) : FVec Ideal S8192x5 .f32 :=
  Host.divf (broadcastInDim S8192x5 ![0, 1] bcast_S8192x1_S8192x5_0_1 (broadcastInDim S8192x1 ![0] bcast_S8192_S8192x1_0 (shapeCast _ x2 shapeCasts_S1x8192_S8192))) (addf (Host.gather gather_S32768_S8192x5x1_S8192x5_n_0_n_n_0_2_1 (shapeCast _ x0 shapeCasts_S1x32768_S32768) (broadcastInDim S8192x5x1 ![0, 1] bcast_S8192x5_S8192x5x1_0_1 (wrapped x1))) (broadcastInDim S8192x5 ![] bcast_S_S8192x5 (constant S_ .f32 0x322BCC77#32)))

/-- A word below `32768` is not negative, so the wrap leaves it. -/
theorem wrap_self (w v : BitVec 32) (h : w.toNat < 32768) : Scalar.select (IntOp.cmpi .slt w 0#32) v w = w := by
  have e : IntOp.cmpi .slt w 0#32 = 0#1 := by
    have : w.slt 0#32 = false := by
      rw [BitVec.slt_eq_decide, decide_eq_false_iff_not, BitVec.toInt_eq_toNat_cond]; simp; split <;> omega
    simp [IntOp.cmpi, this]
  rw [e, select_zero]

theorem quotients_eq (x0 : FVec Ideal S1x32768 .f32) (x1 : IVec S8192x5 32) (x2 : FVec Ideal S1x8192 .f32)
    (h : ∀ j, (x1 j).toNat < 32768) :
    shapeCast S8192x5 (densV (F := Ideal) (shapeCast S32768 x0 Cert.DensIdeal.Gen.shapeCasts_S1x32768_S32768) (shapeCast Cert.DensIdeal.S40960 x1 Cert.DensIdeal.Gen.shapeCasts_S8192x5_S40960)
      (shapeCast Cert.DensIdeal.S40960 (broadcastInDim S8192x5 ![0, 1] bcast_S8192x1_S8192x5_0_1
        (shapeCast S8192x1 x2 Cert.DensIdeal.Gen.shapeCasts_S1x8192_S8192x1)) Cert.DensIdeal.Gen.shapeCasts_S8192x5_S40960)) Cert.DensIdeal.Gen.shapeCasts_S40960_S8192x5
      = refOut x0 x1 x2 := by
  funext y
  have hc : shapeCast Cert.DensIdeal.S40960 x1 Cert.DensIdeal.Gen.shapeCasts_S8192x5_S40960 (Shape.reshapeEquiv Cert.DensIdeal.Gen.shapeCasts_S40960_S8192x5 y) = x1 y :=
    congrFun (shapeCast_shapeCast x1 Cert.DensIdeal.Gen.shapeCasts_S8192x5_S40960 Cert.DensIdeal.Gen.shapeCasts_S40960_S8192x5) y
  have hn : ∀ v : FVec Ideal S8192x5 .f32, shapeCast Cert.DensIdeal.S40960 v Cert.DensIdeal.Gen.shapeCasts_S8192x5_S40960 (Shape.reshapeEquiv Cert.DensIdeal.Gen.shapeCasts_S40960_S8192x5 y) = v y :=
    fun v => congrFun (shapeCast_shapeCast v Cert.DensIdeal.Gen.shapeCasts_S8192x5_S40960 Cert.DensIdeal.Gen.shapeCasts_S40960_S8192x5) y
  have hy := h y
  show Ideal.div _ (_ + _) = Ideal.div _ (_ + _)
  refine congrArg₂ Ideal.div ?_ (congrArg₂ (· + ·) ?_ rfl)
  · show shapeCast Cert.DensIdeal.S40960 _ _ _ = _
    rw [hn]
    refine congrFun (congrArg (fun v : FVec Ideal S8192x1 .f32 => broadcastInDim S8192x5 ![0, 1] bcast_S8192x1_S8192x5_0_1 v) (funext fun z => ?_)) y
    have hb : broadcastInDim S8192x1 ![0] bcast_S8192_S8192x1_0 (shapeCast S8192 x2 shapeCasts_S1x8192_S8192) z
        = shapeCast S8192 x2 shapeCasts_S1x8192_S8192 (ix1 (z 0)) :=
      broadcastInDim_apply _ _ _ z (ix1 (z 0)) (fun a => by obtain rfl : a = 0 := Subsingleton.elim _ _; rfl)
    refine Eq.trans ?_ hb.symm
    have hz : (z 1).val = 0 := by have := (z 1).isLt; simp at this; omega
    rw [shapeCast_apply x2 Cert.DensIdeal.Gen.shapeCasts_S1x8192_S8192x1 z (ix2 0 (z 0)) (by
        rw [Shape.rowMajor_val_two, Shape.rowMajor_val_two]; simp; omega),
      shapeCast_apply x2 shapeCasts_S1x8192_S8192 (ix1 (z 0)) (ix2 0 (z 0)) (by
        rw [Shape.rowMajor_val_two, Shape.rowMajor_val_one]; simp)]
  · show shapeCast S32768 x0 _ (tabIx (shapeCast Cert.DensIdeal.S40960 x1 _ _)) = Host.gather (takeDims 32768 8192 5 _) _ _ y
    rw [hc, gather_take_apply (by norm_num)]
    refine congrArg (shapeCast S32768 x0 shapeCasts_S1x32768_S32768) (funext fun a => Fin.ext ?_)
    obtain rfl : a = 0 := Subsingleton.elim _ _
    have hi : broadcastInDim S8192x5x1 ![0, 1] bcast_S8192x5_S8192x5x1_0_1 (wrapped x1) (takeIdx y) = x1 y :=
      (broadcastInDim_apply _ _ _ (takeIdx y) y (fun a => by fin_cases a <;> rfl)).trans (wrap_self _ _ hy)
    refine Eq.trans ?_ (congrArg (fun w : BitVec 32 => min w.toInt.toNat 32767) hi.symm)
    show (x1 y).toNat % 32768 = min (x1 y).toInt.toNat 32767
    rw [BitVec.toInt_eq_toNat_cond]
    split <;> omega

theorem algebraic : Cert.algebraic_DensIdeal_DensReferenceIdeal := fun m ρ m' ρ' hp hargs => by
  refine ⟨fun c => refOut (m ((SparseCore.T c).loc Cert.DensIdeal.main_arg0)) (m ((SparseCore.T c).loc Cert.DensIdeal.main_arg1))
    (m ((SparseCore.T c).loc Cert.DensIdeal.main_arg2)), ?_, ?_⟩
  · refine (θ_run _ _ _).mono (fun r h c => ⟨(h.1 c).1.trans ?_, (h.1 c).2⟩) (frame_of (F := Ideal) m ρ fun d j => cand_lt (hp d) j)
    unfold densOf
    rw [atCall_om, atCall_ca, atCall_nm]
    exact quotients_eq _ _ _ fun j => cand_lt (hp c) j
  · refine (θ_run _ _ _).mono (fun r h c => ⟨(h c).1.trans ?_, (h c).2⟩) (Cert.DensReferenceIdeal.Value.run (F := Ideal) m' ρ')
    obtain ⟨h0, h1, h2⟩ := hargs c
    rw [h0, h1, h2]

/-- The reference's frame: its run; it declares no semaphore. -/
theorem frame_ref : Cert.quiescent_DensReferenceIdeal := fun m ρ _ =>
  (θ_run _ _ _).mono (fun r h => ⟨fun c => (h c).2, Idealize.ShloMosaic.sem_eq_zero_of_no_sems (by decide) r.2⟩)
    (Cert.DensReferenceIdeal.Value.run (F := Ideal) m ρ)

end Cert.Proof.Dens

end
-- ==== Proof.Deal.lean ====
/-
  A SparseCore call's operands and results dealt to the thirty-two tiles, for calls whose tiles all read every operand and
  write one thirty-second of each result: each tile gets a read share of every operand and its own piece of every result.
-/
module

public import proofs.«01_k».proof.Proof.Parts

@[expose] public section

noncomputable section

namespace Cert.Proof.Deal

open Cert.Proof.Parts
open Idealize.ShloMosaic
open Idealize.ShloMosaic.StableHlo (held)
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Ix : Type} [DecidableEq Ix] {U : Type} [URA U]

local notation "𝕄" => MT nD τ sig Ix Val ℕ U ℕ

/-- One family of assertions over the tiles. -/
abbrev tiles (Φ : Fin 2 → Fin 16 → sProp 𝕄) : sProp 𝕄 := bigSep Finset.univ fun c : Fin 2 => bigSep Finset.univ fun i : Fin 16 => Φ c i

/-- Tile `(c, i)`'s piece of an array: the elements of the `2 i + c`-th thirty-second. -/
def piece (b : DevRef τ sig) (c : Fin 2) (i : Fin 16) : Finset b.ty.shape.Idx :=
  Finset.univ.filter fun x => ∀ a, (x a).val / (b.ty.shape.size a / 32) = 2 * i.val + c.val

/-- An array of one dimension that thirty-two tiles share evenly. -/
def Even (b : DevRef τ sig) : Prop := b.ty.shape.rank = 1 ∧ ∀ a, 0 < b.ty.shape.size a ∧ 32 ∣ b.ty.shape.size a

instance (b : DevRef τ sig) : Decidable (Even b) := by unfold Even; infer_instance

theorem piece_disjoint {b : DevRef τ sig} (hb : Even b) (c : Fin 2) (i : Fin 16) (c' : Fin 2) (i' : Fin 16) (hne : (c, i) ≠ (c', i')) :
    Disjoint (piece b c i) (piece b c' i') := by
  refine Finset.disjoint_left.mpr fun x hx hx' => hne ?_
  have a : Fin b.ty.shape.rank := ⟨0, by rw [hb.1]; exact Nat.one_pos⟩
  have h := (Finset.mem_filter.mp hx).2 a
  have h' := (Finset.mem_filter.mp hx').2 a
  have hc := c.isLt; have hc' := c'.isLt
  exact Prod.ext (Fin.ext (by show c.val = c'.val; omega)) (Fin.ext (by show i.val = i'.val; omega))

theorem piece_cover {b : DevRef τ sig} (hb : Even b) (x : b.ty.shape.Idx) : ∃ c i, x ∈ piece b c i := by
  have a : Fin b.ty.shape.rank := ⟨0, by rw [hb.1]; exact Nat.one_pos⟩
  obtain ⟨hp, n, hn⟩ := hb.2 a
  have hx := (x a).isLt
  have hq : b.ty.shape.size a / 32 = n := by omega
  have hv : (x a).val / n < 32 := by
    refine (Nat.div_lt_iff_lt_mul (by omega)).mpr ?_
    omega
  refine ⟨⟨((x a).val / n) % 2, by omega⟩, ⟨((x a).val / n) / 2, by omega⟩, Finset.mem_filter.mpr ⟨Finset.mem_univ _, fun a' => ?_⟩⟩
  obtain rfl : a' = a := by
    have h1 := a.isLt; have h2 := a'.isLt; have h3 := hb.1
    exact Fin.ext (by omega)
  show (x a').val / (b.ty.shape.size a' / 32) = 2 * (((x a').val / n) / 2) + ((x a').val / n) % 2
  rw [hq]; omega

/-- A conjunction of families over the tiles is the family of conjunctions. -/
theorem tiles_comm (S : Finset (DevRef τ sig)) (Φ : DevRef τ sig → Fin 2 → Fin 16 → sProp 𝕄) :
    (bigSep S fun b => tiles (Φ b)) = tiles fun c i => bigSep S fun b => Φ b c i := by
  induction S using Finset.induction_on with
  | empty =>
    have h : ∀ c : Fin 2, (bigSep (Finset.univ : Finset (Fin 16)) fun i => bigSep ∅ fun b => Φ b c i) = (iprop(emp) : sProp 𝕄) :=
      fun c => bigSep_none Finset.univ
    exact ((bigSep_congr fun c _ => h c).trans (bigSep_none _)).symm
  | insert b S hb ih =>
    rw [SparseCore.bigSep_insert' hb, ih, ← tiles_sep]
    have h : ∀ c i, (bigSep (insert b S) fun b => Φ b c i) = iprop(Φ b c i ∗ bigSep S fun b => Φ b c i) :=
      fun c i => SparseCore.bigSep_insert' hb
    exact bigSep_congr fun c _ => bigSep_congr fun i _ => (h c i).symm

variable (d : Dev nD) (I O : Finset (DevRef τ sig)) (A : Valuation τ sig Val)

/-- Operands at a share. -/
def shared (q : PosShare TreeShare) : sProp 𝕄 := bigSep I fun b => (((d, b) : Loc nD τ sig) ↦{q} A b)
/-- Tile `(c, i)`'s pieces of the results, each at some contents; -/
def somePieces (c : Fin 2) (i : Fin 16) : sProp 𝕄 := bigSep O fun b => iprop(∃ f, ((d, b) : Loc nD τ sig) ↦[piece b c i]{fullShare} f)
/-- at what `A` says. -/
def pieces (c : Fin 2) (i : Fin 16) : sProp 𝕄 := bigSep O fun b => (((d, b) : Loc nD τ sig) ↦[piece b c i]{fullShare} A b)

theorem shared_tiles : (shared d I A fullShare : sProp 𝕄) = iprop(shared d I A restShare ∗ tiles fun c i => shared d I A (tileShare c i)) := by
  unfold shared
  rw [← tiles_comm, ← bigSep_sep']
  exact bigSep_congr fun b _ => (share_tiles _ _).1.antisymm (share_tiles _ _).2

theorem pieces_tiles (hO : ∀ b ∈ O, Even b) : (shared d O A fullShare : sProp 𝕄) = tiles fun c i => pieces d O A c i := by
  unfold shared pieces
  rw [← tiles_comm]
  exact bigSep_congr fun b hb => cut_tiles ((d, b) : Loc nD τ sig) (A b) (piece b) (piece_disjoint (hO b hb)) (piece_cover (hO b hb))

theorem pieces_some (c : Fin 2) (i : Fin 16) : (pieces d O A c i : sProp 𝕄) ⊢ somePieces d O c i := by
  have h : ∀ b, (((d, b) : Loc nD τ sig) ↦[piece b c i]{fullShare} A b : sProp 𝕄) ⊢ iprop(∃ f, ((d, b) : Loc nD τ sig) ↦[piece b c i]{fullShare} f) := by
    intro b
    iintro H
    iexists (A b)
    iexact H
  exact bigSep_mono fun b _ => h b

/-- What a tile is handed, and what it hands back. -/
def given (c : Fin 2) (i : Fin 16) : sProp 𝕄 := iprop(shared d I A (tileShare c i) ∗ somePieces d O c i)
def returned (A' : Valuation τ sig Val) (c : Fin 2) (i : Fin 16) : sProp 𝕄 := iprop(shared d I A (tileShare c i) ∗ pieces d O A' c i)

instance (q : PosShare TreeShare) : Storable (upEmb : UEmb _ 𝕄) (shared d I A q : sProp 𝕄) := by unfold shared; infer_instance
instance (c : Fin 2) (i : Fin 16) : Storable (upEmb : UEmb _ 𝕄) (somePieces d O c i : sProp 𝕄) := by unfold somePieces; infer_instance
instance (c : Fin 2) (i : Fin 16) : Storable (upEmb : UEmb _ 𝕄) (pieces d O A c i : sProp 𝕄) := by unfold pieces; infer_instance
instance (c : Fin 2) (i : Fin 16) : Storable (upEmb : UEmb _ 𝕄) (given d I O A c i : sProp 𝕄) := by unfold given; infer_instance
instance (A' : Valuation τ sig Val) (c : Fin 2) (i : Fin 16) : Storable (upEmb : UEmb _ 𝕄) (returned d I O A A' c i : sProp 𝕄) := by unfold returned; infer_instance

theorem held_shared (hd : Disjoint I O) : (held (SparseCore.T d) (I ∪ O) A : sProp 𝕄) = iprop(shared d I A fullShare ∗ shared d O A fullShare) :=
  bigSep_union hd

/-- The arrays whole are what the tiles are handed and the operands' rest; -/
theorem deal (hd : Disjoint I O) (hO : ∀ b ∈ O, Even b) :
    (held (SparseCore.T d) (I ∪ O) A : sProp 𝕄) ⊢ iprop(shared d I A restShare ∗ tiles fun c i => given d I O A c i) := by
  rw [held_shared d I O A hd, shared_tiles, pieces_tiles d O A hO]
  have h : (iprop((tiles fun c i => shared d I A (tileShare c i)) ∗ tiles fun c i => pieces d O A c i) : sProp 𝕄) ⊢ tiles fun c i => given d I O A c i := by
    rw [← tiles_sep]
    exact bigSep_mono fun c _ => bigSep_mono fun i _ => sep_mono .rfl (pieces_some d O A c i)
  iintro ⟨⟨Hr, Hs⟩, Hp⟩
  isplitl [Hr]; · iexact Hr
  iapply h
  isplitl [Hs] <;> iassumption

/-- and back, the results at what the tiles say. -/
theorem join (A' : Valuation τ sig Val) (hd : Disjoint I O) (hO : ∀ b ∈ O, Even b) (hA : ∀ b ∈ I, A' b = A b) :
    iprop(shared d I A restShare ∗ tiles fun c i => returned d I O A A' c i) ⊢ (held (SparseCore.T d) (I ∪ O) A' : sProp 𝕄) := by
  have e : (shared d I A' fullShare : sProp 𝕄) = shared d I A fullShare := bigSep_congr fun b hb => by rw [hA b hb]
  rw [held_shared d I O A' hd, e, shared_tiles, pieces_tiles d O A' hO]
  unfold returned
  rw [show (tiles fun c i => iprop(shared d I A (tileShare c i) ∗ pieces d O A' c i) : sProp 𝕄) = _ from tiles_sep _ _]
  iintro ⟨Hr, Hs, Hp⟩
  isplitr [Hp]
  · isplitl [Hr] <;> iassumption
  · iexact Hp

end Cert.Proof.Deal

end
-- ==== Proof.PrepLane.lean ====
/-
  What the prep call computes for one tetrahedron: from the four vertex words and the circumcentre's coordinates, the
  half-way point between the centroid and the circumcentre, its squared length, and the least squared edge length. The
  vertex table is flat, so that coordinate `c` of vertex `w` lies at `3 w + c`.
-/
module

public import proofs.«01_k».proof.Proof.Parts
public import Idealize.ShloMosaic.Lib.SparseCore.Ops

@[expose] public section

noncomputable section

namespace Cert.Proof.Lane

open Idealize.ShloMosaic

variable {F : FTy → Type} [FloatOps F]

/-- The flat vertex table's shape, and one lane group's. -/
abbrev Flat : Shape := ⟨1, ![30000]⟩
abbrev Lanes : Shape := ⟨1, ![16]⟩

/-- The word of a flat table's element, as its index. -/
def tabIx (w : BitVec 32) : Flat.Idx := fun a => ⟨w.toNat % Flat.size a, Nat.mod_lt _ (by fin_cases a; decide)⟩

/-- Coordinate `c` of vertex `w`. -/
def corner (vp : Flat.Idx → F .f32) (w c : BitVec 32) : F .f32 := vp (tabIx (IntOp.addi (IntOp.muli w 3#32) c))

/-- Half of (the mean of four corners plus the circumcentre), one coordinate. -/
def mid (a b c d m : F .f32) : F .f32 :=
  FloatOps.mulf (Scalar.ofBits .f32 0x3F000000#32)
    (FloatOps.addf (FloatOps.mulf (FloatOps.addf (FloatOps.addf a c) (FloatOps.addf b d)) (Scalar.ofBits .f32 0x3E800000#32)) m)

def sqLen (x y z : F .f32) : F .f32 := FloatOps.addf (FloatOps.addf (FloatOps.mulf x x) (FloatOps.mulf z z)) (FloatOps.mulf y y)

/-- The squared distance of two corners. -/
def sqDist (x y z x' y' z' : F .f32) : F .f32 :=
  FloatOps.addf (FloatOps.addf (FloatOps.mulf (FloatOps.subf x x') (FloatOps.subf x x')) (FloatOps.mulf (FloatOps.subf y y') (FloatOps.subf y y')))
    (FloatOps.mulf (FloatOps.subf z z') (FloatOps.subf z z'))

/-- The least squared edge length of the tetrahedron with corners `(x i, y i, z i)`. -/
def shortest (x y z : Fin 4 → F .f32) : F .f32 :=
  FloatOps.minimumf (FloatOps.minimumf (FloatOps.minimumf (FloatOps.minimumf (FloatOps.minimumf
    (sqDist (x 0) (y 0) (z 0) (x 1) (y 1) (z 1)) (sqDist (x 0) (y 0) (z 0) (x 2) (y 2) (z 2))) (sqDist (x 0) (y 0) (z 0) (x 3) (y 3) (z 3)))
    (sqDist (x 1) (y 1) (z 1) (x 2) (y 2) (z 2))) (sqDist (x 1) (y 1) (z 1) (x 3) (y 3) (z 3))) (sqDist (x 2) (y 2) (z 2) (x 3) (y 3) (z 3))

section Arrays

variable {I : Type} (vp : Flat.Idx → F .f32) (r : Fin 4 → I → BitVec 32) (m : I → F .f32)

/-- One coordinate of the points, over an array of tetrahedra. -/
def point (c : BitVec 32) (j : I) : F .f32 := mid (corner vp (r 0 j) c) (corner vp (r 1 j) c) (corner vp (r 2 j) c) (corner vp (r 3 j) c) (m j)

/-- The points' squared lengths. -/
def norm (m : Fin 3 → I → F .f32) (j : I) : F .f32 := sqLen (point vp r (m 0) 0#32 j) (point vp r (m 1) 1#32 j) (point vp r (m 2) 2#32 j)

/-- The least squared edge lengths. -/
def edge (j : I) : F .f32 := shortest (fun i => corner vp (r i j) 0#32) (fun i => corner vp (r i j) 1#32) (fun i => corner vp (r i j) 2#32)

end Arrays

/-- A vertex word in range reads inside the flat table. -/
theorem flat_lt {w c : BitVec 32} (hw : w.toNat < 10000) (hc : c.toNat < 3) : (IntOp.addi (IntOp.muli w 3#32) c).toNat < 30000 := by
  show (w * 3#32 + c).toNat < 30000
  rw [BitVec.toNat_add, BitVec.toNat_mul, show (3#32).toNat = 3 from rfl,
    Nat.mod_eq_of_lt (a := w.toNat * 3) (by omega), Nat.mod_eq_of_lt (by omega)]
  omega

/-- Sixteen words in range pass the indexed load's check. -/
theorem lanes_lt {v : IVec Lanes 32} {c : BitVec 32} (hv : ∀ x, (v x).toNat < 10000) (hc : c.toNat < 3) :
    ∀ (a : Fin 1) x, ((![addi (muli v (broadcast Lanes 3#32)) (broadcast Lanes c)] : Fin 1 → IVec Lanes 32) a x).toNat < Flat.size a := by
  intro a x
  obtain rfl : a = 0 := Subsingleton.elim _ _
  exact flat_lt (hv x) hc

/-- The indexed load's lanes are the vertices' coordinates. -/
theorem load_lane {vp : Flat.Idx → F .f32} {v : IVec Lanes 32} {c : BitVec 32}
    (h : ∀ (a : Fin 1) x, ((![addi (muli v (broadcast Lanes 3#32)) (broadcast Lanes c)] : Fin 1 → IVec Lanes 32) a x).toNat < Flat.size a) (y : Lanes.Idx) :
    loadIdx (e := .f32) (F := F) vp ![addi (muli v (broadcast Lanes 3#32)) (broadcast Lanes c)] h y = corner vp (v y) c := by
  refine Parts.loadIdx_eq (F := F) (e := .f32) _ fun a => ?_
  obtain rfl : a = 0 := Subsingleton.elim _ _
  exact Nat.mod_eq_of_lt (h 0 y)

end Cert.Proof.Lane

end
-- ==== Proof.PrepTrip.lean ====
/-
  One tile of the prep call runs through its share of the old and then of the new tetrahedra, sixteen at a time. Here is one
  trip of each loop: what it stores continues the five results' rows, in the words of `PrepLane`.
-/
module

public import proofs.«01_k».proof.Defs
public import proofs.«01_k».proof.Proof.PrepLane
public import proofs.«01_k».proof.Proof.Gen.PrepIdeal
public import proofs.«01_k».proof.Proof.Gen.PrepIdeal.Skeleton

@[expose] public section

noncomputable section

namespace Cert.Proof.Prep

open Cert.PrepIdeal Cert.PrepIdeal.Gen Cert.Proof.Parts Cert.Proof.Lane

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable [FloatOps F]

section Tile

variable (d : Dev nD) (L : grid0.Coords)

abbrev cV (L : grid0.Coords) : Fin τ.nSC := (L 0).castLE hcore0
abbrev jV (L : grid0.Coords) : Fin τ.nSub := (L 1).castLE hsub0

/-- The tile's pieces of the arrays over the old and over the new tetrahedra. -/
abbrev oldR (L : grid0.Coords) : Rect S32768 := Rect.unit (s := S32768) (k0_off1 L) S1024.size (k0_off1_inb L)
abbrev newR (L : grid0.Coords) : Rect S8192 := Rect.unit (s := S8192) (k0_off2 L) S256.size (k0_off2_inb L)
abbrev oldE (L : grid0.Coords) (x : S1024.Idx) : S32768.Idx := (oldR L).emb x
abbrev newE (L : grid0.Coords) (x : S256.Idx) : S8192.Idx := (newR L).emb x

/-- The kernel on the operands and scratch the body table passes. -/
abbrev body (L : grid0.Coords) : Prog (TpuEff nD τ sig (Elt F) Λ₀ (.scVector (cV L) (jV L))) PUnit :=
  cc0__prep_body L
      (Memref.whole main_v1_scv) (Memref.isWhole_whole _) (Memref.whole main_v3_scv) (Memref.isWhole_whole _) (Memref.whole main_v5_scv) (Memref.isWhole_whole _)
      (Memref.whole main_v7_scv) (Memref.isWhole_whole _) (Memref.whole main_v17_scv) (Memref.isWhole_whole _) (Memref.whole main_v19_scv) (Memref.isWhole_whole _)
      (Memref.whole main_v21_scv) (Memref.isWhole_whole _) (Memref.whole main_v9_scv) (Memref.isWhole_whole _) (Memref.whole main_v11_scv) (Memref.isWhole_whole _)
      (Memref.whole main_v13_scv) (Memref.isWhole_whole _) (Memref.whole main_v15_scv) (Memref.isWhole_whole _) (Memref.whole main_v23_scv) (Memref.isWhole_whole _)
      (Memref.whole main_v25_scv) (Memref.isWhole_whole _) (Memref.whole main_v27_scv) (Memref.isWhole_whole _) (Memref.whole main_v28_scv) (Memref.isWhole_whole _)
      (Memref.whole main_v29_0_scv) (Memref.isWhole_whole _) (Memref.whole main_v29_1_scv) (Memref.isWhole_whole _) (Memref.whole main_v29_2_scv) (Memref.isWhole_whole _)
      (Memref.whole main_v29_3_scv) (Memref.isWhole_whole _) (Memref.whole main_v29_4_scv) (Memref.isWhole_whole _) (Memref.whole main_v29_5_scv) (Memref.isWhole_whole _)
      (Memref.whole main_v29_6_scv) (Memref.isWhole_whole _) (Memref.whole main_v29_7_scv) (Memref.isWhole_whole _) (Memref.whole main_v29_8_scv) (Memref.isWhole_whole _)
      (Memref.whole main_v29_9_scv) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      (Memref.whole cc0_scratch5) (Memref.isWhole_whole _) (Memref.whole cc0_scratch6) (Memref.isWhole_whole _) (Memref.whole cc0_scratch7) (Memref.isWhole_whole _)
      (Memref.whole cc0_scratch8) (Memref.isWhole_whole _) (Memref.whole cc0_scratch9) (Memref.isWhole_whole _) (Memref.whole cc0_scratch10) (Memref.isWhole_whole _)
      (Memref.whole cc0_scratch11) (Memref.isWhole_whole _) (Memref.whole cc0_scratch12) (Memref.isWhole_whole _) (Memref.whole cc0_scratch13) (Memref.isWhole_whole _)
      (Memref.whole cc0_scratch14) (Memref.isWhole_whole _) (Memref.whole cc0_scratch15) (Memref.isWhole_whole _) (Memref.whole cc0_scratch16) (Memref.isWhole_whole _)
      (Memref.whole cc0_scratch17) (Memref.isWhole_whole _) (Memref.whole cc0_scratch18) (Memref.isWhole_whole _) (Memref.whole cc0_scratch19) (Memref.isWhole_whole _)
      (Memref.whole cc0_scratch20) (Memref.isWhole_whole _) (Memref.whole cc0_scratch21) (Memref.isWhole_whole _) (Memref.whole cc0_scratch22) (Memref.isWhole_whole _)
      (Memref.whole cc0_scratch23) (Memref.isWhole_whole _) (Memref.whole cc0_scratch24) (Memref.isWhole_whole _)
      cc0_scoped0 cc0_scoped1 cc0_scoped2 cc0_scoped3 cc0_scoped4 cc0_scoped5 cc0_scoped6 cc0_scoped7 cc0_scoped8
      cc0_scoped9 cc0_scoped10 cc0_scoped11 cc0_scoped12 cc0_scoped13 cc0_scoped14 cc0_scoped15 cc0_scoped16 cc0_scoped17
      cc0_scoped18 cc0_scoped19 cc0_scoped20 cc0_scoped21 cc0_scoped22 cc0_scoped23 cc0_scoped24
/-- One trip of its loop over the old tetrahedra, and of the loop over the new ones. -/
abbrev trip1 (L : grid0.Coords) (v1 c0 : BitVec 32) :=
  k0_t1_body (F := F) L
      (Memref.whole main_v1_scv) (Memref.isWhole_whole _) (Memref.whole main_v3_scv) (Memref.isWhole_whole _) (Memref.whole main_v5_scv) (Memref.isWhole_whole _)
      (Memref.whole main_v7_scv) (Memref.isWhole_whole _) (Memref.whole main_v17_scv) (Memref.isWhole_whole _) (Memref.whole main_v19_scv) (Memref.isWhole_whole _)
      (Memref.whole main_v21_scv) (Memref.isWhole_whole _) (Memref.whole main_v9_scv) (Memref.isWhole_whole _) (Memref.whole main_v11_scv) (Memref.isWhole_whole _)
      (Memref.whole main_v13_scv) (Memref.isWhole_whole _) (Memref.whole main_v15_scv) (Memref.isWhole_whole _) (Memref.whole main_v23_scv) (Memref.isWhole_whole _)
      (Memref.whole main_v25_scv) (Memref.isWhole_whole _) (Memref.whole main_v27_scv) (Memref.isWhole_whole _) (Memref.whole main_v28_scv) (Memref.isWhole_whole _)
      (Memref.whole main_v29_0_scv) (Memref.isWhole_whole _) (Memref.whole main_v29_1_scv) (Memref.isWhole_whole _) (Memref.whole main_v29_2_scv) (Memref.isWhole_whole _)
      (Memref.whole main_v29_3_scv) (Memref.isWhole_whole _) (Memref.whole main_v29_4_scv) (Memref.isWhole_whole _) (Memref.whole main_v29_5_scv) (Memref.isWhole_whole _)
      (Memref.whole main_v29_6_scv) (Memref.isWhole_whole _) (Memref.whole main_v29_7_scv) (Memref.isWhole_whole _) (Memref.whole main_v29_8_scv) (Memref.isWhole_whole _)
      (Memref.whole main_v29_9_scv) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      (Memref.whole cc0_scratch5) (Memref.isWhole_whole _) (Memref.whole cc0_scratch6) (Memref.isWhole_whole _) (Memref.whole cc0_scratch7) (Memref.isWhole_whole _)
      (Memref.whole cc0_scratch8) (Memref.isWhole_whole _) (Memref.whole cc0_scratch9) (Memref.isWhole_whole _) (Memref.whole cc0_scratch10) (Memref.isWhole_whole _)
      (Memref.whole cc0_scratch11) (Memref.isWhole_whole _) (Memref.whole cc0_scratch12) (Memref.isWhole_whole _) (Memref.whole cc0_scratch13) (Memref.isWhole_whole _)
      (Memref.whole cc0_scratch14) (Memref.isWhole_whole _) (Memref.whole cc0_scratch15) (Memref.isWhole_whole _) (Memref.whole cc0_scratch16) (Memref.isWhole_whole _)
      (Memref.whole cc0_scratch17) (Memref.isWhole_whole _) (Memref.whole cc0_scratch18) (Memref.isWhole_whole _) (Memref.whole cc0_scratch19) (Memref.isWhole_whole _)
      (Memref.whole cc0_scratch20) (Memref.isWhole_whole _) (Memref.whole cc0_scratch21) (Memref.isWhole_whole _) (Memref.whole cc0_scratch22) (Memref.isWhole_whole _)
      (Memref.whole cc0_scratch23) (Memref.isWhole_whole _) (Memref.whole cc0_scratch24) (Memref.isWhole_whole _)
      cc0_scoped0 cc0_scoped1 cc0_scoped2 cc0_scoped3 cc0_scoped4 cc0_scoped5 cc0_scoped6 cc0_scoped7 cc0_scoped8
      cc0_scoped9 cc0_scoped10 cc0_scoped11 cc0_scoped12 cc0_scoped13 cc0_scoped14 cc0_scoped15 cc0_scoped16 cc0_scoped17
      cc0_scoped18 cc0_scoped19 cc0_scoped20 cc0_scoped21 cc0_scoped22 cc0_scoped23 cc0_scoped24 v1 c0
abbrev trip2 (L : grid0.Coords) (v1 c0 : BitVec 32) :=
  k0_t2_body (F := F) L
      (Memref.whole main_v1_scv) (Memref.isWhole_whole _) (Memref.whole main_v3_scv) (Memref.isWhole_whole _) (Memref.whole main_v5_scv) (Memref.isWhole_whole _)
      (Memref.whole main_v7_scv) (Memref.isWhole_whole _) (Memref.whole main_v17_scv) (Memref.isWhole_whole _) (Memref.whole main_v19_scv) (Memref.isWhole_whole _)
      (Memref.whole main_v21_scv) (Memref.isWhole_whole _) (Memref.whole main_v9_scv) (Memref.isWhole_whole _) (Memref.whole main_v11_scv) (Memref.isWhole_whole _)
      (Memref.whole main_v13_scv) (Memref.isWhole_whole _) (Memref.whole main_v15_scv) (Memref.isWhole_whole _) (Memref.whole main_v23_scv) (Memref.isWhole_whole _)
      (Memref.whole main_v25_scv) (Memref.isWhole_whole _) (Memref.whole main_v27_scv) (Memref.isWhole_whole _) (Memref.whole main_v28_scv) (Memref.isWhole_whole _)
      (Memref.whole main_v29_0_scv) (Memref.isWhole_whole _) (Memref.whole main_v29_1_scv) (Memref.isWhole_whole _) (Memref.whole main_v29_2_scv) (Memref.isWhole_whole _)
      (Memref.whole main_v29_3_scv) (Memref.isWhole_whole _) (Memref.whole main_v29_4_scv) (Memref.isWhole_whole _) (Memref.whole main_v29_5_scv) (Memref.isWhole_whole _)
      (Memref.whole main_v29_6_scv) (Memref.isWhole_whole _) (Memref.whole main_v29_7_scv) (Memref.isWhole_whole _) (Memref.whole main_v29_8_scv) (Memref.isWhole_whole _)
      (Memref.whole main_v29_9_scv) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      (Memref.whole cc0_scratch5) (Memref.isWhole_whole _) (Memref.whole cc0_scratch6) (Memref.isWhole_whole _) (Memref.whole cc0_scratch7) (Memref.isWhole_whole _)
      (Memref.whole cc0_scratch8) (Memref.isWhole_whole _) (Memref.whole cc0_scratch9) (Memref.isWhole_whole _) (Memref.whole cc0_scratch10) (Memref.isWhole_whole _)
      (Memref.whole cc0_scratch11) (Memref.isWhole_whole _) (Memref.whole cc0_scratch12) (Memref.isWhole_whole _) (Memref.whole cc0_scratch13) (Memref.isWhole_whole _)
      (Memref.whole cc0_scratch14) (Memref.isWhole_whole _) (Memref.whole cc0_scratch15) (Memref.isWhole_whole _) (Memref.whole cc0_scratch16) (Memref.isWhole_whole _)
      (Memref.whole cc0_scratch17) (Memref.isWhole_whole _) (Memref.whole cc0_scratch18) (Memref.isWhole_whole _) (Memref.whole cc0_scratch19) (Memref.isWhole_whole _)
      (Memref.whole cc0_scratch20) (Memref.isWhole_whole _) (Memref.whole cc0_scratch21) (Memref.isWhole_whole _) (Memref.whole cc0_scratch22) (Memref.isWhole_whole _)
      (Memref.whole cc0_scratch23) (Memref.isWhole_whole _) (Memref.whole cc0_scratch24) (Memref.isWhole_whole _)
      cc0_scoped0 cc0_scoped1 cc0_scoped2 cc0_scoped3 cc0_scoped4 cc0_scoped5 cc0_scoped6 cc0_scoped7 cc0_scoped8
      cc0_scoped9 cc0_scoped10 cc0_scoped11 cc0_scoped12 cc0_scoped13 cc0_scoped14 cc0_scoped15 cc0_scoped16 cc0_scoped17
      cc0_scoped18 cc0_scoped19 cc0_scoped20 cc0_scoped21 cc0_scoped22 cc0_scoped23 cc0_scoped24 v1 c0

/-! ### A trip's stored values, one lane -/

/-- An indexed load from the vertex table's scratch buffer. -/
theorem load_at {vp : Flat.Idx → F .f32} {v : IVec Lanes 32} {c : BitVec 32}
    (h : ∀ (a : Fin 1) x, ((![addi (muli v (broadcast Lanes 3#32)) (broadcast Lanes c)] : Fin 1 → IVec Lanes 32) a x).toNat < Flat.size a) (y : Lanes.Idx) :
    loadIdx (e := .f32) (View.read (Elt F) ((Memref.whole cc0_scratch0 : Memref sig .scVector .vmem S30000 .f32).access (Rect.whole cc0_scratch0.ty.shape)) vp)
      ![addi (muli v (broadcast Lanes 3#32)) (broadcast Lanes c)] h y = corner vp (v y) c :=
  (load_lane h y).trans (congrArg vp (Rect.emb_whole_apply S30000 _))

/-- A point's coordinate, from its corners' and its circumcentre's. -/
theorem pt_lane {a b c d m : FVec F S16 .f32} {y : S16.Idx} {a' b' c' d' m' : F .f32} (ha : a y = a') (hb : b y = b') (hc : c y = c') (hd : d y = d')
    (hm : m y = m') : k0_pay17 a b c d m y = mid a' b' c' d' m' := by
  subst ha hb hc hd hm; unfold k0_pay17; rfl

/-- A squared length, from the point's coordinates. -/
theorem norm_lane {a b c : FVec F S16 .f32} {y : S16.Idx} {a' b' c' : F .f32} (ha : a y = a') (hb : b y = b') (hc : c y = c') :
    k0_pay21 b c (mulf a a) y = sqLen a' b' c' := by
  subst ha hb hc; unfold k0_pay21; rfl

/-- A least squared edge length, from the corners' coordinates. -/
theorem edge_lane {a b c d a₁ b₁ c₁ d₁ a₂ b₂ c₂ d₂ : FVec F S16 .f32} {y : S16.Idx} {p q r : Fin 4 → F .f32}
    (h0 : a y = p 0) (h1 : b y = p 1) (h2 : c y = p 2) (h3 : d y = p 3) (k0 : a₁ y = q 0) (k1 : b₁ y = q 1) (k2 : c₁ y = q 2) (k3 : d₁ y = q 3)
    (l0 : a₂ y = r 0) (l1 : b₂ y = r 1) (l2 : c₂ y = r 2) (l3 : d₂ y = r 3) :
    k0_pay22 a b c d a₁ b₁ c₁ d₁ a₂ b₂ c₂ d₂ y = shortest p q r := by
  unfold shortest; rw [← h0, ← h1, ← h2, ← h3, ← k0, ← k1, ← k2, ← k3, ← l0, ← l1, ← l2, ← l3]; unfold k0_pay22; rfl

/-- Before trip `k` of the loop over the old tetrahedra the first `16 k` entries of its five results are in their scratch buffers. -/
def inv1 (vp : Flat.Idx → F .f32) (r : Fin 4 → S32768.Idx → BitVec 32) (m : Fin 3 → S32768.Idx → F .f32) (k : Nat) (_ : BitVec 32) : sProp 𝕄 :=
  iprop(((Memref.whole cc0_scratch0).view.loc (V d (cV L) (jV L)) ↦{fullShare} vp)
    ∗ ((Memref.whole cc0_scratch1).view.loc (V d (cV L) (jV L)) ↦{fullShare} fun x : S1024.Idx => r 0 (oldE L x))
    ∗ ((Memref.whole cc0_scratch2).view.loc (V d (cV L) (jV L)) ↦{fullShare} fun x : S1024.Idx => r 1 (oldE L x))
    ∗ ((Memref.whole cc0_scratch3).view.loc (V d (cV L) (jV L)) ↦{fullShare} fun x : S1024.Idx => r 2 (oldE L x))
    ∗ ((Memref.whole cc0_scratch4).view.loc (V d (cV L) (jV L)) ↦{fullShare} fun x : S1024.Idx => r 3 (oldE L x))
    ∗ ((Memref.whole cc0_scratch5).view.loc (V d (cV L) (jV L)) ↦{fullShare} fun x : S1024.Idx => m 0 (oldE L x))
    ∗ ((Memref.whole cc0_scratch6).view.loc (V d (cV L) (jV L)) ↦{fullShare} fun x : S1024.Idx => m 1 (oldE L x))
    ∗ ((Memref.whole cc0_scratch7).view.loc (V d (cV L) (jV L)) ↦{fullShare} fun x : S1024.Idx => m 2 (oldE L x))
    ∗ (∃ f, ⌜∀ x : S1024.Idx, (x 0).val < 16 * k → f x = point vp r (m 0) 0#32 (oldE L x)⌝ ∗ (Memref.whole cc0_scratch15).view.loc (V d (cV L) (jV L)) ↦{fullShare} f)
    ∗ (∃ f, ⌜∀ x : S1024.Idx, (x 0).val < 16 * k → f x = point vp r (m 1) 1#32 (oldE L x)⌝ ∗ (Memref.whole cc0_scratch16).view.loc (V d (cV L) (jV L)) ↦{fullShare} f)
    ∗ (∃ f, ⌜∀ x : S1024.Idx, (x 0).val < 16 * k → f x = point vp r (m 2) 2#32 (oldE L x)⌝ ∗ (Memref.whole cc0_scratch17).view.loc (V d (cV L) (jV L)) ↦{fullShare} f)
    ∗ (∃ f, ⌜∀ x : S1024.Idx, (x 0).val < 16 * k → f x = norm vp r m (oldE L x)⌝ ∗ (Memref.whole cc0_scratch18).view.loc (V d (cV L) (jV L)) ↦{fullShare} f)
    ∗ ∃ f, ⌜∀ x : S1024.Idx, (x 0).val < 16 * k → f x = edge vp r (oldE L x)⌝ ∗ (Memref.whole cc0_scratch19).view.loc (V d (cV L) (jV L)) ↦{fullShare} f)

/-- A trip's store of the entries `16 k …` of `G` joins the entries already in a result's scratch buffer. -/
theorem stored1 (k : Fin k0_t1_loop.trips) (f : S1024.Idx → F .f32) (G : S32768.Idx → F .f32)
    (hf : ∀ x : S1024.Idx, (x 0).val < 16 * k.val → f x = G (oldE L x)) (w : Lanes.Idx → F .f32)
    (hw : ∀ y, w y = G (oldE L ((Rect.unit (s := S1024) (k0_off3 k) S16.size (k0_off3_inb k)).emb y))) (x : S1024.Idx) (hx : (x 0).val < 16 * (k.val + 1)) :
    (Memref.whole cc0_scratch15).view.writes (Elt F) f [⟨Rect.unit (s := S1024) (k0_off4 k) S16.size (k0_off4_inb k), w⟩] x = G (oldE L x) :=
  row_stored (Val := Elt F) (e := .f32) (Memref.whole cc0_scratch15).view f (k0_off4 k) S16.size (k0_off4_inb k) w (fun x => G (oldE L x)) (k0_off4_eq k) rfl hw x
    (by rw [show S16.size 0 = 16 from rfl]; omega) (hf x)

set_option maxHeartbeats 4000000 in
theorem trip1_ok (v1 c0 : BitVec 32) (vp : Flat.Idx → F .f32) (r : Fin 4 → S32768.Idx → BitVec 32) (m : Fin 3 → S32768.Idx → F .f32)
    (hr : ∀ i j, (r i j).toNat < 10000) (k : Fin k0_t1_loop.trips) (c : BitVec 32) :
    inv1 d L vp r m k.val c
      ⊢ wp frame (wpE (defs₀ (F := F)) 𝒱₀ (V d (cV L) (jV L)) none) Set.univ (trip1 (F := F) L v1 c0 k c) (inv1 d L vp r m (k.val + 1)) := by
  unfold trip1 k0_t1_body
  simp only [k0_part1_eq_skeleton, k0_part2_eq_skeleton, k0_part3_eq_skeleton]
  unfold k0_part1_skel k0_part2_skel k0_part3_skel
  simp only [bind_assoc, pure_bind]
  unfold inv1
  iintro ⟨H0, H1, H2, H3, H4, H5, H6, H7, ⟨%f15, %hf15, H15⟩, ⟨%f16, %hf16, H16⟩, ⟨%f17, %hf17, H17⟩, ⟨%f18, %hf18, H18⟩, ⟨%f19, %hf19, H19⟩⟩
  sl_exec (disch := exact lanes_lt (fun _ => hr _ _) (by decide))
  iterate 12
    iapply (SparseCore.wp_vectorLoadIdx 𝒱₀ (V d (cV L) (jV L)) none Set.univ (base := Memref.whole cc0_scratch0) (S := Finset.univ) (q := fullShare) (Finset.subset_univ _)) $$ H0; iintro H0
    sl_exec (disch := exact lanes_lt (fun _ => hr _ _) (by decide))
  sl_step
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H15]
  · iexists _; isplitr [H15]; rotate_left
    · iexact H15
    · ipureintro
      exact stored1 L k f15 _ hf15 _ fun y => (pt_lane (load_at _ y) (load_at _ y) (load_at _ y) (load_at _ y) rfl)
  isplitl [H16]
  · iexists _; isplitr [H16]; rotate_left
    · iexact H16
    · ipureintro
      exact stored1 L k f16 _ hf16 _ fun y => (pt_lane (load_at _ y) (load_at _ y) (load_at _ y) (load_at _ y) rfl)
  isplitl [H17]
  · iexists _; isplitr [H17]; rotate_left
    · iexact H17
    · ipureintro
      exact stored1 L k f17 _ hf17 _ fun y => (pt_lane (load_at _ y) (load_at _ y) (load_at _ y) (load_at _ y) rfl)
  isplitl [H18]
  · iexists _; isplitr [H18]; rotate_left
    · iexact H18
    · ipureintro
      exact stored1 L k f18 _ hf18 _ fun y => (norm_lane (pt_lane (load_at _ y) (load_at _ y) (load_at _ y) (load_at _ y) rfl) (pt_lane (load_at _ y) (load_at _ y) (load_at _ y) (load_at _ y) rfl) (pt_lane (load_at _ y) (load_at _ y) (load_at _ y) (load_at _ y) rfl))
  · iexists _; isplitr [H19]; rotate_left
    · iexact H19
    · ipureintro
      exact stored1 L k f19 _ hf19 _ fun y => (edge_lane (load_at _ y) (load_at _ y) (load_at _ y) (load_at _ y) (load_at _ y) (load_at _ y) (load_at _ y) (load_at _ y) (load_at _ y) (load_at _ y) (load_at _ y) (load_at _ y))

/-- Before trip `k` of the loop over the new tetrahedra the first `16 k` entries of its five results are in their scratch buffers. -/
def inv2 (vp : Flat.Idx → F .f32) (r : Fin 4 → S8192.Idx → BitVec 32) (m : Fin 3 → S8192.Idx → F .f32) (k : Nat) (_ : BitVec 32) : sProp 𝕄 :=
  iprop(((Memref.whole cc0_scratch0).view.loc (V d (cV L) (jV L)) ↦{fullShare} vp)
    ∗ ((Memref.whole cc0_scratch8).view.loc (V d (cV L) (jV L)) ↦{fullShare} fun x : S256.Idx => r 0 (newE L x))
    ∗ ((Memref.whole cc0_scratch9).view.loc (V d (cV L) (jV L)) ↦{fullShare} fun x : S256.Idx => r 1 (newE L x))
    ∗ ((Memref.whole cc0_scratch10).view.loc (V d (cV L) (jV L)) ↦{fullShare} fun x : S256.Idx => r 2 (newE L x))
    ∗ ((Memref.whole cc0_scratch11).view.loc (V d (cV L) (jV L)) ↦{fullShare} fun x : S256.Idx => r 3 (newE L x))
    ∗ ((Memref.whole cc0_scratch12).view.loc (V d (cV L) (jV L)) ↦{fullShare} fun x : S256.Idx => m 0 (newE L x))
    ∗ ((Memref.whole cc0_scratch13).view.loc (V d (cV L) (jV L)) ↦{fullShare} fun x : S256.Idx => m 1 (newE L x))
    ∗ ((Memref.whole cc0_scratch14).view.loc (V d (cV L) (jV L)) ↦{fullShare} fun x : S256.Idx => m 2 (newE L x))
    ∗ (∃ f, ⌜∀ x : S256.Idx, (x 0).val < 16 * k → f x = point vp r (m 0) 0#32 (newE L x)⌝ ∗ (Memref.whole cc0_scratch20).view.loc (V d (cV L) (jV L)) ↦{fullShare} f)
    ∗ (∃ f, ⌜∀ x : S256.Idx, (x 0).val < 16 * k → f x = point vp r (m 1) 1#32 (newE L x)⌝ ∗ (Memref.whole cc0_scratch21).view.loc (V d (cV L) (jV L)) ↦{fullShare} f)
    ∗ (∃ f, ⌜∀ x : S256.Idx, (x 0).val < 16 * k → f x = point vp r (m 2) 2#32 (newE L x)⌝ ∗ (Memref.whole cc0_scratch22).view.loc (V d (cV L) (jV L)) ↦{fullShare} f)
    ∗ (∃ f, ⌜∀ x : S256.Idx, (x 0).val < 16 * k → f x = norm vp r m (newE L x)⌝ ∗ (Memref.whole cc0_scratch23).view.loc (V d (cV L) (jV L)) ↦{fullShare} f)
    ∗ ∃ f, ⌜∀ x : S256.Idx, (x 0).val < 16 * k → f x = edge vp r (newE L x)⌝ ∗ (Memref.whole cc0_scratch24).view.loc (V d (cV L) (jV L)) ↦{fullShare} f)

/-- A trip's store of the entries `16 k …` of `G` joins the entries already in a result's scratch buffer. -/
theorem stored2 (k : Fin k0_t2_loop.trips) (f : S256.Idx → F .f32) (G : S8192.Idx → F .f32)
    (hf : ∀ x : S256.Idx, (x 0).val < 16 * k.val → f x = G (newE L x)) (w : Lanes.Idx → F .f32)
    (hw : ∀ y, w y = G (newE L ((Rect.unit (s := S256) (k0_off5 k) S16.size (k0_off5_inb k)).emb y))) (x : S256.Idx) (hx : (x 0).val < 16 * (k.val + 1)) :
    (Memref.whole cc0_scratch20).view.writes (Elt F) f [⟨Rect.unit (s := S256) (k0_off6 k) S16.size (k0_off6_inb k), w⟩] x = G (newE L x) :=
  row_stored (Val := Elt F) (e := .f32) (Memref.whole cc0_scratch20).view f (k0_off6 k) S16.size (k0_off6_inb k) w (fun x => G (newE L x)) (k0_off6_eq k) rfl hw x
    (by rw [show S16.size 0 = 16 from rfl]; omega) (hf x)

set_option maxHeartbeats 4000000 in
theorem trip2_ok (v1 c0 : BitVec 32) (vp : Flat.Idx → F .f32) (r : Fin 4 → S8192.Idx → BitVec 32) (m : Fin 3 → S8192.Idx → F .f32)
    (hr : ∀ i j, (r i j).toNat < 10000) (k : Fin k0_t2_loop.trips) (c : BitVec 32) :
    inv2 d L vp r m k.val c
      ⊢ wp frame (wpE (defs₀ (F := F)) 𝒱₀ (V d (cV L) (jV L)) none) Set.univ (trip2 (F := F) L v1 c0 k c) (inv2 d L vp r m (k.val + 1)) := by
  unfold trip2 k0_t2_body
  simp only [k0_part4_eq_skeleton, k0_part5_eq_skeleton, k0_part6_eq_skeleton]
  unfold k0_part4_skel k0_part5_skel k0_part6_skel
  simp only [bind_assoc, pure_bind]
  unfold inv2
  iintro ⟨H0, H8, H9, H10, H11, H12, H13, H14, ⟨%f20, %hf20, H20⟩, ⟨%f21, %hf21, H21⟩, ⟨%f22, %hf22, H22⟩, ⟨%f23, %hf23, H23⟩, ⟨%f24, %hf24, H24⟩⟩
  sl_exec (disch := exact lanes_lt (fun _ => hr _ _) (by decide))
  iterate 12
    iapply (SparseCore.wp_vectorLoadIdx 𝒱₀ (V d (cV L) (jV L)) none Set.univ (base := Memref.whole cc0_scratch0) (S := Finset.univ) (q := fullShare) (Finset.subset_univ _)) $$ H0; iintro H0
    sl_exec (disch := exact lanes_lt (fun _ => hr _ _) (by decide))
  sl_step
  isplitl [H0]; · iexact H0
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H20]
  · iexists _; isplitr [H20]; rotate_left
    · iexact H20
    · ipureintro
      exact stored2 L k f20 _ hf20 _ fun y => (pt_lane (load_at _ y) (load_at _ y) (load_at _ y) (load_at _ y) rfl)
  isplitl [H21]
  · iexists _; isplitr [H21]; rotate_left
    · iexact H21
    · ipureintro
      exact stored2 L k f21 _ hf21 _ fun y => (pt_lane (load_at _ y) (load_at _ y) (load_at _ y) (load_at _ y) rfl)
  isplitl [H22]
  · iexists _; isplitr [H22]; rotate_left
    · iexact H22
    · ipureintro
      exact stored2 L k f22 _ hf22 _ fun y => (pt_lane (load_at _ y) (load_at _ y) (load_at _ y) (load_at _ y) rfl)
  isplitl [H23]
  · iexists _; isplitr [H23]; rotate_left
    · iexact H23
    · ipureintro
      exact stored2 L k f23 _ hf23 _ fun y => (norm_lane (pt_lane (load_at _ y) (load_at _ y) (load_at _ y) (load_at _ y) rfl) (pt_lane (load_at _ y) (load_at _ y) (load_at _ y) (load_at _ y) rfl) (pt_lane (load_at _ y) (load_at _ y) (load_at _ y) (load_at _ y) rfl))
  · iexists _; isplitr [H24]; rotate_left
    · iexact H24
    · ipureintro
      exact stored2 L k f24 _ hf24 _ fun y => (edge_lane (load_at _ y) (load_at _ y) (load_at _ y) (load_at _ y) (load_at _ y) (load_at _ y) (load_at _ y) (load_at _ y) (load_at _ y) (load_at _ y) (load_at _ y) (load_at _ y))

end Tile

end Cert.Proof.Prep

end
-- ==== Proof.PrepTile.lean ====
/-
  One tile of the prep call: it fetches the vertex table and its share of the old and of the new tetrahedra's vertex words
  and circumcentres, runs through each share sixteen tetrahedra at a time, and copies its pieces of the ten results out.
  `tile_body` runs it from the arrays' contents; what the pieces hold afterwards is in the words of `PrepLane`.
-/
module

public import proofs.«01_k».proof.Defs
public import proofs.«01_k».proof.Proof.PrepTrip

@[expose] public section

noncomputable section

namespace Cert.Proof.Prep

open Cert.PrepIdeal Cert.PrepIdeal.Gen Cert.Proof.Parts Cert.Proof.Lane

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid0.Coords)
variable (vp : Flat.Idx → F .f32) (r : Fin 4 → S32768.Idx → BitVec 32) (m : Fin 3 → S32768.Idx → F .f32) (r' : Fin 4 → S8192.Idx → BitVec 32) (m' : Fin 3 → S8192.Idx → F .f32)

/-- The fifteen operands: the old tetrahedra's vertex words and circumcentres, the new ones', and the vertex table. -/
def operands (q : PosShare TreeShare) : sProp 𝕄 :=
  iprop(((Memref.whole main_v1_scv).view.loc (V d (cV L) (jV L)) ↦{q} r 0)
    ∗ ((Memref.whole main_v3_scv).view.loc (V d (cV L) (jV L)) ↦{q} r 1)
    ∗ ((Memref.whole main_v5_scv).view.loc (V d (cV L) (jV L)) ↦{q} r 2)
    ∗ ((Memref.whole main_v7_scv).view.loc (V d (cV L) (jV L)) ↦{q} r 3)
    ∗ ((Memref.whole main_v17_scv).view.loc (V d (cV L) (jV L)) ↦{q} m 0)
    ∗ ((Memref.whole main_v19_scv).view.loc (V d (cV L) (jV L)) ↦{q} m 1)
    ∗ ((Memref.whole main_v21_scv).view.loc (V d (cV L) (jV L)) ↦{q} m 2)
    ∗ ((Memref.whole main_v9_scv).view.loc (V d (cV L) (jV L)) ↦{q} r' 0)
    ∗ ((Memref.whole main_v11_scv).view.loc (V d (cV L) (jV L)) ↦{q} r' 1)
    ∗ ((Memref.whole main_v13_scv).view.loc (V d (cV L) (jV L)) ↦{q} r' 2)
    ∗ ((Memref.whole main_v15_scv).view.loc (V d (cV L) (jV L)) ↦{q} r' 3)
    ∗ ((Memref.whole main_v23_scv).view.loc (V d (cV L) (jV L)) ↦{q} m' 0)
    ∗ ((Memref.whole main_v25_scv).view.loc (V d (cV L) (jV L)) ↦{q} m' 1)
    ∗ ((Memref.whole main_v27_scv).view.loc (V d (cV L) (jV L)) ↦{q} m' 2)
    ∗ ((Memref.whole main_v28_scv).view.loc (V d (cV L) (jV L)) ↦{q} vp))

/-- The tile's pieces of the ten results, each at some contents; -/
def pieces : sProp 𝕄 :=
  iprop((∃ f, ((Memref.whole main_v29_0_scv).slice (oldR L) (fun _ => rfl)).view.loc (V d (cV L) (jV L)) ↦[((Memref.whole main_v29_0_scv).slice (oldR L) (fun _ => rfl)).view.set]{fullShare} f)
    ∗ (∃ f, ((Memref.whole main_v29_1_scv).slice (oldR L) (fun _ => rfl)).view.loc (V d (cV L) (jV L)) ↦[((Memref.whole main_v29_1_scv).slice (oldR L) (fun _ => rfl)).view.set]{fullShare} f)
    ∗ (∃ f, ((Memref.whole main_v29_2_scv).slice (oldR L) (fun _ => rfl)).view.loc (V d (cV L) (jV L)) ↦[((Memref.whole main_v29_2_scv).slice (oldR L) (fun _ => rfl)).view.set]{fullShare} f)
    ∗ (∃ f, ((Memref.whole main_v29_3_scv).slice (oldR L) (fun _ => rfl)).view.loc (V d (cV L) (jV L)) ↦[((Memref.whole main_v29_3_scv).slice (oldR L) (fun _ => rfl)).view.set]{fullShare} f)
    ∗ (∃ f, ((Memref.whole main_v29_4_scv).slice (oldR L) (fun _ => rfl)).view.loc (V d (cV L) (jV L)) ↦[((Memref.whole main_v29_4_scv).slice (oldR L) (fun _ => rfl)).view.set]{fullShare} f)
    ∗ (∃ f, ((Memref.whole main_v29_5_scv).slice (newR L) (fun _ => rfl)).view.loc (V d (cV L) (jV L)) ↦[((Memref.whole main_v29_5_scv).slice (newR L) (fun _ => rfl)).view.set]{fullShare} f)
    ∗ (∃ f, ((Memref.whole main_v29_6_scv).slice (newR L) (fun _ => rfl)).view.loc (V d (cV L) (jV L)) ↦[((Memref.whole main_v29_6_scv).slice (newR L) (fun _ => rfl)).view.set]{fullShare} f)
    ∗ (∃ f, ((Memref.whole main_v29_7_scv).slice (newR L) (fun _ => rfl)).view.loc (V d (cV L) (jV L)) ↦[((Memref.whole main_v29_7_scv).slice (newR L) (fun _ => rfl)).view.set]{fullShare} f)
    ∗ (∃ f, ((Memref.whole main_v29_8_scv).slice (newR L) (fun _ => rfl)).view.loc (V d (cV L) (jV L)) ↦[((Memref.whole main_v29_8_scv).slice (newR L) (fun _ => rfl)).view.set]{fullShare} f)
    ∗ (∃ f, ((Memref.whole main_v29_9_scv).slice (newR L) (fun _ => rfl)).view.loc (V d (cV L) (jV L)) ↦[((Memref.whole main_v29_9_scv).slice (newR L) (fun _ => rfl)).view.set]{fullShare} f))

/-- and at what the call computes. -/
def results : sProp 𝕄 :=
  iprop((((Memref.whole main_v29_0_scv).slice (oldR L) (fun _ => rfl)).view.loc (V d (cV L) (jV L)) ↦[((Memref.whole main_v29_0_scv).slice (oldR L) (fun _ => rfl)).view.set]{fullShare} point vp r (m 0) 0#32)
    ∗ (((Memref.whole main_v29_1_scv).slice (oldR L) (fun _ => rfl)).view.loc (V d (cV L) (jV L)) ↦[((Memref.whole main_v29_1_scv).slice (oldR L) (fun _ => rfl)).view.set]{fullShare} point vp r (m 1) 1#32)
    ∗ (((Memref.whole main_v29_2_scv).slice (oldR L) (fun _ => rfl)).view.loc (V d (cV L) (jV L)) ↦[((Memref.whole main_v29_2_scv).slice (oldR L) (fun _ => rfl)).view.set]{fullShare} point vp r (m 2) 2#32)
    ∗ (((Memref.whole main_v29_3_scv).slice (oldR L) (fun _ => rfl)).view.loc (V d (cV L) (jV L)) ↦[((Memref.whole main_v29_3_scv).slice (oldR L) (fun _ => rfl)).view.set]{fullShare} norm vp r m)
    ∗ (((Memref.whole main_v29_4_scv).slice (oldR L) (fun _ => rfl)).view.loc (V d (cV L) (jV L)) ↦[((Memref.whole main_v29_4_scv).slice (oldR L) (fun _ => rfl)).view.set]{fullShare} edge vp r)
    ∗ (((Memref.whole main_v29_5_scv).slice (newR L) (fun _ => rfl)).view.loc (V d (cV L) (jV L)) ↦[((Memref.whole main_v29_5_scv).slice (newR L) (fun _ => rfl)).view.set]{fullShare} point vp r' (m' 0) 0#32)
    ∗ (((Memref.whole main_v29_6_scv).slice (newR L) (fun _ => rfl)).view.loc (V d (cV L) (jV L)) ↦[((Memref.whole main_v29_6_scv).slice (newR L) (fun _ => rfl)).view.set]{fullShare} point vp r' (m' 1) 1#32)
    ∗ (((Memref.whole main_v29_7_scv).slice (newR L) (fun _ => rfl)).view.loc (V d (cV L) (jV L)) ↦[((Memref.whole main_v29_7_scv).slice (newR L) (fun _ => rfl)).view.set]{fullShare} point vp r' (m' 2) 2#32)
    ∗ (((Memref.whole main_v29_8_scv).slice (newR L) (fun _ => rfl)).view.loc (V d (cV L) (jV L)) ↦[((Memref.whole main_v29_8_scv).slice (newR L) (fun _ => rfl)).view.set]{fullShare} norm vp r' m')
    ∗ (((Memref.whole main_v29_9_scv).slice (newR L) (fun _ => rfl)).view.loc (V d (cV L) (jV L)) ↦[((Memref.whole main_v29_9_scv).slice (newR L) (fun _ => rfl)).view.set]{fullShare} edge vp r'))

set_option maxHeartbeats 8000000 in
theorem tile_body (O : CellTallies nD τ sig (HIx 1)) (W : Waits sig (HIx 1)) (hO : ∀ g, O g none = 0) (q : PosShare TreeShare)
    (hr : ∀ i j, (r i j).toNat < 10000) (hr' : ∀ i j, (r' i j).toNat < 10000) :
    (iprop(levAts (K (F := F)).L (K (F := F)).lev ∗ emp ∗ (operands d L vp r m r' m' q ∗ pieces d L)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ (body (F := F) L)
          fun _ => iprop((operands d L vp r m r' m' q ∗ results d L vp r m r' m')
            ∗ scopedBufs (V d (cV L) (jV L)) ∗ scopedSems0 (V d (cV L) (jV L))
            ∗ ∃ W', ⌜∀ p ∈ W', p ∈ W ∨ p.2 = none⌝ ∗ owes (V d (cV L) (jV L)) O W') := by
  unfold body
  simp only [cc0__prep_body_eq_skeleton, k0_part7_eq_skeleton, k0_part8_eq_skeleton, k0_part9_eq_skeleton]
  unfold cc0__prep_body_skel
  simp only [k0_part7_eq_skeleton, k0_part8_eq_skeleton, k0_part9_eq_skeleton]
  unfold k0_part7_skel k0_part8_skel k0_part9_skel
  simp only [bind_assoc, pure_bind]
  rw [(K (F := F)).scopedBufs_V facts d (cV L) (jV L), SparseCore.Cfg.scopedSems0_V (Val := Elt F) d (cV L) (jV L),
    ownBufs_views d (cV L) (jV L) [cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15, cc0_scratch16, cc0_scratch17, cc0_scratch18, cc0_scratch19, cc0_scratch20, cc0_scratch21, cc0_scratch22, cc0_scratch23, cc0_scratch24]
      (by decide) (by intro b hb; fin_cases hb <;> rfl),
    ownSems_take d (cV L) (jV L) [.dma cc0_scoped0.sem, .dma cc0_scoped1.sem, .dma cc0_scoped2.sem, .dma cc0_scoped3.sem, .dma cc0_scoped4.sem, .dma cc0_scoped5.sem, .dma cc0_scoped6.sem, .dma cc0_scoped7.sem, .dma cc0_scoped8.sem, .dma cc0_scoped9.sem, .dma cc0_scoped10.sem, .dma cc0_scoped11.sem, .dma cc0_scoped12.sem, .dma cc0_scoped13.sem, .dma cc0_scoped14.sem, .dma cc0_scoped15.sem, .dma cc0_scoped16.sem, .dma cc0_scoped17.sem, .dma cc0_scoped18.sem, .dma cc0_scoped19.sem, .dma cc0_scoped20.sem, .dma cc0_scoped21.sem, .dma cc0_scoped22.sem, .dma cc0_scoped23.sem, .dma cc0_scoped24.sem]
      (by decide) (by decide)]
  iterate 50 rw [List.foldr_cons]
  rw [List.foldr_nil, List.foldr_nil]
  unfold operands pieces
  iintro ⟨#Hlv, -, ⟨⟨Hi0, Hi1, Hi2, Hi3, Hi4, Hi5, Hi6, Hi7, Hi8, Hi9, Hi10, Hi11, Hi12, Hi13, Hi14⟩, ⟨%g0, Ho0⟩, ⟨%g1, Ho1⟩, ⟨%g2, Ho2⟩, ⟨%g3, Ho3⟩, ⟨%g4, Ho4⟩, ⟨%g5, Ho5⟩, ⟨%g6, Ho6⟩, ⟨%g7, Ho7⟩, ⟨%g8, Ho8⟩, ⟨%g9, Ho9⟩⟩,
    ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, Hbufs⟩,
    ⟨Hm0, Hm1, Hm2, Hm3, Hm4, Hm5, Hm6, Hm7, Hm8, Hm9, Hm10, Hm11, Hm12, Hm13, Hm14, Hm15, Hm16, Hm17, Hm18, Hm19, Hm20, Hm21, Hm22, Hm23, Hm24, Hsems⟩, HO⟩
  ihave Hmw := ((K (F := F)).mayWaits_none (thr := (V d (cV L) (jV L))) hO) $$ Hlv
  sl_exec
  ihave H0 := (fetched (κ := .scVector) (thr := (V d (cV L) (jV L))) cc0_scratch0 (w := tile_body.sl.dma0 vp) (g := vp) rfl) $$ H0
  ihave H1 := (fetched (κ := .scVector) (thr := (V d (cV L) (jV L))) cc0_scratch1 (w := tile_body.sl.dma0_1 L r) (g := (fun x : S1024.Idx => r 0 (oldE L x))) rfl) $$ H1
  ihave H2 := (fetched (κ := .scVector) (thr := (V d (cV L) (jV L))) cc0_scratch2 (w := tile_body.sl.dma0_3 L r) (g := (fun x : S1024.Idx => r 1 (oldE L x))) rfl) $$ H2
  ihave H3 := (fetched (κ := .scVector) (thr := (V d (cV L) (jV L))) cc0_scratch3 (w := tile_body.sl.dma0_5 L r) (g := (fun x : S1024.Idx => r 2 (oldE L x))) rfl) $$ H3
  ihave H4 := (fetched (κ := .scVector) (thr := (V d (cV L) (jV L))) cc0_scratch4 (w := tile_body.sl.dma0_7 L r) (g := (fun x : S1024.Idx => r 3 (oldE L x))) rfl) $$ H4
  ihave H5 := (fetched (κ := .scVector) (thr := (V d (cV L) (jV L))) cc0_scratch5 (w := tile_body.sl.dma0_9 L m) (g := (fun x : S1024.Idx => m 0 (oldE L x))) rfl) $$ H5
  ihave H6 := (fetched (κ := .scVector) (thr := (V d (cV L) (jV L))) cc0_scratch6 (w := tile_body.sl.dma0_11 L m) (g := (fun x : S1024.Idx => m 1 (oldE L x))) rfl) $$ H6
  ihave H7 := (fetched (κ := .scVector) (thr := (V d (cV L) (jV L))) cc0_scratch7 (w := tile_body.sl.dma0_13 L m) (g := (fun x : S1024.Idx => m 2 (oldE L x))) rfl) $$ H7
  ihave H8 := (fetched (κ := .scVector) (thr := (V d (cV L) (jV L))) cc0_scratch8 (w := tile_body.sl.dma0_2 L r') (g := (fun x : S256.Idx => r' 0 (newE L x))) rfl) $$ H8
  ihave H9 := (fetched (κ := .scVector) (thr := (V d (cV L) (jV L))) cc0_scratch9 (w := tile_body.sl.dma0_4 L r') (g := (fun x : S256.Idx => r' 1 (newE L x))) rfl) $$ H9
  ihave H10 := (fetched (κ := .scVector) (thr := (V d (cV L) (jV L))) cc0_scratch10 (w := tile_body.sl.dma0_6 L r') (g := (fun x : S256.Idx => r' 2 (newE L x))) rfl) $$ H10
  ihave H11 := (fetched (κ := .scVector) (thr := (V d (cV L) (jV L))) cc0_scratch11 (w := tile_body.sl.dma0_8 L r') (g := (fun x : S256.Idx => r' 3 (newE L x))) rfl) $$ H11
  ihave H12 := (fetched (κ := .scVector) (thr := (V d (cV L) (jV L))) cc0_scratch12 (w := tile_body.sl.dma0_10 L m') (g := (fun x : S256.Idx => m' 0 (newE L x))) rfl) $$ H12
  ihave H13 := (fetched (κ := .scVector) (thr := (V d (cV L) (jV L))) cc0_scratch13 (w := tile_body.sl.dma0_12 L m') (g := (fun x : S256.Idx => m' 1 (newE L x))) rfl) $$ H13
  ihave H14 := (fetched (κ := .scVector) (thr := (V d (cV L) (jV L))) cc0_scratch14 (w := tile_body.sl.dma0_14 L m') (g := (fun x : S256.Idx => m' 2 (newE L x))) rfl) $$ H14
  sl_for (inv1 d L vp r m) $$ [H0 H1 H2 H3 H4 H5 H6 H7 H15 H16 H17 H18 H19]
  case region =>
    intro k c
    exact trip1_ok d L _ _ vp r m hr k c
  · unfold inv1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H15]
    · iexists f15; isplitr; · ipureintro; exact fun x hx => absurd hx (Nat.not_lt_zero _)
      iexact H15
    isplitl [H16]
    · iexists f16; isplitr; · ipureintro; exact fun x hx => absurd hx (Nat.not_lt_zero _)
      iexact H16
    isplitl [H17]
    · iexists f17; isplitr; · ipureintro; exact fun x hx => absurd hx (Nat.not_lt_zero _)
      iexact H17
    isplitl [H18]
    · iexists f18; isplitr; · ipureintro; exact fun x hx => absurd hx (Nat.not_lt_zero _)
      iexact H18
    · iexists f19; isplitr; · ipureintro; exact fun x hx => absurd hx (Nat.not_lt_zero _)
      iexact H19
  iintro %_ HI
  unfold inv1
  icases HI with ⟨H0, H1, H2, H3, H4, H5, H6, H7, ⟨%e15, %he15, H15⟩, ⟨%e16, %he16, H16⟩, ⟨%e17, %he17, H17⟩, ⟨%e18, %he18, H18⟩, ⟨%e19, %he19, H19⟩⟩
  sl_exec
  sl_for (inv2 d L vp r' m') $$ [H0 H8 H9 H10 H11 H12 H13 H14 H20 H21 H22 H23 H24]
  case region =>
    intro k c
    exact trip2_ok d L _ _ vp r' m' hr' k c
  · unfold inv2
    isplitl [H0]; · iexact H0
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H20]
    · iexists f20; isplitr; · ipureintro; exact fun x hx => absurd hx (Nat.not_lt_zero _)
      iexact H20
    isplitl [H21]
    · iexists f21; isplitr; · ipureintro; exact fun x hx => absurd hx (Nat.not_lt_zero _)
      iexact H21
    isplitl [H22]
    · iexists f22; isplitr; · ipureintro; exact fun x hx => absurd hx (Nat.not_lt_zero _)
      iexact H22
    isplitl [H23]
    · iexists f23; isplitr; · ipureintro; exact fun x hx => absurd hx (Nat.not_lt_zero _)
      iexact H23
    · iexists f24; isplitr; · ipureintro; exact fun x hx => absurd hx (Nat.not_lt_zero _)
      iexact H24
  iintro %_ HI
  unfold inv2
  icases HI with ⟨H0, H8, H9, H10, H11, H12, H13, H14, ⟨%e20, %he20, H20⟩, ⟨%e21, %he21, H21⟩, ⟨%e22, %he22, H22⟩, ⟨%e23, %he23, H23⟩, ⟨%e24, %he24, H24⟩⟩
  sl_exec
  sl_step
  ihave Ho0 := (sent (thr := (V d (cV L) (jV L))) ((Memref.whole main_v29_0_scv).slice (oldR L) (fun _ => rfl)).view (w := tile_body.sl.dma0_15 d L e15) (point vp r (m 0) 0#32) fun x => he15 x (by have := (x 0).isLt; exact this)) $$ Ho0
  ihave Ho1 := (sent (thr := (V d (cV L) (jV L))) ((Memref.whole main_v29_1_scv).slice (oldR L) (fun _ => rfl)).view (w := tile_body.sl.dma0_17 d L e16) (point vp r (m 1) 1#32) fun x => he16 x (by have := (x 0).isLt; exact this)) $$ Ho1
  ihave Ho2 := (sent (thr := (V d (cV L) (jV L))) ((Memref.whole main_v29_2_scv).slice (oldR L) (fun _ => rfl)).view (w := tile_body.sl.dma0_19 d L e17) (point vp r (m 2) 2#32) fun x => he17 x (by have := (x 0).isLt; exact this)) $$ Ho2
  ihave Ho3 := (sent (thr := (V d (cV L) (jV L))) ((Memref.whole main_v29_3_scv).slice (oldR L) (fun _ => rfl)).view (w := tile_body.sl.dma0_21 d L e18) (norm vp r m) fun x => he18 x (by have := (x 0).isLt; exact this)) $$ Ho3
  ihave Ho4 := (sent (thr := (V d (cV L) (jV L))) ((Memref.whole main_v29_4_scv).slice (oldR L) (fun _ => rfl)).view (w := tile_body.sl.dma0_22 d L e19) (edge vp r) fun x => he19 x (by have := (x 0).isLt; exact this)) $$ Ho4
  ihave Ho5 := (sent (thr := (V d (cV L) (jV L))) ((Memref.whole main_v29_5_scv).slice (newR L) (fun _ => rfl)).view (w := tile_body.sl.dma0_16 d L e20) (point vp r' (m' 0) 0#32) fun x => he20 x (by have := (x 0).isLt; exact this)) $$ Ho5
  ihave Ho6 := (sent (thr := (V d (cV L) (jV L))) ((Memref.whole main_v29_6_scv).slice (newR L) (fun _ => rfl)).view (w := tile_body.sl.dma0_18 d L e21) (point vp r' (m' 1) 1#32) fun x => he21 x (by have := (x 0).isLt; exact this)) $$ Ho6
  ihave Ho7 := (sent (thr := (V d (cV L) (jV L))) ((Memref.whole main_v29_7_scv).slice (newR L) (fun _ => rfl)).view (w := tile_body.sl.dma0_20 d L e22) (point vp r' (m' 2) 2#32) fun x => he22 x (by have := (x 0).isLt; exact this)) $$ Ho7
  ihave Ho8 := (sent (thr := (V d (cV L) (jV L))) ((Memref.whole main_v29_8_scv).slice (newR L) (fun _ => rfl)).view (w := tile_body.sl.dma0_23 d L e23) (norm vp r' m') fun x => he23 x (by have := (x 0).isLt; exact this)) $$ Ho8
  ihave Ho9 := (sent (thr := (V d (cV L) (jV L))) ((Memref.whole main_v29_9_scv).slice (newR L) (fun _ => rfl)).view (w := tile_body.sl.dma0_24 d L e24) (edge vp r') fun x => he24 x (by have := (x 0).isLt; exact this)) $$ Ho9
  isplitl [Hi0 Hi1 Hi2 Hi3 Hi4 Hi5 Hi6 Hi7 Hi8 Hi9 Hi10 Hi11 Hi12 Hi13 Hi14 Ho0 Ho1 Ho2 Ho3 Ho4 Ho5 Ho6 Ho7 Ho8 Ho9]
  · isplitl [Hi0 Hi1 Hi2 Hi3 Hi4 Hi5 Hi6 Hi7 Hi8 Hi9 Hi10 Hi11 Hi12 Hi13 Hi14]
    · isplitl [Hi0]; · iexact Hi0
      isplitl [Hi1]; · iexact Hi1
      isplitl [Hi2]; · iexact Hi2
      isplitl [Hi3]; · iexact Hi3
      isplitl [Hi4]; · iexact Hi4
      isplitl [Hi5]; · iexact Hi5
      isplitl [Hi6]; · iexact Hi6
      isplitl [Hi7]; · iexact Hi7
      isplitl [Hi8]; · iexact Hi8
      isplitl [Hi9]; · iexact Hi9
      isplitl [Hi10]; · iexact Hi10
      isplitl [Hi11]; · iexact Hi11
      isplitl [Hi12]; · iexact Hi12
      isplitl [Hi13]; · iexact Hi13
      iexact Hi14
    · unfold results
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      iexact Ho9
  isplitl [H0 H1 H2 H3 H4 H5 H6 H7 H8 H9 H10 H11 H12 H13 H14 H15 H16 H17 H18 H19 H20 H21 H22 H23 H24 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexact Hbufs
  isplitl [Hm0 Hm1 Hm2 Hm3 Hm4 Hm5 Hm6 Hm7 Hm8 Hm9 Hm10 Hm11 Hm12 Hm13 Hm14 Hm15 Hm16 Hm17 Hm18 Hm19 Hm20 Hm21 Hm22 Hm23 Hm24 Hsems]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    isplitl [Hm16]; · iexact Hm16
    isplitl [Hm17]; · iexact Hm17
    isplitl [Hm18]; · iexact Hm18
    isplitl [Hm19]; · iexact Hm19
    isplitl [Hm20]; · iexact Hm20
    isplitl [Hm21]; · iexact Hm21
    isplitl [Hm22]; · iexact Hm22
    isplitl [Hm23]; · iexact Hm23
    isplitl [Hm24]; · iexact Hm24
    iexact Hsems
  iexists _; isplitr [HO]
  rotate_left
  · iexact HO
  · ipureintro
    intro p hp
    simp only [Finset.mem_insert] at hp
    rcases hp with rfl | rfl | rfl | rfl | rfl | rfl | rfl | rfl | rfl | rfl | rfl | rfl | rfl | rfl | rfl | rfl | rfl | rfl | rfl | rfl | rfl | rfl | rfl | rfl | rfl | hp
    iterate 25 exact Or.inr rfl
    exact Or.inl hp

end Tile

end Cert.Proof.Prep

end
-- ==== Proof.PrepRun.lean ====
/-
  The run of the prep call's program from any launch memory whose vertex words are in range: the host lines before the
  call, then the call on the thirty-two tiles (each with a read share of the fifteen operands and its own piece of each of
  the ten results). Every buffer's final contents are named (`fin`).
-/
module

public import proofs.«01_k».proof.Proof.Deal
public import proofs.«01_k».proof.Proof.PrepTile

@[expose] public section

noncomputable section

namespace Cert.Proof.Prep

open Cert.PrepIdeal Cert.PrepIdeal.Gen Cert.Proof.Parts Cert.Proof.Lane
open Cert.Proof.Deal (tiles piece Even shared somePieces given returned)

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held seq after)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The operands, -/
def inRefs : Finset (DevRef τ sig) :=
  {(Proc.devRef .tc (main_v1 : Ref sig .tc)),
    (Proc.devRef .tc (main_v3 : Ref sig .tc)),
    (Proc.devRef .tc (main_v5 : Ref sig .tc)),
    (Proc.devRef .tc (main_v7 : Ref sig .tc)),
    (Proc.devRef .tc (main_v17 : Ref sig .tc)),
    (Proc.devRef .tc (main_v19 : Ref sig .tc)),
    (Proc.devRef .tc (main_v21 : Ref sig .tc)),
    (Proc.devRef .tc (main_v9 : Ref sig .tc)),
    (Proc.devRef .tc (main_v11 : Ref sig .tc)),
    (Proc.devRef .tc (main_v13 : Ref sig .tc)),
    (Proc.devRef .tc (main_v15 : Ref sig .tc)),
    (Proc.devRef .tc (main_v23 : Ref sig .tc)),
    (Proc.devRef .tc (main_v25 : Ref sig .tc)),
    (Proc.devRef .tc (main_v27 : Ref sig .tc)),
    (Proc.devRef .tc (main_v28 : Ref sig .tc))}
/-- the results, -/
abbrev out0 : DevRef τ sig := Proc.devRef .tc (main_v29_0 : Ref sig .tc)
abbrev out1 : DevRef τ sig := Proc.devRef .tc (main_v29_1 : Ref sig .tc)
abbrev out2 : DevRef τ sig := Proc.devRef .tc (main_v29_2 : Ref sig .tc)
abbrev out3 : DevRef τ sig := Proc.devRef .tc (main_v29_3 : Ref sig .tc)
abbrev out4 : DevRef τ sig := Proc.devRef .tc (main_v29_4 : Ref sig .tc)
abbrev out5 : DevRef τ sig := Proc.devRef .tc (main_v29_5 : Ref sig .tc)
abbrev out6 : DevRef τ sig := Proc.devRef .tc (main_v29_6 : Ref sig .tc)
abbrev out7 : DevRef τ sig := Proc.devRef .tc (main_v29_7 : Ref sig .tc)
abbrev out8 : DevRef τ sig := Proc.devRef .tc (main_v29_8 : Ref sig .tc)
abbrev out9 : DevRef τ sig := Proc.devRef .tc (main_v29_9 : Ref sig .tc)
/-- and the set of them. -/
def outRefs : Finset (DevRef τ sig) :=
  {out0, out1, out2, out3, out4, out5, out6, out7, out8, out9}

theorem refs_disjoint : Disjoint inRefs outRefs := by decide
theorem out_even : ∀ b ∈ outRefs, Even b := by decide
theorem callRefs_sub : inRefs ∪ outRefs ⊆ ucRefs τ sig := by decide

def coordsV (c : Fin (grid0.bound 0)) (s : Fin (grid0.bound 1)) : grid0.Coords :=
  fun | 0 => c | 1 => s | ⟨_ + 2, h⟩ => absurd h (Nat.not_lt.2 (Nat.le_add_left _ _))

/-! ## The operands' contents, and the results' in terms of them -/

section Contents

variable (A : Valuation τ sig (Elt F))

abbrev tableOf : Flat.Idx → F .f32 := A (Proc.devRef .tc (main_v28 : Ref sig .tc))
abbrev oldWords : Fin 4 → S32768.Idx → BitVec 32 := ![A (Proc.devRef .tc (main_v1 : Ref sig .tc)), A (Proc.devRef .tc (main_v3 : Ref sig .tc)), A (Proc.devRef .tc (main_v5 : Ref sig .tc)), A (Proc.devRef .tc (main_v7 : Ref sig .tc))]
abbrev oldCentre : Fin 3 → S32768.Idx → F .f32 := ![A (Proc.devRef .tc (main_v17 : Ref sig .tc)), A (Proc.devRef .tc (main_v19 : Ref sig .tc)), A (Proc.devRef .tc (main_v21 : Ref sig .tc))]
abbrev newWords : Fin 4 → S8192.Idx → BitVec 32 := ![A (Proc.devRef .tc (main_v9 : Ref sig .tc)), A (Proc.devRef .tc (main_v11 : Ref sig .tc)), A (Proc.devRef .tc (main_v13 : Ref sig .tc)), A (Proc.devRef .tc (main_v15 : Ref sig .tc))]
abbrev newCentre : Fin 3 → S8192.Idx → F .f32 := ![A (Proc.devRef .tc (main_v23 : Ref sig .tc)), A (Proc.devRef .tc (main_v25 : Ref sig .tc)), A (Proc.devRef .tc (main_v27 : Ref sig .tc))]

/-- What the tiles compute. -/
def res0 : out0.ty.Contents (Elt F) := point (tableOf A) (oldWords A) (oldCentre A 0) 0#32
def res1 : out1.ty.Contents (Elt F) := point (tableOf A) (oldWords A) (oldCentre A 1) 1#32
def res2 : out2.ty.Contents (Elt F) := point (tableOf A) (oldWords A) (oldCentre A 2) 2#32
def res3 : out3.ty.Contents (Elt F) := norm (tableOf A) (oldWords A) (oldCentre A)
def res4 : out4.ty.Contents (Elt F) := edge (tableOf A) (oldWords A)
def res5 : out5.ty.Contents (Elt F) := point (tableOf A) (newWords A) (newCentre A 0) 0#32
def res6 : out6.ty.Contents (Elt F) := point (tableOf A) (newWords A) (newCentre A 1) 1#32
def res7 : out7.ty.Contents (Elt F) := point (tableOf A) (newWords A) (newCentre A 2) 2#32
def res8 : out8.ty.Contents (Elt F) := norm (tableOf A) (newWords A) (newCentre A)
def res9 : out9.ty.Contents (Elt F) := edge (tableOf A) (newWords A)

/-- The contents after the call: the results at what the tiles compute, the rest as before. -/
def called : Valuation τ sig (Elt F) :=
  Function.update (Function.update (Function.update (Function.update (Function.update (Function.update (Function.update (Function.update (Function.update (Function.update A out0 (res0 A)) out1 (res1 A)) out2 (res2 A)) out3 (res3 A)) out4 (res4 A)) out5 (res5 A)) out6 (res6 A)) out7 (res7 A)) out8 (res8 A)) out9 (res9 A)

theorem called_0 : called A out0 = res0 A := by
  unfold called
  repeat rw [Function.update_of_ne (by decide)]
  rw [Function.update_self]
theorem called_1 : called A out1 = res1 A := by
  unfold called
  repeat rw [Function.update_of_ne (by decide)]
  rw [Function.update_self]
theorem called_2 : called A out2 = res2 A := by
  unfold called
  repeat rw [Function.update_of_ne (by decide)]
  rw [Function.update_self]
theorem called_3 : called A out3 = res3 A := by
  unfold called
  repeat rw [Function.update_of_ne (by decide)]
  rw [Function.update_self]
theorem called_4 : called A out4 = res4 A := by
  unfold called
  repeat rw [Function.update_of_ne (by decide)]
  rw [Function.update_self]
theorem called_5 : called A out5 = res5 A := by
  unfold called
  repeat rw [Function.update_of_ne (by decide)]
  rw [Function.update_self]
theorem called_6 : called A out6 = res6 A := by
  unfold called
  repeat rw [Function.update_of_ne (by decide)]
  rw [Function.update_self]
theorem called_7 : called A out7 = res7 A := by
  unfold called
  repeat rw [Function.update_of_ne (by decide)]
  rw [Function.update_self]
theorem called_8 : called A out8 = res8 A := by
  unfold called
  repeat rw [Function.update_of_ne (by decide)]
  rw [Function.update_self]
theorem called_9 : called A out9 = res9 A := by
  unfold called
  repeat rw [Function.update_of_ne (by decide)]
  rw [Function.update_self]

theorem called_of_not_mem (b : DevRef τ sig) (hb : b ∉ outRefs) : called A b = A b := by
  simp only [outRefs, Finset.mem_insert, Finset.mem_singleton, not_or] at hb
  obtain ⟨h0, h1, h2, h3, h4, h5, h6, h7, h8, h9⟩ := hb
  unfold called
  rw [Function.update_of_ne h9, Function.update_of_ne h8, Function.update_of_ne h7, Function.update_of_ne h6, Function.update_of_ne h5,
    Function.update_of_ne h4, Function.update_of_ne h3, Function.update_of_ne h2, Function.update_of_ne h1, Function.update_of_ne h0]

theorem called_in (b : DevRef τ sig) (hb : b ∈ inRefs) : called A b = A b :=
  called_of_not_mem A b fun h => Finset.disjoint_left.mp refs_disjoint hb h

end Contents

/-! ## A tile's operands and pieces, one by one -/

theorem slice_set (X : Ref sig .scVector) (R : Rect X.ty.shape) : ((View.whole X).slice R).set = R.set := by
  rw [View.set_slice]; exact Finset.map_refl

theorem old_set (c : Fin 2) (i : Fin 16) :
    (oldR (coordsV c i)).set = Finset.univ.filter fun x : S32768.Idx => ∀ a, (x a).val / (S32768.size a / 32) = 2 * i.val + c.val := by
  have h : k0_off1 (coordsV c i) 0 = 2048 * i.val + 1024 * c.val := congrFun (k0_off1_eq (coordsV c i)) 0
  ext x
  refine (mem_cut (k0_off1 (coordsV c i)) S1024.size (k0_off1_inb (coordsV c i)) x).trans ?_
  rw [h, Finset.mem_filter]
  show (2048 * i.val + 1024 * c.val ≤ (x 0).val ∧ (x 0).val < 2048 * i.val + 1024 * c.val + 1024) ↔ _
  constructor
  · refine fun hx => ⟨Finset.mem_univ _, fun a => ?_⟩
    obtain rfl : a = 0 := Subsingleton.elim _ _
    show (x 0).val / 1024 = _
    omega
  · intro hx
    have h0 : (x 0).val / 1024 = 2 * i.val + c.val := hx.2 0
    omega

theorem new_set (c : Fin 2) (i : Fin 16) :
    (newR (coordsV c i)).set = Finset.univ.filter fun x : S8192.Idx => ∀ a, (x a).val / (S8192.size a / 32) = 2 * i.val + c.val := by
  have h : k0_off2 (coordsV c i) 0 = 512 * i.val + 256 * c.val := congrFun (k0_off2_eq (coordsV c i)) 0
  ext x
  refine (mem_cut (k0_off2 (coordsV c i)) S256.size (k0_off2_inb (coordsV c i)) x).trans ?_
  rw [h, Finset.mem_filter]
  show (512 * i.val + 256 * c.val ≤ (x 0).val ∧ (x 0).val < 512 * i.val + 256 * c.val + 256) ↔ _
  constructor
  · refine fun hx => ⟨Finset.mem_univ _, fun a => ?_⟩
    obtain rfl : a = 0 := Subsingleton.elim _ _
    show (x 0).val / 256 = _
    omega
  · intro hx
    have h0 : (x 0).val / 256 = 2 * i.val + c.val := hx.2 0
    omega

section One

variable (d : Dev nD) (A : Valuation τ sig (Elt F)) (c : Fin 2) (i : Fin 16)

abbrev operandsOf (q : PosShare TreeShare) : sProp 𝕄 :=
  operands d (coordsV c i) (tableOf A) (oldWords A) (oldCentre A) (newWords A) (newCentre A) q
abbrev resultsOf : sProp 𝕄 := results d (coordsV c i) (tableOf A) (oldWords A) (oldCentre A) (newWords A) (newCentre A)

theorem operands_eq (q : PosShare TreeShare) : (shared d inRefs A q : sProp 𝕄) = operandsOf d A c i q := by
  unfold shared inRefs
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- An assertion about a piece, at another text of the piece. -/
theorem some_cut (b : DevRef τ sig) {S S' : Finset b.ty.shape.Idx} (h : S = S') :
    (iprop(∃ f, ((d, b) : Loc nD τ sig) ↦[S]{fullShare} f) : sProp 𝕄) = iprop(∃ f, ((d, b) : Loc nD τ sig) ↦[S']{fullShare} f) := by rw [h]
theorem one_cut (b : DevRef τ sig) {S S' : Finset b.ty.shape.Idx} (h : S = S') {f g : b.ty.Contents (Elt F)} (hf : f = g) :
    (((d, b) : Loc nD τ sig) ↦[S]{fullShare} f : sProp 𝕄) = (((d, b) : Loc nD τ sig) ↦[S']{fullShare} g) := by rw [h, hf]

omit [FloatOps F] in
/-- The results' assertions, one by one. -/
theorem out_sep (Φ : DevRef τ sig → sProp 𝕄) : bigSep outRefs Φ = iprop(Φ out0 ∗ Φ out1 ∗ Φ out2 ∗ Φ out3 ∗ Φ out4 ∗ Φ out5 ∗ Φ out6 ∗ Φ out7 ∗ Φ out8 ∗ Φ out9) := by
  unfold outRefs
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem sep_two {a b a' b' : sProp 𝕄} (h : a = a') (g : b = b') : iprop(a ∗ b) = iprop(a' ∗ b') := by rw [h, g]

set_option maxHeartbeats 4000000 in
theorem pieces_eq : (somePieces d outRefs c i : sProp 𝕄) = pieces d (coordsV c i) := by
  refine (out_sep _).trans ?_
  refine sep_two (some_cut d out0 ((slice_set main_v29_0_scv (oldR (coordsV c i))).trans (old_set c i)).symm) ?_
  refine sep_two (some_cut d out1 ((slice_set main_v29_1_scv (oldR (coordsV c i))).trans (old_set c i)).symm) ?_
  refine sep_two (some_cut d out2 ((slice_set main_v29_2_scv (oldR (coordsV c i))).trans (old_set c i)).symm) ?_
  refine sep_two (some_cut d out3 ((slice_set main_v29_3_scv (oldR (coordsV c i))).trans (old_set c i)).symm) ?_
  refine sep_two (some_cut d out4 ((slice_set main_v29_4_scv (oldR (coordsV c i))).trans (old_set c i)).symm) ?_
  refine sep_two (some_cut d out5 ((slice_set main_v29_5_scv (newR (coordsV c i))).trans (new_set c i)).symm) ?_
  refine sep_two (some_cut d out6 ((slice_set main_v29_6_scv (newR (coordsV c i))).trans (new_set c i)).symm) ?_
  refine sep_two (some_cut d out7 ((slice_set main_v29_7_scv (newR (coordsV c i))).trans (new_set c i)).symm) ?_
  refine sep_two (some_cut d out8 ((slice_set main_v29_8_scv (newR (coordsV c i))).trans (new_set c i)).symm) ?_
  exact some_cut d out9 ((slice_set main_v29_9_scv (newR (coordsV c i))).trans (new_set c i)).symm

set_option maxHeartbeats 4000000 in
theorem results_eq : (Deal.pieces d outRefs (called A) c i : sProp 𝕄) = resultsOf d A c i := by
  refine (out_sep _).trans ?_
  refine sep_two (one_cut d out0 ((slice_set main_v29_0_scv (oldR (coordsV c i))).trans (old_set c i)).symm (called_0 A)) ?_
  refine sep_two (one_cut d out1 ((slice_set main_v29_1_scv (oldR (coordsV c i))).trans (old_set c i)).symm (called_1 A)) ?_
  refine sep_two (one_cut d out2 ((slice_set main_v29_2_scv (oldR (coordsV c i))).trans (old_set c i)).symm (called_2 A)) ?_
  refine sep_two (one_cut d out3 ((slice_set main_v29_3_scv (oldR (coordsV c i))).trans (old_set c i)).symm (called_3 A)) ?_
  refine sep_two (one_cut d out4 ((slice_set main_v29_4_scv (oldR (coordsV c i))).trans (old_set c i)).symm (called_4 A)) ?_
  refine sep_two (one_cut d out5 ((slice_set main_v29_5_scv (newR (coordsV c i))).trans (new_set c i)).symm (called_5 A)) ?_
  refine sep_two (one_cut d out6 ((slice_set main_v29_6_scv (newR (coordsV c i))).trans (new_set c i)).symm (called_6 A)) ?_
  refine sep_two (one_cut d out7 ((slice_set main_v29_7_scv (newR (coordsV c i))).trans (new_set c i)).symm (called_7 A)) ?_
  refine sep_two (one_cut d out8 ((slice_set main_v29_8_scv (newR (coordsV c i))).trans (new_set c i)).symm (called_8 A)) ?_
  exact one_cut d out9 ((slice_set main_v29_9_scv (newR (coordsV c i))).trans (new_set c i)).symm (called_9 A)

end One

/-- What a tile is handed, and what it hands back. -/
abbrev goP (A : Dev nD → Valuation τ sig (Elt F)) (d : Dev nD) (c : Fin 2) (i : Fin 16) : sProp 𝕄 := given d inRefs outRefs (A d) c i
abbrev tdP (A : Dev nD → Valuation τ sig (Elt F)) (d : Dev nD) (c : Fin 2) (i : Fin 16) : sProp 𝕄 := returned d inRefs outRefs (A d) (called (A d)) c i

def P (A : Dev nD → Valuation τ sig (Elt F)) : (K (F := F)).Pay (nD := nD) (Val := Elt F) (Name := ℕ) (U := UU) where
  st := fun q d c => match q, c with | 0, c => bigSep (Finset.univ : Finset (Fin 16)) fun i => goP A d c i
  dn := fun q d c => match q, c with | 0, c => bigSep (Finset.univ : Finset (Fin 16)) fun i => tdP A d c i
  go := fun q d c i => match q, c, i with | 0, c, i => goP A d c i
  td := fun q d c i => match q, c, i with | 0, c, i => tdP A d c i
  x := fun _ _ => iprop(emp)

instance P_storable (A : Dev nD → Valuation τ sig (Elt F)) : (P (F := F) A).IsStorable where
  st := fun q d c => match q with | 0 => inferInstanceAs (Storable (upEmb : UEmb _ 𝕄) (bigSep (Finset.univ : Finset (Fin 16)) fun i => goP A d c i))
  dn := fun q d c => match q with | 0 => inferInstanceAs (Storable (upEmb : UEmb _ 𝕄) (bigSep (Finset.univ : Finset (Fin 16)) fun i => tdP A d c i))
  go := fun q d c i => match q with | 0 => inferInstanceAs (Storable (upEmb : UEmb _ 𝕄) (goP A d c i))
  td := fun q d c i => match q with | 0 => inferInstanceAs (Storable (upEmb : UEmb _ 𝕄) (tdP A d c i))

theorem defs₀_vector (c : Fin τ.nSC) (s : Fin τ.nSub) :
    defs₀ (F := F) (.scVector c s) 0 () = SparseCore.onTile hcore0 hsub0 (fun c s => body (coordsV c s)) ⟨⟩ c s := rfl

omit [FloatOps F] in
/-- A wait recorded against nothing is among those the call's task may record. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The vertex words are in the table's range. -/
def InRange (A : Valuation τ sig (Elt F)) : Prop :=
  (∀ i j, (oldWords A i j).toNat < 10000) ∧ ∀ i j, (newWords A i j).toNat < 10000

theorem tile_given (A : Valuation τ sig (Elt F)) (hA : InRange A) (d : Dev nD) (c : Fin (grid0.bound 0)) (i : Fin (grid0.bound 1))
    (O : CellTallies nD τ sig (HIx 1)) (W : Waits sig (HIx 1)) (hO : ∀ g, O g none = 0) :
    (iprop(levAts (K (F := F)).L (K (F := F)).lev ∗ emp ∗ given d inRefs outRefs A c i
        ∗ scopedBufs (V d (cV (coordsV c i)) (jV (coordsV c i))) ∗ scopedSems0 (V d (cV (coordsV c i)) (jV (coordsV c i))) ∗ owes (V d (cV (coordsV c i)) (jV (coordsV c i))) O W) : sProp 𝕄)
      ⊢ wp frame (wpE (defs₀ (F := F)) 𝒱₀ (V d (cV (coordsV c i)) (jV (coordsV c i))) none) Set.univ (body (F := F) (coordsV c i))
          fun _ => iprop(returned d inRefs outRefs A (called A) c i
            ∗ scopedBufs (V d (cV (coordsV c i)) (jV (coordsV c i))) ∗ scopedSems0 (V d (cV (coordsV c i)) (jV (coordsV c i)))
            ∗ ∃ W', ⌜∀ p ∈ W', p ∈ W ∨ p.2 = none⌝ ∗ owes (V d (cV (coordsV c i)) (jV (coordsV c i))) O W') := by
  unfold given returned
  rw [operands_eq d A c i, pieces_eq d c i, results_eq d A c i]
  exact tile_body d (coordsV c i) (tableOf A) (oldWords A) (oldCentre A) (newWords A) (newCentre A) O W hO (tileShare c i) hA.1 hA.2

theorem tileObl (A : Dev nD → Valuation τ sig (Elt F)) (hA : ∀ d, InRange (A d)) :
    (K (F := F)).TileObl (D (F := F)) 𝒱 (P A) v₀ 0 := by
  intro d c i O W hO _ _
  simp only [show (P A).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_given (A d) (hA d) d ⟨_, hc.1⟩ ⟨_, hc.2⟩ O W hO).trans (wp_mono frame _ _ fun _ => obl_post)

theorem vecSplit (A : Dev nD → Valuation τ sig (Elt F)) : (K (F := F)).VecSplit' (P A) 0 := by
  intro d c
  show (bigSep (Finset.univ : Finset (Fin 16)) fun i => goP A d c i)
    ⊢ |={Set.univ}=> iprop((bigSep (Finset.univ : Finset (Fin 16)) fun i => goP A d c i)
      ∗ ((bigSep (Finset.univ : Finset (Fin 16)) fun i => tdP A d c i) -∗ bigSep (Finset.univ : Finset (Fin 16)) fun i => tdP A d c i))
  iintro H
  imodintro
  isplitl [H]; · iexact H
  iintro H; iexact H

/-! ## The call over all buffers -/

/-- What the call reads and writes is dealt to its SparseCores, the shares no tile takes left over; -/
theorem st_deal (A : Dev nD → Valuation τ sig (Elt F)) (d : Dev nD) :
    (held (T d) (inRefs ∪ outRefs) (A d) : sProp 𝕄)
      ⊢ iprop(shared d inRefs (A d) Parts.restShare ∗ bigSep Finset.univ fun c : Fin ((K (F := F)).nCore 0) => (P A).st 0 d c) := by
  show _ ⊢ iprop(shared d inRefs (A d) Parts.restShare ∗ tiles fun c i => goP A d c i)
  exact Deal.deal d inRefs outRefs (A d) refs_disjoint out_even

/-- and comes back with the results written. -/
theorem dn_join (A : Dev nD → Valuation τ sig (Elt F)) (d : Dev nD) :
    iprop(shared d inRefs (A d) Parts.restShare ∗ bigSep Finset.univ fun c : Fin ((K (F := F)).nCore 0) => (P A).dn 0 d c)
      ⊢ (held (T d) (inRefs ∪ outRefs) (called (A d)) : sProp 𝕄) := by
  show iprop(shared d inRefs (A d) Parts.restShare ∗ tiles fun c i => tdP A d c i) ⊢ _
  exact Deal.join d inRefs outRefs (A d) (called (A d)) refs_disjoint out_even (called_in (A d))

/-- The call, from all unscoped buffers at `A d` to all of them at `called (A d)`. -/
theorem wp_call (A : Dev nD → Valuation τ sig (Elt F)) (κ : GSem nD τ sig → ℕ) (d : Dev nD) {Φ : PUnit → sProp 𝕄} :
    iprop((K (F := F)).ctx EH (P A) κ ∗ (K (F := F)).tcSt EH d 0 ∗ held (T d) (ucRefs τ sig) (A d)
        ∗ (((K (F := F)).tcSt EH d 1 ∗ held (T d) (ucRefs τ sig) (called (A d))) -∗ Φ ⟨⟩))
      ⊢ wp frame (wpE ((K (F := F)).defs (D (F := F))) 𝒱 (T d) none) Set.univ ((K (F := F)).run d 0) Φ := by
  rw [StableHlo.held_sub_split (T d) callRefs_sub, StableHlo.held_sub_split (T d) callRefs_sub,
    StableHlo.held_congr (T d) (S := ucRefs τ sig \ (inRefs ∪ outRefs)) (V := called (A d)) (V' := A d)
      (fun b hb => called_of_not_mem (A d) b fun h => (Finset.mem_sdiff.mp hb).2 (Finset.mem_union_right _ h))]
  iintro ⟨#Hctx, Hst, ⟨Hcall, Hrest⟩, Hk⟩
  ihave Hcall := (st_deal A d) $$ Hcall
  icases Hcall with ⟨Hkept, Hgo⟩
  iapply ((K (F := F)).wp_run (D (F := F)) 𝒱 (EH := EH) (P := P A) κ d 0) $$ [Hst Hgo Hkept Hrest Hk]
  isplitr; · iexact Hctx
  isplitl [Hst]; · iexact Hst
  isplitl [Hgo]; · iexact Hgo
  iintro ⟨Hst, Hdn⟩
  iapply Hk
  isplitl [Hst]; · iexact Hst
  isplitr [Hrest]
  · iapply (dn_join A d)
    isplitl [Hkept]; · iexact Hkept
    iexact Hdn
  · iexact Hrest

/-! ## The launch -/

variable (m : (ℓ : Loc nD τ sig) → Buf (Elt F) ℓ) (ρ : Dev nD → PrngReg)

def u₀ : UU := (initOf (K (F := F)).hsCells (K (F := F)).hsToks, 1)

theorem hu₀ (A : Dev nD → Valuation τ sig (Elt F)) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair _ _) $$ Hu
  icases H with ⟨HH, -⟩
  imodintro
  isplitl [HH]; · iexact HH
  isplitr; · rw [bigSep_none]; iempintro
  unfold P; dsimp only
  rw [show (bigSep Finset.univ fun _ : Thread nD τ => bigSep Finset.univ fun _ : Fin 1 => (iprop(emp) : sProp 𝕄)) = iprop(emp) from by
    simp only [bigSep_none]]
  iempintro

abbrev pre : List (HloOp τ sig (Elt F)) :=
  [StableHlo.unary main_arg1 main_v0 ((extractStridedSlice S32768x1 ![0, 0] · slices_S32768x4_S32768x1_0_0) : (⟨S32768x4, .i32⟩ : BufTy).Contents (Elt F) → (⟨S32768x1, .i32⟩ : BufTy).Contents (Elt F)),
   StableHlo.reshape main_v0 main_v1 (rfl : (.i32 : EltTy) = .i32) shapeCasts_S32768x1_S32768,
   StableHlo.unary main_arg1 main_v2 ((extractStridedSlice S32768x1 ![0, 1] · slices_S32768x4_S32768x1_0_1) : (⟨S32768x4, .i32⟩ : BufTy).Contents (Elt F) → (⟨S32768x1, .i32⟩ : BufTy).Contents (Elt F)),
   StableHlo.reshape main_v2 main_v3 (rfl : (.i32 : EltTy) = .i32) shapeCasts_S32768x1_S32768,
   StableHlo.unary main_arg1 main_v4 ((extractStridedSlice S32768x1 ![0, 2] · slices_S32768x4_S32768x1_0_2) : (⟨S32768x4, .i32⟩ : BufTy).Contents (Elt F) → (⟨S32768x1, .i32⟩ : BufTy).Contents (Elt F)),
   StableHlo.reshape main_v4 main_v5 (rfl : (.i32 : EltTy) = .i32) shapeCasts_S32768x1_S32768,
   StableHlo.unary main_arg1 main_v6 ((extractStridedSlice S32768x1 ![0, 3] · slices_S32768x4_S32768x1_0_3) : (⟨S32768x4, .i32⟩ : BufTy).Contents (Elt F) → (⟨S32768x1, .i32⟩ : BufTy).Contents (Elt F)),
   StableHlo.reshape main_v6 main_v7 (rfl : (.i32 : EltTy) = .i32) shapeCasts_S32768x1_S32768,
   StableHlo.unary main_arg0 main_v8 ((extractStridedSlice S8192x1 ![0, 0] · slices_S8192x4_S8192x1_0_0) : (⟨S8192x4, .i32⟩ : BufTy).Contents (Elt F) → (⟨S8192x1, .i32⟩ : BufTy).Contents (Elt F)),
   StableHlo.reshape main_v8 main_v9 (rfl : (.i32 : EltTy) = .i32) shapeCasts_S8192x1_S8192,
   StableHlo.unary main_arg0 main_v10 ((extractStridedSlice S8192x1 ![0, 1] · slices_S8192x4_S8192x1_0_1) : (⟨S8192x4, .i32⟩ : BufTy).Contents (Elt F) → (⟨S8192x1, .i32⟩ : BufTy).Contents (Elt F)),
   StableHlo.reshape main_v10 main_v11 (rfl : (.i32 : EltTy) = .i32) shapeCasts_S8192x1_S8192,
   StableHlo.unary main_arg0 main_v12 ((extractStridedSlice S8192x1 ![0, 2] · slices_S8192x4_S8192x1_0_2) : (⟨S8192x4, .i32⟩ : BufTy).Contents (Elt F) → (⟨S8192x1, .i32⟩ : BufTy).Contents (Elt F)),
   StableHlo.reshape main_v12 main_v13 (rfl : (.i32 : EltTy) = .i32) shapeCasts_S8192x1_S8192,
   StableHlo.unary main_arg0 main_v14 ((extractStridedSlice S8192x1 ![0, 3] · slices_S8192x4_S8192x1_0_3) : (⟨S8192x4, .i32⟩ : BufTy).Contents (Elt F) → (⟨S8192x1, .i32⟩ : BufTy).Contents (Elt F)),
   StableHlo.reshape main_v14 main_v15 (rfl : (.i32 : EltTy) = .i32) shapeCasts_S8192x1_S8192,
   StableHlo.unary main_arg2 main_v16 ((extractStridedSlice S32768x1 ![0, 0] · slices_S32768x3_S32768x1_0_0) : (⟨S32768x3, .f32⟩ : BufTy).Contents (Elt F) → (⟨S32768x1, .f32⟩ : BufTy).Contents (Elt F)),
   StableHlo.reshape main_v16 main_v17 (rfl : (.f32 : EltTy) = .f32) shapeCasts_S32768x1_S32768,
   StableHlo.unary main_arg2 main_v18 ((extractStridedSlice S32768x1 ![0, 1] · slices_S32768x3_S32768x1_0_1) : (⟨S32768x3, .f32⟩ : BufTy).Contents (Elt F) → (⟨S32768x1, .f32⟩ : BufTy).Contents (Elt F)),
   StableHlo.reshape main_v18 main_v19 (rfl : (.f32 : EltTy) = .f32) shapeCasts_S32768x1_S32768,
   StableHlo.unary main_arg2 main_v20 ((extractStridedSlice S32768x1 ![0, 2] · slices_S32768x3_S32768x1_0_2) : (⟨S32768x3, .f32⟩ : BufTy).Contents (Elt F) → (⟨S32768x1, .f32⟩ : BufTy).Contents (Elt F)),
   StableHlo.reshape main_v20 main_v21 (rfl : (.f32 : EltTy) = .f32) shapeCasts_S32768x1_S32768,
   StableHlo.unary main_arg3 main_v22 ((extractStridedSlice S8192x1 ![0, 0] · slices_S8192x3_S8192x1_0_0) : (⟨S8192x3, .f32⟩ : BufTy).Contents (Elt F) → (⟨S8192x1, .f32⟩ : BufTy).Contents (Elt F)),
   StableHlo.reshape main_v22 main_v23 (rfl : (.f32 : EltTy) = .f32) shapeCasts_S8192x1_S8192,
   StableHlo.unary main_arg3 main_v24 ((extractStridedSlice S8192x1 ![0, 1] · slices_S8192x3_S8192x1_0_1) : (⟨S8192x3, .f32⟩ : BufTy).Contents (Elt F) → (⟨S8192x1, .f32⟩ : BufTy).Contents (Elt F)),
   StableHlo.reshape main_v24 main_v25 (rfl : (.f32 : EltTy) = .f32) shapeCasts_S8192x1_S8192,
   StableHlo.unary main_arg3 main_v26 ((extractStridedSlice S8192x1 ![0, 2] · slices_S8192x3_S8192x1_0_2) : (⟨S8192x3, .f32⟩ : BufTy).Contents (Elt F) → (⟨S8192x1, .f32⟩ : BufTy).Contents (Elt F)),
   StableHlo.reshape main_v26 main_v27 (rfl : (.f32 : EltTy) = .f32) shapeCasts_S8192x1_S8192,
   StableHlo.reshape main_arg4 main_v28 (rfl : (.f32 : EltTy) = .f32) shapeCasts_S10000x3_S30000]

theorem main_eq (d : Dev nD) : main (F := F) d = seq pre >>= fun _ => ((K (F := F)).run d 0 >>= fun _ => pure ⟨⟩) := by
  simp only [main, pre, seq, bind_assoc, pure_bind]

/-- All buffers of device `d` before the call, and at the end. -/
def atCall (d : Dev nD) : Valuation τ sig (Elt F) := after pre (StableHlo.launchContents m d)
def fin (d : Dev nD) : Valuation τ sig (Elt F) := called (atCall m d)

abbrev FIN (d : Dev nD) : sProp 𝕄 := held (T d) (ucRefs τ sig) (fin m d)

theorem pre_sub : ∀ op ∈ pre (F := F), op.bufs ⊆ ucRefs τ sig := by
  intro op hop
  simp only [pre, List.mem_cons, List.not_mem_nil, _root_.or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl <;>
    first
    | exact Pipeline.sub_ucRefs _ (StableHlo.reshape_bufs_sub ..)
    | exact Pipeline.sub_ucRefs _ (StableHlo.unary_bufs_sub ..)
theorem pre_fresh : ∀ op ∈ pre (F := F), op.fresh = ∅ := by
  intro op hop
  simp only [pre, List.mem_cons, List.not_mem_nil, _root_.or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl <;> rfl

theorem unscoped_held (d : Dev nD) : (unscopedBufs d (fun b => m ((SparseCore.T d).loc b)) : sProp 𝕄) = held (SparseCore.T d) (ucRefs τ sig) (StableHlo.launchContents m d) :=
  Pipeline.unscopedBufs_held d (StableHlo.launchContents m d)

theorem hmain (κ : GSem nD τ sig → ℕ) (d : Dev nD) :
    iprop((K (F := F)).ctx EH (P (atCall m)) κ ∗ (K (F := F)).tcSt EH d 0 ∗ (K (F := F)).tcRes m ρ d ∗ emp)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d (ucRefs τ sig) _ pre pre_sub pre_fresh _) $$ [Hb Hheld]
  · isplitl [Hb] <;> iassumption
  iintro ⟨Hb, Hheld⟩
  rw [wp_bind]
  iapply (wp_call (atCall m) κ d)
  isplitr; · iexact Hctx
  isplitl [Hst]; · iexact Hst
  isplitl [Hheld]; · iexact Hheld
  iintro ⟨Hst, Hheld⟩
  rw [wp_pure]; imodintro
  isplitl [Hst]; · iexact Hst
  isplitl [Hheld]; · iexact Hheld
  isplitl [Hb] <;> iassumption

def fq (d : Dev nD) (s' : Phys nD τ sig (Elt F)) : Prop := ∀ b ∈ ucRefs τ sig, s'.mem.mem (d, b) = fin m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro; exact h

/-- The program's run: every unscoped buffer ends at `fin`, every semaphore counter at zero. -/
theorem run_main [∀ e, Nonempty (Elt F e)] (hA : ∀ d, InRange (atCall m d)) :
    θ_run (Cert.PrepIdeal.defs (F := F)) (Cert.PrepIdeal.threads (F := F)) ⟨m, fun _ => 0, ρ⟩
      (fun r => (∀ d, ∀ b ∈ ucRefs τ sig, r.2.mem (d, b) = fin m d b) ∧ r.2.sem = fun _ => 0) :=
  SparseCore.Cfg.θ_run_sc_quiescent (K := K (F := F)) (D := D (F := F)) (𝒱 := 𝒱) (EH := EH) (P := P (atCall m)) (A := ∅) facts v₀
    (fun q hq => match q with | 0 => nomatch hq)
    (fun q _ => match q with | 0 => tileObl (atCall m) hA)
    (fun q _ => match q with | 0 => SparseCore.Cfg.VecSplit.of_plain (vecSplit (atCall m)))
    m ρ main (fun _ => iprop(emp)) (FIN m) (u₀ (F := F)) (sep_elim_left.trans (hu₀ (atCall m))) (hmain m ρ) (fq m) (hfin m) _ (fun _ h hz => ⟨h, hz⟩)

end Cert.Proof.Prep

end
-- ==== Proof.PrepMath.lean ====
/-
  The mathematics of the prep call at the ideal float values, for any number of tetrahedra: what the reference computes
  from the vertex table, the vertex words and the circumcentres by whole-array operations is, tetrahedron by tetrahedron,
  what `PrepLane` computes from the flat table and the columns.
-/
module

public import proofs.«01_k».proof.Proof.PrepLane
public import Idealize.ShloMosaic.Lib.Pointwise
public import Idealize.ShloMosaic.Lib.Pipeline.Value
public import Idealize.ShloMosaic.Lib.ValueIdx
public import Idealize.ShloMosaic.Lib.IdealHost

@[expose] public section

noncomputable section

namespace Cert.Proof.Lane

open Idealize.ShloMosaic
open Idealize.ShloMosaic.ValueIdx (select_zero select_one)

/-! ## Shapes -/

abbrev Table : Shape := ⟨2, ![10000, 3]⟩
abbrev Sc : Shape := ⟨0, ![]⟩
/-- `T` rows of `n`, and of `n` by `k`. -/
abbrev Row (T : ℕ) : Shape := ⟨1, ![T]⟩
abbrev Mat (T n : ℕ) : Shape := ⟨2, ![T, n]⟩
abbrev Box (T n k : ℕ) : Shape := ⟨3, ![T, n, k]⟩

variable {T : ℕ}

/-! ## The gather of whole rows -/

/-- The gather of the table's rows at `[T, 4, 1]` row words. -/
abbrev rowsDims (wf : GatherDims.WF Table (Box T 4 1) (Box T 4 3) [2] [0] [] [0] [] 2 ![1, 3]) : GatherDims Table (Box T 4 1) (Box T 4 3) where
  offsetDims := [2]
  collapsedSliceDims := [0]
  operandBatchingDims := []
  startIndicesBatchingDims := []
  startIndexMap := [0]
  indexVectorDim := 2
  sliceSizes := ![1, 3]
  wf := wf

theorem gather_rows_apply {α : Type} (wf : GatherDims.WF Table (Box T 4 1) (Box T 4 3) [2] [0] [] [0] [] 2 ![1, 3])
    (x : Table.Idx → α) (idx : IVec (Box T 4 1) 32) (j : Fin T) (i : Fin 4) (c : Fin 3) :
    Host.gather (rowsDims wf) x idx (ix3 j i c) = x (ix2 ⟨min (idx (ix3 j i 0)).toInt.toNat 9999, by omega⟩ c) := by
  unfold Host.gather
  congr 1
  funext a
  refine Fin.ext ?_
  show (rowsDims wf).start (ix3 j i c) idx a + (rowsDims wf).batchCoord (ix3 j i c) a + (rowsDims wf).offCoord (ix3 j i c) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    show (rowsDims wf).start (ix3 j i c) idx (0 : Fin 2) = _
    unfold GatherDims.start
    rw [dif_pos (show (0 : Fin 2) ∈ (rowsDims wf).startIndexMap from List.mem_singleton.mpr rfl)]
    have hsi : (rowsDims wf).siIdx (ix3 j i c) ⟨List.idxOf (0 : Fin 2) (rowsDims wf).startIndexMap,
        List.idxOf_lt_length_iff.2 (List.mem_singleton.mpr rfl)⟩ = ix3 j i 0 := by
      funext b; refine Fin.ext ?_
      match b with
      | ⟨0, _⟩ => rfl
      | ⟨1, _⟩ => rfl
      | ⟨2, _⟩ => rfl
    rw [hsi]
    rfl
  | ⟨1, _⟩ =>
    show (rowsDims wf).start (ix3 j i c) idx (1 : Fin 2) + 0 + (rowsDims wf).offCoord (ix3 j i c) (1 : Fin 2) = _
    unfold GatherDims.start
    rw [dif_neg (show (1 : Fin 2) ∉ (rowsDims wf).startIndexMap from show (1 : Fin 2) ∉ ([0] : List (Fin 2)) from by decide), Nat.zero_add]
    rfl

/-! ## What each side reads -/

section Reads

variable (x : FVec Ideal Table .f32) (w : IVec (Mat T 4) 32) (m : FVec Ideal (Mat T 3) .f32)

/-- Coordinate `c` of corner `i` of tetrahedron `j`. -/
def cornerAt (j : Fin T) (i : Fin 4) (c : Fin 3) : EReal := x (ix2 ⟨min (w (ix2 j i)).toNat 9999, by omega⟩ c)

/-- A word below the table's length is not negative, so the wrap of negative words leaves it. -/
theorem wrap_word (w v : BitVec 32) (h : w.toNat < 10000) : Scalar.select (IntOp.cmpi .slt w 0#32) v w = w := by
  have e : IntOp.cmpi .slt w 0#32 = 0#1 := by
    have : w.slt 0#32 = false := by
      rw [BitVec.slt_eq_decide, decide_eq_false_iff_not, BitVec.toInt_eq_toNat_cond]; simp; split <;> omega
    simp [IntOp.cmpi, this]
  rw [e, select_zero]

/-- The reference's corners: the table's rows at the words, negative ones wrapped. -/
abbrev corners (hz : Sc.BroadcastsInDim (Mat T 4) ![]) (hb : (Mat T 4).BroadcastsInDim (Box T 4 1) ![0, 1])
    (wf : GatherDims.WF Table (Box T 4 1) (Box T 4 3) [2] [0] [] [0] [] 2 ![1, 3]) : FVec Ideal (Box T 4 3) .f32 :=
  Host.gather (rowsDims wf) x (broadcastInDim (Box T 4 1) ![0, 1] hb
    (select (cmpi .slt w (broadcastInDim (Mat T 4) ![] hz (constantI Sc 32 0#32))) (addi w (broadcastInDim (Mat T 4) ![] hz (constantI Sc 32 10000#32))) w))

theorem corners_apply (hz : Sc.BroadcastsInDim (Mat T 4) ![]) (hb : (Mat T 4).BroadcastsInDim (Box T 4 1) ![0, 1])
    (wf : GatherDims.WF Table (Box T 4 1) (Box T 4 3) [2] [0] [] [0] [] 2 ![1, 3]) (hw : ∀ y, (w y).toNat < 10000)
    (j : Fin T) (i : Fin 4) (c : Fin 3) : corners x w hz hb wf (ix3 j i c) = cornerAt x w j i c := by
  unfold corners
  rw [gather_rows_apply]
  have hi : broadcastInDim (Box T 4 1) ![0, 1] hb
      (select (cmpi .slt w (broadcastInDim (Mat T 4) ![] hz (constantI Sc 32 0#32))) (addi w (broadcastInDim (Mat T 4) ![] hz (constantI Sc 32 10000#32))) w) (ix3 j i 0)
      = w (ix2 j i) :=
    (broadcastInDim_apply _ _ _ (ix3 j i 0) (ix2 j i) (fun a => by
      match a with
      | ⟨0, _⟩ =>
        show j.val = if T = 1 then 0 else j.val
        split
        · have := j.isLt; omega
        · rfl
      | ⟨1, _⟩ => rfl)).trans (wrap_word _ _ (hw _))
  have hy := hw (ix2 j i)
  unfold cornerAt
  refine congrArg x (funext fun a => Fin.ext ?_)
  match a with
  | ⟨0, _⟩ =>
    refine (congrArg (fun v : BitVec 32 => min v.toInt.toNat 9999) hi).trans ?_
    show min (w (ix2 j i)).toInt.toNat 9999 = min (w (ix2 j i)).toNat 9999
    rw [BitVec.toInt_eq_toNat_cond]
    split <;> omega
  | ⟨1, _⟩ => rfl

/-- A column of a matrix, as a flat array. -/
theorem col_apply {α : Type} {n : ℕ} (y : (Mat T n).Idx → α) (o : ℕ) (i : Fin n) (ho : o = i.val)
    (hs : (Mat T n).Slices ![0, o] (Mat T 1)) (hc : (Mat T 1).ShapeCasts (Row T)) (j : Fin T) :
    shapeCast (Row T) (extractStridedSlice (Mat T 1) ![0, o] y hs) hc (ix1 j) = y (ix2 j i) := by
  rw [shapeCast_apply _ hc (ix1 j) (ix2 j 0) (by rw [Shape.rowMajor_val_two, Shape.rowMajor_val_one]; simp)]
  exact extractStridedSlice_apply _ y hs (ix2 j 0) (ix2 j i) (fun a => by
    match a with
    | ⟨0, _⟩ => show j.val = 0 + j.val; omega
    | ⟨1, _⟩ => show i.val = o + 0; omega)

/-- One corner's slab of a box, as a matrix. -/
theorem slab_apply {α : Type} (y : (Box T 4 3).Idx → α) (o : ℕ) (i : Fin 4) (ho : o = i.val)
    (hs : (Box T 4 3).Slices ![0, o, 0] (Box T 1 3)) (hc : (Box T 1 3).ShapeCasts (Mat T 3)) (j : Fin T) (c : Fin 3) :
    shapeCast (Mat T 3) (extractStridedSlice (Box T 1 3) ![0, o, 0] y hs) hc (ix2 j c) = y (ix3 j i c) := by
  rw [shapeCast_apply _ hc (ix2 j c) (ix3 j 0 c) (by rw [Shape.rowMajor_val_two, Shape.rowMajor_val_three]; simp)]
  exact extractStridedSlice_apply _ y hs (ix3 j 0 c) (ix3 j i c) (fun a => by
    match a with
    | ⟨0, _⟩ => show j.val = 0 + j.val; omega
    | ⟨1, _⟩ => show i.val = o + 0; omega
    | ⟨2, _⟩ => show c.val = 0 + c.val; omega)

/-- The flat table at `3 w + c` is the table at `(w, c)`. -/
theorem corner_flat (hx : Table.ShapeCasts Flat) (v : BitVec 32) (hv : v.toNat < 10000) (c : Fin 3) (k : BitVec 32) (hk : k.toNat = c.val) :
    corner (F := Ideal) (shapeCast Flat x hx) v k = x (ix2 ⟨min v.toNat 9999, by omega⟩ c) := by
  unfold corner
  refine shapeCast_apply x hx _ _ ?_
  rw [Shape.rowMajor_val_two, Shape.rowMajor_val_one]
  have hc := c.isLt
  have e : (IntOp.addi (IntOp.muli v 3#32) k).toNat = v.toNat * 3 + c.val := by
    show (v * 3#32 + k).toNat = _
    rw [BitVec.toNat_add, BitVec.toNat_mul, hk, show (3#32).toNat = 3 from rfl, Nat.mod_eq_of_lt (a := v.toNat * 3) (by omega), Nat.mod_eq_of_lt (by omega)]
  show min v.toNat 9999 * 3 + c.val = (IntOp.addi (IntOp.muli v 3#32) k).toNat % 30000
  rw [e, Nat.mod_eq_of_lt (by omega), Nat.min_eq_left (by omega)]

end Reads

/-! ## Constants -/

theorem half_val : (Ideal.ofBits .f32 0x3F000000#32 : EReal) = ((1 / 2 : ℝ) : EReal) := by
  simp [Ideal.ofBits, Ideal.ieee, -EReal.coe_mul]; norm_num
theorem quarter_val : (Ideal.ofBits .f32 0x3E800000#32 : EReal) = ((1 / 4 : ℝ) : EReal) := by
  simp [Ideal.ofBits, Ideal.ieee, -EReal.coe_mul]; norm_num
theorem four_val : (Ideal.ofBits .f32 0x40800000#32 : EReal) = ((4 : ℝ) : EReal) := by
  simp [Ideal.ofBits, Ideal.ieee, -EReal.coe_mul]; norm_num
theorem top_val : (Ideal.ofBits .f32 0x7F800000#32 : EReal) = ⊤ := by
  simp [Ideal.ofBits, Ideal.ieee]

theorem zero_val : (Ideal.ofBits .f32 0x00000000#32 : EReal) = 0 := by
  simp [Ideal.ofBits, Ideal.ieee]

/-! ## The reference's arrays, tetrahedron by tetrahedron -/

/-- The shape facts of the reference's operations over `T` tetrahedra. -/
structure Shapes (T : ℕ) : Prop where
  word : Sc.BroadcastsInDim (Mat T 4) ![]
  words : (Mat T 4).BroadcastsInDim (Box T 4 1) ![0, 1]
  rows : GatherDims.WF Table (Box T 4 1) (Box T 4 3) [2] [0] [] [0] [] 2 ![1, 3]
  mean : (Box T 4 3).ReducesTo [1] (Mat T 3)
  one : 0 < Sc.numel
  scale : Sc.BroadcastsInDim (Mat T 3) ![]
  slab : ∀ i : Fin 4, (Box T 4 3).Slices ![0, i.val, 0] (Box T 1 3)
  flat : (Box T 1 3).ShapeCasts (Mat T 3)
  coords : (Mat T 3).ReducesTo [1] (Row T)
  line : (Row T).BroadcastsInDim (Mat 1 T) ![1]
  lines : Shape.Concatenates [Mat 1 T, Mat 1 T, Mat 1 T, Mat 1 T, Mat 1 T, Mat 1 T] (Mat 6 T) 0
  least : (Mat 6 T).ReducesTo [0] (Row T)

section Reference

variable (H : Shapes T) (x : FVec Ideal Table .f32) (w : IVec (Mat T 4) 32) (m : FVec Ideal (Mat T 3) .f32)

/-- The points: half of the corners' mean plus the circumcentre. -/
abbrev refPoints : FVec Ideal (Mat T 3) .f32 :=
  mulf (broadcastInDim (Mat T 3) ![] H.scale (constant Sc .f32 0x3F000000#32))
    (addf (Host.divf (Host.reduceAdd (corners x w H.word H.words H.rows) (constant Sc .f32 0x00000000#32) H.mean H.one)
      (broadcastInDim (Mat T 3) ![] H.scale (constant Sc .f32 0x40800000#32))) m)

/-- Their squared lengths. -/
abbrev refNorms : FVec Ideal (Row T) .f32 :=
  Host.reduceAdd (mulf (refPoints H x w m) (refPoints H x w m)) (constant Sc .f32 0x00000000#32) H.coords H.one

/-- One corner of every tetrahedron. -/
abbrev refCorner (i : Fin 4) : FVec Ideal (Mat T 3) .f32 :=
  shapeCast (Mat T 3) (extractStridedSlice (Box T 1 3) ![0, i.val, 0] (corners x w H.word H.words H.rows) (H.slab i)) H.flat

/-- The squared length of one edge of every tetrahedron. -/
abbrev refEdge (p q : Fin 4) : FVec Ideal (Row T) .f32 :=
  Host.reduceAdd (mulf (subf (refCorner H x w p) (refCorner H x w q)) (subf (refCorner H x w p) (refCorner H x w q)))
    (constant Sc .f32 0x00000000#32) H.coords H.one

/-- The least of the six. -/
abbrev refShortest : FVec Ideal (Row T) .f32 :=
  Host.reduce FloatOps.minimumf (concatenate (Mat 6 T) 0
    [⟨Mat 1 T, broadcastInDim (Mat 1 T) ![1] H.line (refEdge H x w 0 1)⟩, ⟨Mat 1 T, broadcastInDim (Mat 1 T) ![1] H.line (refEdge H x w 0 2)⟩,
      ⟨Mat 1 T, broadcastInDim (Mat 1 T) ![1] H.line (refEdge H x w 0 3)⟩, ⟨Mat 1 T, broadcastInDim (Mat 1 T) ![1] H.line (refEdge H x w 1 2)⟩,
      ⟨Mat 1 T, broadcastInDim (Mat 1 T) ![1] H.line (refEdge H x w 1 3)⟩, ⟨Mat 1 T, broadcastInDim (Mat 1 T) ![1] H.line (refEdge H x w 2 3)⟩] H.lines)
    (constant Sc .f32 0x7F800000#32) H.least H.one

variable (hw : ∀ y, (w y).toNat < 10000)
include hw

theorem refPoints_apply (j : Fin T) (c : Fin 3) :
    refPoints H x w m (ix2 j c) = mid (F := Ideal) (cornerAt x w j 0 c) (cornerAt x w j 1 c) (cornerAt x w j 2 c) (cornerAt x w j 3 c) (m (ix2 j c)) := by
  show (broadcastInDim (Mat T 3) ![] H.scale (constant (F := Ideal) Sc .f32 0x3F000000#32) (ix2 j c) : EReal)
    * (Ideal.div (Ideal.hostReduceAdd H.mean (corners x w H.word H.words H.rows) (Ideal.ofBits .f32 0x00000000#32) (ix2 j c))
        (broadcastInDim (Mat T 3) ![] H.scale (constant (F := Ideal) Sc .f32 0x40800000#32) (ix2 j c)) + m (ix2 j c))
    = Ideal.ofBits .f32 0x3F000000#32 * (((cornerAt x w j 0 c + cornerAt x w j 2 c) + (cornerAt x w j 1 c + cornerAt x w j 3 c)) * Ideal.ofBits .f32 0x3E800000#32 + m (ix2 j c))
  rw [ValueIdx.broadcastInDim_scalar_apply, ValueIdx.broadcastInDim_scalar_apply, Ideal.hostReduceAdd_r3_a1, Fin.sum_univ_four]
  have e : ∀ i : Fin 4, corners x w H.word H.words H.rows (ix3 j i c) = cornerAt x w j i c := fun i => corners_apply x w H.word H.words H.rows hw j i c
  show Ideal.ofBits .f32 0x3F000000#32 * (Ideal.div (Ideal.ofBits .f32 0x00000000#32 + (corners x w H.word H.words H.rows (ix3 j 0 c) + corners x w H.word H.words H.rows (ix3 j 1 c)
    + corners x w H.word H.words H.rows (ix3 j 2 c) + corners x w H.word H.words H.rows (ix3 j 3 c))) (Ideal.ofBits .f32 0x40800000#32) + m (ix2 j c)) = _
  rw [e, e, e, e, four_val, quarter_val, zero_val, zero_add, Ideal.div_coe (by norm_num)]
  congr 3
  abel

theorem refNorms_apply (j : Fin T) :
    refNorms H x w m (ix1 j) = sqLen (F := Ideal) (refPoints H x w m (ix2 j 0)) (refPoints H x w m (ix2 j 1)) (refPoints H x w m (ix2 j 2)) := by
  show Ideal.hostReduceAdd H.coords (mulf (refPoints H x w m) (refPoints H x w m)) (Ideal.ofBits .f32 0x00000000#32) (ix1 j) = _
  rw [Ideal.hostReduceAdd_r2_a1, Fin.sum_univ_three, zero_val, zero_add]
  show (refPoints H x w m (ix2 j 0) * refPoints H x w m (ix2 j 0) + refPoints H x w m (ix2 j 1) * refPoints H x w m (ix2 j 1)
    + refPoints H x w m (ix2 j 2) * refPoints H x w m (ix2 j 2) : EReal) = _
  exact add_right_comm _ _ _

theorem refEdge_apply (p q : Fin 4) (j : Fin T) :
    refEdge H x w p q (ix1 j) = sqDist (F := Ideal) (cornerAt x w j p 0) (cornerAt x w j p 1) (cornerAt x w j p 2) (cornerAt x w j q 0) (cornerAt x w j q 1) (cornerAt x w j q 2) := by
  have e : ∀ (i : Fin 4) (c : Fin 3), refCorner H x w i (ix2 j c) = cornerAt x w j i c := fun i c =>
    (slab_apply _ i.val i rfl (H.slab i) H.flat j c).trans (corners_apply x w H.word H.words H.rows hw j i c)
  show Ideal.hostReduceAdd H.coords (mulf (subf (refCorner H x w p) (refCorner H x w q)) (subf (refCorner H x w p) (refCorner H x w q)))
    (Ideal.ofBits .f32 0x00000000#32) (ix1 j) = _
  rw [Ideal.hostReduceAdd_r2_a1, Fin.sum_univ_three, zero_val, zero_add]
  show ((refCorner H x w p (ix2 j 0) - refCorner H x w q (ix2 j 0)) * (refCorner H x w p (ix2 j 0) - refCorner H x w q (ix2 j 0))
    + (refCorner H x w p (ix2 j 1) - refCorner H x w q (ix2 j 1)) * (refCorner H x w p (ix2 j 1) - refCorner H x w q (ix2 j 1))
    + (refCorner H x w p (ix2 j 2) - refCorner H x w q (ix2 j 2)) * (refCorner H x w p (ix2 j 2) - refCorner H x w q (ix2 j 2)) : EReal) = _
  rw [e, e, e, e, e, e]
  rfl

omit hw in
/-- Six rows stacked: row `n` of the stack. -/
theorem stack_apply (f : Fin 6 → FVec Ideal (Row T) .f32) (n : Fin 6) (j : Fin T) :
    concatenate (Mat 6 T) 0
      [⟨Mat 1 T, broadcastInDim (Mat 1 T) ![1] H.line (f 0)⟩, ⟨Mat 1 T, broadcastInDim (Mat 1 T) ![1] H.line (f 1)⟩,
        ⟨Mat 1 T, broadcastInDim (Mat 1 T) ![1] H.line (f 2)⟩, ⟨Mat 1 T, broadcastInDim (Mat 1 T) ![1] H.line (f 3)⟩,
        ⟨Mat 1 T, broadcastInDim (Mat 1 T) ![1] H.line (f 4)⟩, ⟨Mat 1 T, broadcastInDim (Mat 1 T) ![1] H.line (f 5)⟩] H.lines (ix2 n j) = f n (ix1 j) := by
  refine (concatenate_ofFn_apply (t := Mat 6 T) (s₁ := Mat 1 T) 0 (fun n : Fin 6 => broadcastInDim (Mat 1 T) ![1] H.line (f n)) H.lines rfl 1 rfl (ix2 n j) n
    (Nat.div_one _) (ix2 0 j) (by show 0 = n.val % 1; omega) (fun b hb => by
      match b with
      | ⟨0, _⟩ => exact absurd rfl hb
      | ⟨1, _⟩ => rfl)).trans ?_
  exact broadcastInDim_apply _ _ _ (ix2 0 j) (ix1 j) (fun a => by
    obtain rfl : a = 0 := Subsingleton.elim _ _
    show j.val = if T = 1 then 0 else j.val
    split
    · have := j.isLt; omega
    · rfl)

theorem refShortest_apply (j : Fin T) :
    refShortest H x w (ix1 j) = shortest (F := Ideal) (fun i => cornerAt x w j i 0) (fun i => cornerAt x w j i 1) (fun i => cornerAt x w j i 2) := by
  unfold refShortest
  rw [Host.reduce_eq_fold, Shape.ReducesTo.fold_fiber_r2_a0]
  refine (Finset.fold_congr (g := fun n : Fin 6 => (![refEdge H x w 0 1, refEdge H x w 0 2, refEdge H x w 0 3, refEdge H x w 1 2, refEdge H x w 1 3,
    refEdge H x w 2 3] : Fin 6 → FVec Ideal (Row T) .f32) n (ix1 j)) (fun n _ => stack_apply H ![refEdge H x w 0 1, refEdge H x w 0 2,
    refEdge H x w 0 3, refEdge H x w 1 2, refEdge H x w 1 3, refEdge H x w 2 3] n j)).trans ?_
  show Finset.univ.fold min (Ideal.ofBits .f32 0x7F800000#32 : EReal) (fun n : Fin 6 => (![refEdge H x w 0 1, refEdge H x w 0 2, refEdge H x w 0 3,
    refEdge H x w 1 2, refEdge H x w 1 3, refEdge H x w 2 3] : Fin 6 → FVec Ideal (Row T) .f32) n (ix1 j)) = _
  rw [show (Finset.univ : Finset (Fin 6)) = {0, 1, 2, 3, 4, 5} from by decide, Finset.fold_insert (by decide), Finset.fold_insert (by decide),
    Finset.fold_insert (by decide), Finset.fold_insert (by decide), Finset.fold_insert (by decide), Finset.fold_singleton, top_val]
  show min (refEdge H x w 0 1 (ix1 j) : EReal) (min (refEdge H x w 0 2 (ix1 j)) (min (refEdge H x w 0 3 (ix1 j)) (min (refEdge H x w 1 2 (ix1 j))
    (min (refEdge H x w 1 3 (ix1 j)) (min (refEdge H x w 2 3 (ix1 j)) ⊤))))) = _
  simp only [refEdge_apply H x w hw, min_top_right]
  rw [← min_assoc, ← min_assoc, ← min_assoc, ← min_assoc]
  rfl

end Reference

/-! ## The kernel's arrays from the flat table and the columns -/

section Kernel

variable (x : FVec Ideal Table .f32) (hx : Table.ShapeCasts Flat) (w : IVec (Mat T 4) 32) (m : FVec Ideal (Mat T 3) .f32)
variable (r : Fin 4 → IVec (Row T) 32) (n : Fin 3 → FVec Ideal (Row T) .f32)
variable (hr : ∀ i j, r i (ix1 j) = w (ix2 j i)) (hn : ∀ c j, n c (ix1 j) = m (ix2 j c)) (hw : ∀ y, (w y).toNat < 10000)
include hr hw

theorem corner_apply (j : Fin T) (i : Fin 4) (c : Fin 3) (k : BitVec 32) (hk : k.toNat = c.val) :
    corner (F := Ideal) (shapeCast Flat x hx) (r i (ix1 j)) k = cornerAt x w j i c := by
  rw [hr]; exact corner_flat x hx _ (hw _) c k hk

include hn

theorem point_eq (H : Shapes T) (j : Fin T) (c : Fin 3) (k : BitVec 32) (hk : k.toNat = c.val) :
    point (F := Ideal) (shapeCast Flat x hx) r (n c) k (ix1 j) = refPoints H x w m (ix2 j c) := by
  rw [refPoints_apply H x w m hw]
  unfold point
  rw [corner_apply x hx w r hr hw j 0 c k hk, corner_apply x hx w r hr hw j 1 c k hk, corner_apply x hx w r hr hw j 2 c k hk,
    corner_apply x hx w r hr hw j 3 c k hk, hn]

theorem norm_eq (H : Shapes T) : norm (F := Ideal) (shapeCast Flat x hx) r n = refNorms H x w m := by
  funext y
  obtain ⟨j, rfl⟩ : ∃ j, y = ix1 j := ⟨y 0, funext fun a => by obtain rfl : a = 0 := Subsingleton.elim _ _; rfl⟩
  rw [refNorms_apply H x w m hw]
  unfold norm
  rw [point_eq x hx w m r n hr hn hw H j 0 0#32 rfl, point_eq x hx w m r n hr hn hw H j 1 1#32 rfl, point_eq x hx w m r n hr hn hw H j 2 2#32 rfl]

/-- The points, as a column of the reference's matrix. -/
theorem point_col (H : Shapes T) (c : Fin 3) (k : BitVec 32) (hk : k.toNat = c.val)
    (hs : (Mat T 3).Slices ![0, c.val] (Mat T 1)) (hc : (Mat T 1).ShapeCasts (Row T)) :
    point (F := Ideal) (shapeCast Flat x hx) r (n c) k = shapeCast (Row T) (extractStridedSlice (Mat T 1) ![0, c.val] (refPoints H x w m) hs) hc := by
  funext y
  obtain ⟨j, rfl⟩ : ∃ j, y = ix1 j := ⟨y 0, funext fun a => by obtain rfl : a = 0 := Subsingleton.elim _ _; rfl⟩
  rw [col_apply _ c.val c rfl]
  exact point_eq x hx w m r n hr hn hw H j c k hk

omit hn in
theorem edge_eq (H : Shapes T) : edge (F := Ideal) (shapeCast Flat x hx) r = refShortest H x w := by
  funext y
  obtain ⟨j, rfl⟩ : ∃ j, y = ix1 j := ⟨y 0, funext fun a => by obtain rfl : a = 0 := Subsingleton.elim _ _; rfl⟩
  rw [refShortest_apply H x w hw]
  unfold edge
  congr 1 <;> funext i
  · exact corner_apply x hx w r hr hw j i 0 0#32 rfl
  · exact corner_apply x hx w r hr hw j i 1 1#32 rfl
  · exact corner_apply x hx w r hr hw j i 2 2#32 rfl

end Kernel

end Cert.Proof.Lane

end
-- ==== Proof.PrepClaims.lean ====
/-
  The claims of the prep call: what the operands hold when the call is made and the results at the end, in terms of the
  launch contents; the range of the vertex words read out of the precondition; the frames.
-/
module

public import proofs.«01_k».proof.Defs
public import proofs.«01_k».proof.Proof.PrepRun
public import proofs.«01_k».proof.Proof.PrepMath
public import proofs.«01_k».proof.Proof.Gen.Prep
public import proofs.«01_k».proof.Proof.Gen.PrepReferenceIdeal.Run
public import proofs.«01_k».proof.Proof.Gen.Pre_indices_in_range
public import Idealize.ShloMosaic.Lib.ReduceAll
public import Idealize.ShloMosaic.Lib.Pipeline.FrameTail

@[expose] public section

noncomputable section

namespace Cert.Proof.Prep

open Cert.PrepIdeal Cert.PrepIdeal.Gen Cert.Proof.Parts
open Idealize.ShloMosaic Idealize.SL.Sem
open Idealize.ShloMosaic.StableHlo (after after_cons after_nil launchContents)
open Idealize.ShloMosaic.Pipeline (ucRefs)

section Contents

variable {F : FTy → Type} [FloatOps F] (m : (ℓ : Loc nD τ sig) → Buf (Elt F) ℓ) (d : Dev nD)

/-- The old tetrahedra's words are the columns of the matrix of them; -/
theorem oldWords_at (i : Fin 4) (j : Fin 32768) : oldWords (atCall m d) i (ix1 j) = (m ((SparseCore.T d).loc main_arg1) : S32768x4.Idx → BitVec 32) (ix2 j i) := by
  have h0 : atCall m d (Proc.devRef .tc (main_v1 : Ref sig .tc)) = shapeCast S32768 (extractStridedSlice S32768x1 ![0, 0] (m ((SparseCore.T d).loc main_arg1)) slices_S32768x4_S32768x1_0_0) shapeCasts_S32768x1_S32768 := by
    unfold atCall pre; after_results <;> rfl
  have h1 : atCall m d (Proc.devRef .tc (main_v3 : Ref sig .tc)) = shapeCast S32768 (extractStridedSlice S32768x1 ![0, 1] (m ((SparseCore.T d).loc main_arg1)) slices_S32768x4_S32768x1_0_1) shapeCasts_S32768x1_S32768 := by
    unfold atCall pre; after_results <;> rfl
  have h2 : atCall m d (Proc.devRef .tc (main_v5 : Ref sig .tc)) = shapeCast S32768 (extractStridedSlice S32768x1 ![0, 2] (m ((SparseCore.T d).loc main_arg1)) slices_S32768x4_S32768x1_0_2) shapeCasts_S32768x1_S32768 := by
    unfold atCall pre; after_results <;> rfl
  have h3 : atCall m d (Proc.devRef .tc (main_v7 : Ref sig .tc)) = shapeCast S32768 (extractStridedSlice S32768x1 ![0, 3] (m ((SparseCore.T d).loc main_arg1)) slices_S32768x4_S32768x1_0_3) shapeCasts_S32768x1_S32768 := by
    unfold atCall pre; after_results <;> rfl
  match i with
  | ⟨0, _⟩ => exact (congrFun h0 (ix1 j)).trans (Lane.col_apply _ 0 0 rfl _ _ j)
  | ⟨1, _⟩ => exact (congrFun h1 (ix1 j)).trans (Lane.col_apply _ 1 1 rfl _ _ j)
  | ⟨2, _⟩ => exact (congrFun h2 (ix1 j)).trans (Lane.col_apply _ 2 2 rfl _ _ j)
  | ⟨3, _⟩ => exact (congrFun h3 (ix1 j)).trans (Lane.col_apply _ 3 3 rfl _ _ j)

/-- the new ones' likewise, -/
theorem newWords_at (i : Fin 4) (j : Fin 8192) : newWords (atCall m d) i (ix1 j) = (m ((SparseCore.T d).loc main_arg0) : S8192x4.Idx → BitVec 32) (ix2 j i) := by
  have h0 : atCall m d (Proc.devRef .tc (main_v9 : Ref sig .tc)) = shapeCast S8192 (extractStridedSlice S8192x1 ![0, 0] (m ((SparseCore.T d).loc main_arg0)) slices_S8192x4_S8192x1_0_0) shapeCasts_S8192x1_S8192 := by
    unfold atCall pre; after_results <;> rfl
  have h1 : atCall m d (Proc.devRef .tc (main_v11 : Ref sig .tc)) = shapeCast S8192 (extractStridedSlice S8192x1 ![0, 1] (m ((SparseCore.T d).loc main_arg0)) slices_S8192x4_S8192x1_0_1) shapeCasts_S8192x1_S8192 := by
    unfold atCall pre; after_results <;> rfl
  have h2 : atCall m d (Proc.devRef .tc (main_v13 : Ref sig .tc)) = shapeCast S8192 (extractStridedSlice S8192x1 ![0, 2] (m ((SparseCore.T d).loc main_arg0)) slices_S8192x4_S8192x1_0_2) shapeCasts_S8192x1_S8192 := by
    unfold atCall pre; after_results <;> rfl
  have h3 : atCall m d (Proc.devRef .tc (main_v15 : Ref sig .tc)) = shapeCast S8192 (extractStridedSlice S8192x1 ![0, 3] (m ((SparseCore.T d).loc main_arg0)) slices_S8192x4_S8192x1_0_3) shapeCasts_S8192x1_S8192 := by
    unfold atCall pre; after_results <;> rfl
  match i with
  | ⟨0, _⟩ => exact (congrFun h0 (ix1 j)).trans (Lane.col_apply _ 0 0 rfl _ _ j)
  | ⟨1, _⟩ => exact (congrFun h1 (ix1 j)).trans (Lane.col_apply _ 1 1 rfl _ _ j)
  | ⟨2, _⟩ => exact (congrFun h2 (ix1 j)).trans (Lane.col_apply _ 2 2 rfl _ _ j)
  | ⟨3, _⟩ => exact (congrFun h3 (ix1 j)).trans (Lane.col_apply _ 3 3 rfl _ _ j)

/-- and the circumcentres' coordinates. -/
theorem oldCentre_at (i : Fin 3) (j : Fin 32768) : oldCentre (atCall m d) i (ix1 j) = (m ((SparseCore.T d).loc main_arg2) : S32768x3.Idx → F .f32) (ix2 j i) := by
  have h0 : atCall m d (Proc.devRef .tc (main_v17 : Ref sig .tc)) = shapeCast S32768 (extractStridedSlice S32768x1 ![0, 0] (m ((SparseCore.T d).loc main_arg2)) slices_S32768x3_S32768x1_0_0) shapeCasts_S32768x1_S32768 := by
    unfold atCall pre; after_results <;> rfl
  have h1 : atCall m d (Proc.devRef .tc (main_v19 : Ref sig .tc)) = shapeCast S32768 (extractStridedSlice S32768x1 ![0, 1] (m ((SparseCore.T d).loc main_arg2)) slices_S32768x3_S32768x1_0_1) shapeCasts_S32768x1_S32768 := by
    unfold atCall pre; after_results <;> rfl
  have h2 : atCall m d (Proc.devRef .tc (main_v21 : Ref sig .tc)) = shapeCast S32768 (extractStridedSlice S32768x1 ![0, 2] (m ((SparseCore.T d).loc main_arg2)) slices_S32768x3_S32768x1_0_2) shapeCasts_S32768x1_S32768 := by
    unfold atCall pre; after_results <;> rfl
  match i with
  | ⟨0, _⟩ => exact (congrFun h0 (ix1 j)).trans (Lane.col_apply _ 0 0 rfl _ _ j)
  | ⟨1, _⟩ => exact (congrFun h1 (ix1 j)).trans (Lane.col_apply _ 1 1 rfl _ _ j)
  | ⟨2, _⟩ => exact (congrFun h2 (ix1 j)).trans (Lane.col_apply _ 2 2 rfl _ _ j)

/-- The new tetrahedra's circumcentres. -/
theorem newCentre_at (i : Fin 3) (j : Fin 8192) : newCentre (atCall m d) i (ix1 j) = (m ((SparseCore.T d).loc main_arg3) : S8192x3.Idx → F .f32) (ix2 j i) := by
  have h0 : atCall m d (Proc.devRef .tc (main_v23 : Ref sig .tc)) = shapeCast S8192 (extractStridedSlice S8192x1 ![0, 0] (m ((SparseCore.T d).loc main_arg3)) slices_S8192x3_S8192x1_0_0) shapeCasts_S8192x1_S8192 := by
    unfold atCall pre; after_results <;> rfl
  have h1 : atCall m d (Proc.devRef .tc (main_v25 : Ref sig .tc)) = shapeCast S8192 (extractStridedSlice S8192x1 ![0, 1] (m ((SparseCore.T d).loc main_arg3)) slices_S8192x3_S8192x1_0_1) shapeCasts_S8192x1_S8192 := by
    unfold atCall pre; after_results <;> rfl
  have h2 : atCall m d (Proc.devRef .tc (main_v27 : Ref sig .tc)) = shapeCast S8192 (extractStridedSlice S8192x1 ![0, 2] (m ((SparseCore.T d).loc main_arg3)) slices_S8192x3_S8192x1_0_2) shapeCasts_S8192x1_S8192 := by
    unfold atCall pre; after_results <;> rfl
  match i with
  | ⟨0, _⟩ => exact (congrFun h0 (ix1 j)).trans (Lane.col_apply _ 0 0 rfl _ _ j)
  | ⟨1, _⟩ => exact (congrFun h1 (ix1 j)).trans (Lane.col_apply _ 1 1 rfl _ _ j)
  | ⟨2, _⟩ => exact (congrFun h2 (ix1 j)).trans (Lane.col_apply _ 2 2 rfl _ _ j)

/-- The vertex table, flat. -/
theorem tableOf_at : tableOf (atCall m d) = shapeCast S30000 (m ((SparseCore.T d).loc main_arg4)) shapeCasts_S10000x3_S30000 := by
  unfold tableOf atCall pre; after_results <;> rfl

/-- A buffer that no line and not the call writes keeps its launch contents. -/
theorem fin_kept (b : Ref sig .tc) (hb : b ∉ [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28]) (hc : (Proc.devRef .tc b : DevRef τ sig) ∉ outRefs) :
    fin m d (Proc.devRef .tc b) = m ((SparseCore.T d).loc b) := by
  unfold fin
  rw [called_of_not_mem _ _ hc]
  unfold atCall
  rw [StableHlo.after_of_writes_sub (W := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28]) pre _ (by simp [pre]) hb]

end Contents

section Range

variable {F : FTy → Type} [FloatOps F]

/-- One matrix of words passes the two comparisons everywhere. -/
theorem all_lt {s : Shape} (w : IVec s 32) (a b : IVec s 1) (ha : ∀ y, a y = 1#1) (hb : ∀ y, b y = 1#1)
    (hda : ∀ y, a y = IntOp.cmpi .sge (w y) 0#32) (hdb : ∀ y, b y = IntOp.cmpi .slt (w y) 10000#32) (y : s.Idx) : (w y).toNat < 10000 := by
  refine word_lt (by norm_num) _ (IntOp.andi_eq_one.2 ⟨?_, ?_⟩)
  · rw [← hda]; exact ha y
  · exact (hdb y).symm.trans (hb y)

/-- Under the precondition every vertex word, of the old and of the new tetrahedra, is below `10000`. -/
theorem words_lt {x0 : IVec Pre_indices_in_range.S8192x4 32} {x1 : IVec Pre_indices_in_range.S32768x4 32} {x2 : FVec F Pre_indices_in_range.S32768x3 .f32}
    {x3 : FVec F Pre_indices_in_range.S8192x3 .f32} {x4 : FVec F Pre_indices_in_range.S10000x3 .f32}
    (h : Pre_indices_in_range.fn (F := F) x0 x1 x2 x3 x4 = fun _ => 1#1) : (∀ y, (x0 y).toNat < 10000) ∧ ∀ y, (x1 y).toNat < 10000 := by
  have h := congrFun h (fun a => a.elim0)
  unfold Pre_indices_in_range.fn at h
  obtain ⟨h, h4⟩ := IntOp.andi_eq_one.1 h
  obtain ⟨h, h3⟩ := IntOp.andi_eq_one.1 h
  obtain ⟨h1, h2⟩ := IntOp.andi_eq_one.1 h
  haveI : Subsingleton Pre_indices_in_range.S_.Idx := ⟨fun a b => funext fun k => k.elim0⟩
  exact ⟨all_lt x0 _ _ (Host.reduce_andi_all _ _ _ _ _ h1) (Host.reduce_andi_all _ _ _ _ _ h2)
      (fun _ => congrArg (IntOp.cmpi .sge _) rfl) (fun _ => congrArg (IntOp.cmpi .slt _) rfl),
    all_lt x1 _ _ (Host.reduce_andi_all _ _ _ _ _ h3) (Host.reduce_andi_all _ _ _ _ _ h4)
      (fun _ => congrArg (IntOp.cmpi .sge _) rfl) (fun _ => congrArg (IntOp.cmpi .slt _) rfl)⟩

theorem call_lt (m : (ℓ : Loc nD τ sig) → Buf (Elt F) ℓ)
    (h : ∀ d, (∀ y, ((m ((SparseCore.T d).loc main_arg0) : S8192x4.Idx → BitVec 32) y).toNat < 10000)
      ∧ ∀ y, ((m ((SparseCore.T d).loc main_arg1) : S32768x4.Idx → BitVec 32) y).toNat < 10000) (d : Dev nD) : InRange (atCall m d) := by
  constructor
  · intro i y
    obtain ⟨j, rfl⟩ : ∃ j, y = ix1 j := ⟨y 0, funext fun a => by obtain rfl : a = 0 := Subsingleton.elim _ _; rfl⟩
    rw [oldWords_at]; exact (h d).2 _
  · intro i y
    obtain ⟨j, rfl⟩ : ∃ j, y = ix1 j := ⟨y 0, funext fun a => by obtain rfl : a = 0 := Subsingleton.elim _ _; rfl⟩
    rw [newWords_at]; exact (h d).1 _

/-- The frame, over any float values: the run, with the results' contents. -/
theorem frame_of [∀ e, Nonempty (Elt F e)] (m : (ℓ : Loc nD τ sig) → Buf (Elt F) ℓ) (ρ : Dev nD → PrngReg)
    (h : ∀ d, (∀ y, ((m ((SparseCore.T d).loc main_arg0) : S8192x4.Idx → BitVec 32) y).toNat < 10000)
      ∧ ∀ y, ((m ((SparseCore.T d).loc main_arg1) : S32768x4.Idx → BitVec 32) y).toNat < 10000) :
    θ_run (Cert.PrepIdeal.defs (F := F)) (Cert.PrepIdeal.threads (F := F)) ⟨m, fun _ => 0, ρ⟩ (fun r =>
      (∀ d : Dev nD, (r.2.mem ((SparseCore.T d).loc main_v29_0) = res0 (atCall m d)
        ∧ r.2.mem ((SparseCore.T d).loc main_v29_1) = res1 (atCall m d)
        ∧ r.2.mem ((SparseCore.T d).loc main_v29_2) = res2 (atCall m d)
        ∧ r.2.mem ((SparseCore.T d).loc main_v29_3) = res3 (atCall m d)
        ∧ r.2.mem ((SparseCore.T d).loc main_v29_4) = res4 (atCall m d)
        ∧ r.2.mem ((SparseCore.T d).loc main_v29_5) = res5 (atCall m d)
        ∧ r.2.mem ((SparseCore.T d).loc main_v29_6) = res6 (atCall m d)
        ∧ r.2.mem ((SparseCore.T d).loc main_v29_7) = res7 (atCall m d)
        ∧ r.2.mem ((SparseCore.T d).loc main_v29_8) = res8 (atCall m d)
        ∧ r.2.mem ((SparseCore.T d).loc main_v29_9) = res9 (atCall m d))
        ∧ r.2.mem ((SparseCore.T d).loc main_arg0) = m ((SparseCore.T d).loc main_arg0)
        ∧ r.2.mem ((SparseCore.T d).loc main_arg1) = m ((SparseCore.T d).loc main_arg1)
        ∧ r.2.mem ((SparseCore.T d).loc main_arg2) = m ((SparseCore.T d).loc main_arg2)
        ∧ r.2.mem ((SparseCore.T d).loc main_arg3) = m ((SparseCore.T d).loc main_arg3)
        ∧ r.2.mem ((SparseCore.T d).loc main_arg4) = m ((SparseCore.T d).loc main_arg4))
      ∧ r.2.sem = fun _ => 0) :=
  (θ_run _ _ _).mono (fun _ hr => ⟨fun d =>
    ⟨⟨(hr.1 d _ (Pipeline.devRef_mem_ucRefs (b := main_v29_0) rfl)).trans (called_0 _),
     (hr.1 d _ (Pipeline.devRef_mem_ucRefs (b := main_v29_1) rfl)).trans (called_1 _),
     (hr.1 d _ (Pipeline.devRef_mem_ucRefs (b := main_v29_2) rfl)).trans (called_2 _),
     (hr.1 d _ (Pipeline.devRef_mem_ucRefs (b := main_v29_3) rfl)).trans (called_3 _),
     (hr.1 d _ (Pipeline.devRef_mem_ucRefs (b := main_v29_4) rfl)).trans (called_4 _),
     (hr.1 d _ (Pipeline.devRef_mem_ucRefs (b := main_v29_5) rfl)).trans (called_5 _),
     (hr.1 d _ (Pipeline.devRef_mem_ucRefs (b := main_v29_6) rfl)).trans (called_6 _),
     (hr.1 d _ (Pipeline.devRef_mem_ucRefs (b := main_v29_7) rfl)).trans (called_7 _),
     (hr.1 d _ (Pipeline.devRef_mem_ucRefs (b := main_v29_8) rfl)).trans (called_8 _),
     (hr.1 d _ (Pipeline.devRef_mem_ucRefs (b := main_v29_9) rfl)).trans (called_9 _)⟩,
     (hr.1 d _ (Pipeline.devRef_mem_ucRefs (b := main_arg0) rfl)).trans (fin_kept m d main_arg0 (by decide) (by decide)),
     (hr.1 d _ (Pipeline.devRef_mem_ucRefs (b := main_arg1) rfl)).trans (fin_kept m d main_arg1 (by decide) (by decide)),
     (hr.1 d _ (Pipeline.devRef_mem_ucRefs (b := main_arg2) rfl)).trans (fin_kept m d main_arg2 (by decide) (by decide)),
     (hr.1 d _ (Pipeline.devRef_mem_ucRefs (b := main_arg3) rfl)).trans (fin_kept m d main_arg3 (by decide) (by decide)),
     (hr.1 d _ (Pipeline.devRef_mem_ucRefs (b := main_arg4) rfl)).trans (fin_kept m d main_arg4 (by decide) (by decide))⟩, hr.2⟩)
    (run_main m ρ (call_lt m h))

end Range

theorem frame_ideal : Cert.quiescent_PrepIdeal := fun m ρ hp =>
  (θ_run _ _ _).mono (fun _ h => ⟨fun c => (h.1 c).2, h.2⟩) (frame_of (F := Ideal) m ρ fun d => words_lt (hp d))

theorem frame_bits : Cert.quiescent_Prep := fun m ρ hp =>
  (θ_run Cert.PrepIdeal.defs _ _).mono (fun _ h => ⟨fun c => (h.1 c).2, h.2⟩) (frame_of (F := Bits) m ρ fun d => words_lt (hp d))

end Cert.Proof.Prep

end
-- ==== Proof.PrepValue.lean ====
/-
  The equation of the prep call: on every device the ten arrays the kernel writes are the reference's, at the ideal float
  values. The mathematics, for any number of tetrahedra, is in `PrepMath`; here it meets the two programs.
-/
module

public import proofs.«01_k».proof.Proof.PrepClaims

@[expose] public section

noncomputable section

namespace Cert.Proof.Prep

open Cert.PrepReferenceIdeal Cert.PrepReferenceIdeal.Gen
open Idealize.ShloMosaic Idealize.SL.Sem Cert.Proof.Parts

/-- The shape facts at the old tetrahedra, and at the new. -/
theorem olds : Lane.Shapes 32768 where
  word := bcast_S_S32768x4
  words := bcast_S32768x4_S32768x4x1_0_1
  rows := gather_S10000x3_S32768x4x1_S32768x4x3_2_0_n_n_0_2_13_wf
  mean := reducesTo_S32768x4x3_S32768x3_d1
  one := h_S_
  scale := bcast_S_S32768x3
  slab := fun i => match i with
    | ⟨0, _⟩ => slices_S32768x4x3_S32768x1x3_0_0_0
    | ⟨1, _⟩ => slices_S32768x4x3_S32768x1x3_0_1_0
    | ⟨2, _⟩ => slices_S32768x4x3_S32768x1x3_0_2_0
    | ⟨3, _⟩ => slices_S32768x4x3_S32768x1x3_0_3_0
  flat := shapeCasts_S32768x1x3_S32768x3
  coords := reducesTo_S32768x3_S32768_d1
  line := bcast_S32768_S1x32768_1
  lines := concatenates_S1x32768_S1x32768_S1x32768_S1x32768_S1x32768_S1x32768_S6x32768_d0
  least := reducesTo_S6x32768_S32768_d0
theorem news : Lane.Shapes 8192 where
  word := bcast_S_S8192x4
  words := bcast_S8192x4_S8192x4x1_0_1
  rows := gather_S10000x3_S8192x4x1_S8192x4x3_2_0_n_n_0_2_13_wf
  mean := reducesTo_S8192x4x3_S8192x3_d1
  one := h_S_
  scale := bcast_S_S8192x3
  slab := fun i => match i with
    | ⟨0, _⟩ => slices_S8192x4x3_S8192x1x3_0_0_0
    | ⟨1, _⟩ => slices_S8192x4x3_S8192x1x3_0_1_0
    | ⟨2, _⟩ => slices_S8192x4x3_S8192x1x3_0_2_0
    | ⟨3, _⟩ => slices_S8192x4x3_S8192x1x3_0_3_0
  flat := shapeCasts_S8192x1x3_S8192x3
  coords := reducesTo_S8192x3_S8192_d1
  line := bcast_S8192_S1x8192_1
  lines := concatenates_S1x8192_S1x8192_S1x8192_S1x8192_S1x8192_S1x8192_S6x8192_d0
  least := reducesTo_S6x8192_S8192_d0

/-- A column of the reference's points. -/
abbrev refCol {T : ℕ} (H : Lane.Shapes T) (hc : (Lane.Mat T 1).ShapeCasts (Lane.Row T)) (c : Fin 3) (hs : (Lane.Mat T 3).Slices ![0, c.val] (Lane.Mat T 1))
    (x : FVec Ideal Lane.Table .f32) (w : IVec (Lane.Mat T 4) 32) (n : FVec Ideal (Lane.Mat T 3) .f32) : FVec Ideal (Lane.Row T) .f32 :=
  shapeCast (Lane.Row T) (extractStridedSlice (Lane.Mat T 1) ![0, c.val] (Lane.refPoints H x w n) hs) hc

section Kernel

variable (m : (ℓ : Loc Cert.PrepIdeal.nD Cert.PrepIdeal.τ Cert.PrepIdeal.sig) → Buf (Elt Ideal) ℓ) (d : Dev Cert.PrepIdeal.nD)

/-- The arguments' launch contents. -/
abbrev newW : IVec S8192x4 32 := m ((SparseCore.T d).loc Cert.PrepIdeal.main_arg0)
abbrev oldW : IVec S32768x4 32 := m ((SparseCore.T d).loc Cert.PrepIdeal.main_arg1)
abbrev oldC : FVec Ideal S32768x3 .f32 := m ((SparseCore.T d).loc Cert.PrepIdeal.main_arg2)
abbrev newC : FVec Ideal S8192x3 .f32 := m ((SparseCore.T d).loc Cert.PrepIdeal.main_arg3)
abbrev table : FVec Ideal S10000x3 .f32 := m ((SparseCore.T d).loc Cert.PrepIdeal.main_arg4)

variable (hw : (∀ y, (newW m d y).toNat < 10000) ∧ ∀ y, (oldW m d y).toNat < 10000)
include hw

theorem res0_eq : res0 (atCall m d) = refCol olds shapeCasts_S32768x1_S32768 0 slices_S32768x3_S32768x1_0_0 (table m d) (oldW m d) (oldC m d) :=
  (congrArg (fun t => Lane.point (F := Ideal) t (oldWords (atCall m d)) (oldCentre (atCall m d) 0) 0#32) (tableOf_at m d)).trans
    (Lane.point_col (table m d) Cert.PrepIdeal.Gen.shapeCasts_S10000x3_S30000 (oldW m d) (oldC m d) _ (oldCentre (atCall m d)) (oldWords_at m d) (oldCentre_at m d) hw.2 olds 0 0#32 rfl _ _)
theorem res1_eq : res1 (atCall m d) = refCol olds shapeCasts_S32768x1_S32768 1 slices_S32768x3_S32768x1_0_1 (table m d) (oldW m d) (oldC m d) :=
  (congrArg (fun t => Lane.point (F := Ideal) t (oldWords (atCall m d)) (oldCentre (atCall m d) 1) 1#32) (tableOf_at m d)).trans
    (Lane.point_col (table m d) Cert.PrepIdeal.Gen.shapeCasts_S10000x3_S30000 (oldW m d) (oldC m d) _ (oldCentre (atCall m d)) (oldWords_at m d) (oldCentre_at m d) hw.2 olds 1 1#32 rfl _ _)
theorem res2_eq : res2 (atCall m d) = refCol olds shapeCasts_S32768x1_S32768 2 slices_S32768x3_S32768x1_0_2 (table m d) (oldW m d) (oldC m d) :=
  (congrArg (fun t => Lane.point (F := Ideal) t (oldWords (atCall m d)) (oldCentre (atCall m d) 2) 2#32) (tableOf_at m d)).trans
    (Lane.point_col (table m d) Cert.PrepIdeal.Gen.shapeCasts_S10000x3_S30000 (oldW m d) (oldC m d) _ (oldCentre (atCall m d)) (oldWords_at m d) (oldCentre_at m d) hw.2 olds 2 2#32 rfl _ _)
theorem res3_eq : res3 (atCall m d) = Lane.refNorms olds (table m d) (oldW m d) (oldC m d) :=
  (congrArg (fun t => Lane.norm (F := Ideal) t (oldWords (atCall m d)) (oldCentre (atCall m d))) (tableOf_at m d)).trans
    (Lane.norm_eq (table m d) Cert.PrepIdeal.Gen.shapeCasts_S10000x3_S30000 (oldW m d) (oldC m d) _ _ (oldWords_at m d) (oldCentre_at m d) hw.2 olds)
theorem res4_eq : res4 (atCall m d) = Lane.refShortest olds (table m d) (oldW m d) :=
  (congrArg (fun t => Lane.edge (F := Ideal) t (oldWords (atCall m d))) (tableOf_at m d)).trans
    (Lane.edge_eq (table m d) Cert.PrepIdeal.Gen.shapeCasts_S10000x3_S30000 (oldW m d) _ (oldWords_at m d) hw.2 olds)
theorem res5_eq : res5 (atCall m d) = refCol news shapeCasts_S8192x1_S8192 0 slices_S8192x3_S8192x1_0_0 (table m d) (newW m d) (newC m d) :=
  (congrArg (fun t => Lane.point (F := Ideal) t (newWords (atCall m d)) (newCentre (atCall m d) 0) 0#32) (tableOf_at m d)).trans
    (Lane.point_col (table m d) Cert.PrepIdeal.Gen.shapeCasts_S10000x3_S30000 (newW m d) (newC m d) _ (newCentre (atCall m d)) (newWords_at m d) (newCentre_at m d) hw.1 news 0 0#32 rfl _ _)
theorem res6_eq : res6 (atCall m d) = refCol news shapeCasts_S8192x1_S8192 1 slices_S8192x3_S8192x1_0_1 (table m d) (newW m d) (newC m d) :=
  (congrArg (fun t => Lane.point (F := Ideal) t (newWords (atCall m d)) (newCentre (atCall m d) 1) 1#32) (tableOf_at m d)).trans
    (Lane.point_col (table m d) Cert.PrepIdeal.Gen.shapeCasts_S10000x3_S30000 (newW m d) (newC m d) _ (newCentre (atCall m d)) (newWords_at m d) (newCentre_at m d) hw.1 news 1 1#32 rfl _ _)
theorem res7_eq : res7 (atCall m d) = refCol news shapeCasts_S8192x1_S8192 2 slices_S8192x3_S8192x1_0_2 (table m d) (newW m d) (newC m d) :=
  (congrArg (fun t => Lane.point (F := Ideal) t (newWords (atCall m d)) (newCentre (atCall m d) 2) 2#32) (tableOf_at m d)).trans
    (Lane.point_col (table m d) Cert.PrepIdeal.Gen.shapeCasts_S10000x3_S30000 (newW m d) (newC m d) _ (newCentre (atCall m d)) (newWords_at m d) (newCentre_at m d) hw.1 news 2 2#32 rfl _ _)
theorem res8_eq : res8 (atCall m d) = Lane.refNorms news (table m d) (newW m d) (newC m d) :=
  (congrArg (fun t => Lane.norm (F := Ideal) t (newWords (atCall m d)) (newCentre (atCall m d))) (tableOf_at m d)).trans
    (Lane.norm_eq (table m d) Cert.PrepIdeal.Gen.shapeCasts_S10000x3_S30000 (newW m d) (newC m d) _ _ (newWords_at m d) (newCentre_at m d) hw.1 news)
theorem res9_eq : res9 (atCall m d) = Lane.refShortest news (table m d) (newW m d) :=
  (congrArg (fun t => Lane.edge (F := Ideal) t (newWords (atCall m d))) (tableOf_at m d)).trans
    (Lane.edge_eq (table m d) Cert.PrepIdeal.Gen.shapeCasts_S10000x3_S30000 (newW m d) _ (newWords_at m d) hw.1 news)

end Kernel

set_option maxRecDepth 8192 in
theorem algebraic : Cert.algebraic_PrepIdeal_PrepReferenceIdeal := fun m ρ m' ρ' hp hargs => by
  refine ⟨fun c => refCol olds shapeCasts_S32768x1_S32768 0 slices_S32768x3_S32768x1_0_0 (table m c) (oldW m c) (oldC m c),
    fun c => refCol olds shapeCasts_S32768x1_S32768 1 slices_S32768x3_S32768x1_0_1 (table m c) (oldW m c) (oldC m c),
    fun c => refCol olds shapeCasts_S32768x1_S32768 2 slices_S32768x3_S32768x1_0_2 (table m c) (oldW m c) (oldC m c),
    fun c => Lane.refNorms olds (table m c) (oldW m c) (oldC m c),
    fun c => Lane.refShortest olds (table m c) (oldW m c),
    fun c => refCol news shapeCasts_S8192x1_S8192 0 slices_S8192x3_S8192x1_0_0 (table m c) (newW m c) (newC m c),
    fun c => refCol news shapeCasts_S8192x1_S8192 1 slices_S8192x3_S8192x1_0_1 (table m c) (newW m c) (newC m c),
    fun c => refCol news shapeCasts_S8192x1_S8192 2 slices_S8192x3_S8192x1_0_2 (table m c) (newW m c) (newC m c),
    fun c => Lane.refNorms news (table m c) (newW m c) (newC m c),
    fun c => Lane.refShortest news (table m c) (newW m c), ?_, ?_⟩
  · refine (θ_run _ _ _).mono (fun r h c => ?_) (frame_of (F := Ideal) m ρ fun d => words_lt (hp d))
    obtain ⟨⟨h0, h1, h2, h3, h4, h5, h6, h7, h8, h9⟩, hk⟩ := h.1 c
    have hw := words_lt (hp c)
    exact ⟨h0.trans (res0_eq m c hw), h1.trans (res1_eq m c hw), h2.trans (res2_eq m c hw), h3.trans (res3_eq m c hw), h4.trans (res4_eq m c hw), h5.trans (res5_eq m c hw), h6.trans (res6_eq m c hw), h7.trans (res7_eq m c hw), h8.trans (res8_eq m c hw), h9.trans (res9_eq m c hw), hk⟩
  · refine (θ_run _ _ _).mono (fun r h c => ?_) (Cert.PrepReferenceIdeal.Value.run (F := Ideal) m' ρ')
    obtain ⟨h0, h1, h2, h3, h4, h5, h6, h7, h8, h9, hk⟩ := h c
    obtain ⟨a0, a1, a2, a3, a4⟩ := hargs c
    have e0 := congr (congrArg₂ (refCol olds shapeCasts_S32768x1_S32768 0 slices_S32768x3_S32768x1_0_0) a4 a1) a2
    have e1 := congr (congrArg₂ (refCol olds shapeCasts_S32768x1_S32768 1 slices_S32768x3_S32768x1_0_1) a4 a1) a2
    have e2 := congr (congrArg₂ (refCol olds shapeCasts_S32768x1_S32768 2 slices_S32768x3_S32768x1_0_2) a4 a1) a2
    have e3 := congr (congrArg₂ (Lane.refNorms olds) a4 a1) a2
    have e4 := congrArg₂ (Lane.refShortest olds) a4 a1
    have e5 := congr (congrArg₂ (refCol news shapeCasts_S8192x1_S8192 0 slices_S8192x3_S8192x1_0_0) a4 a0) a3
    have e6 := congr (congrArg₂ (refCol news shapeCasts_S8192x1_S8192 1 slices_S8192x3_S8192x1_0_1) a4 a0) a3
    have e7 := congr (congrArg₂ (refCol news shapeCasts_S8192x1_S8192 2 slices_S8192x3_S8192x1_0_2) a4 a0) a3
    have e8 := congr (congrArg₂ (Lane.refNorms news) a4 a0) a3
    have e9 := congrArg₂ (Lane.refShortest news) a4 a0
    exact ⟨h0.trans e0, h1.trans e1, h2.trans e2, h3.trans e3, h4.trans e4, h5.trans e5, h6.trans e6, h7.trans e7, h8.trans e8, h9.trans e9, hk⟩

/-- The reference's frame: its run; it declares no semaphore. -/
theorem frame_ref : Cert.quiescent_PrepReferenceIdeal := fun m ρ _ =>
  (θ_run _ _ _).mono (fun r h => ⟨fun c => (h c).2.2.2.2.2.2.2.2.2.2, Idealize.ShloMosaic.sem_eq_zero_of_no_sems (by decide) r.2⟩)
    (Cert.PrepReferenceIdeal.Value.run (F := Ideal) m ρ)

end Cert.Proof.Prep

end
-- ==== Proof.Rank.lean ====
/-
  The `t`-th least element of a finite set of a linear order, by its rank: it is unique; taking the least element out
  moves every other one place forward; a strictly increasing map keeps the places; and the first `k` of a union are
  found among the first `k` of its parts. A stable sort by a key alone puts position `σ t` at place `t` when `σ t` is the
  `t`-th least (key, position) pair.
-/
module

public import Mathlib.Data.Finset.Sort
public import Mathlib.Data.Prod.Lex
public import Idealize.ShloMosaic.Lib.SortPrefix

@[expose] public section

namespace Cert.Proof.Rank

open Idealize.ShloMosaic

variable {α β : Type} [LinearOrder α] [LinearOrder β]

/-- `a` is in `S`, and `t` elements of `S` are below it. -/
def IsNth (S : Finset α) (t : ℕ) (a : α) : Prop := a ∈ S ∧ (S.filter (· < a)).card = t

theorem filter_ssubset {S : Finset α} {a b : α} (ha : a ∈ S) (h : a < b) : S.filter (· < a) ⊂ S.filter (· < b) := by
  refine Finset.ssubset_iff_of_subset (fun x hx => ?_) |>.mpr ⟨a, by simp [ha, h], by simp⟩
  simp only [Finset.mem_filter] at hx ⊢
  exact ⟨hx.1, hx.2.trans h⟩

theorem rank_lt {S : Finset α} {a b : α} (ha : a ∈ S) (h : a < b) : (S.filter (· < a)).card < (S.filter (· < b)).card :=
  Finset.card_lt_card (filter_ssubset ha h)

theorem IsNth.unique {S : Finset α} {t : ℕ} {a b : α} (ha : IsNth S t a) (hb : IsNth S t b) : a = b := by
  rcases lt_trichotomy a b with h | h | h
  · exact absurd (rank_lt ha.1 h) (by rw [ha.2, hb.2]; exact lt_irrefl _)
  · exact h
  · exact absurd (rank_lt hb.1 h) (by rw [ha.2, hb.2]; exact lt_irrefl _)

/-- The places are in order. -/
theorem IsNth.lt {S : Finset α} {t u : ℕ} {a b : α} (ha : IsNth S t a) (hb : IsNth S u b) (h : t < u) : a < b := by
  rcases lt_trichotomy a b with h' | h' | h'
  · exact h'
  · subst h'; exact absurd (ha.2.symm.trans hb.2) (Nat.ne_of_lt h)
  · exact absurd (rank_lt hb.1 h') (by rw [ha.2, hb.2]; omega)

theorem isNth_zero {S : Finset α} {a : α} (ha : a ∈ S) (hm : ∀ b ∈ S, a ≤ b) : IsNth S 0 a :=
  ⟨ha, Finset.card_eq_zero.mpr (Finset.filter_eq_empty_iff.mpr fun b hb => not_lt.mpr (hm b hb))⟩

theorem isNth_succ {S : Finset α} {a b : α} {t : ℕ} (ha : a ∈ S) (hm : ∀ b ∈ S, a ≤ b) (h : IsNth (S.erase a) t b) :
    IsNth S (t + 1) b := by
  obtain ⟨hb, hc⟩ := h
  rw [Finset.mem_erase] at hb
  refine ⟨hb.2, ?_⟩
  have e : S.filter (· < b) = insert a ((S.erase a).filter (· < b)) := by
    ext x
    simp only [Finset.mem_filter, Finset.mem_insert, Finset.mem_erase]
    constructor
    · rintro ⟨h1, h2⟩
      by_cases hx : x = a
      · exact .inl hx
      · exact .inr ⟨⟨hx, h1⟩, h2⟩
    · rintro (rfl | ⟨⟨_, h1⟩, h2⟩)
      · exact ⟨ha, lt_of_le_of_ne (hm b hb.2) (Ne.symm hb.1)⟩
      · exact ⟨h1, h2⟩
  rw [e, Finset.card_insert_of_notMem (by simp), hc]

theorem exists_isNth {S : Finset α} {t : ℕ} (h : t < S.card) : ∃ a, IsNth S t a := by
  induction t generalizing S with
  | zero =>
    obtain ⟨a, ha, hm⟩ := S.exists_min_image id (Finset.card_pos.mp h)
    exact ⟨a, isNth_zero ha hm⟩
  | succ t ih =>
    obtain ⟨a, ha, hm⟩ := S.exists_min_image id (Finset.card_pos.mp (by omega))
    obtain ⟨b, hb⟩ := ih (S := S.erase a) (by rw [Finset.card_erase_of_mem ha]; omega)
    exact ⟨b, isNth_succ ha hm hb⟩

theorem IsNth.image {S : Finset α} {t : ℕ} {a : α} (f : α → β) (hf : StrictMono f) (h : IsNth S t a) :
    IsNth (S.image f) t (f a) := by
  refine ⟨Finset.mem_image_of_mem f h.1, ?_⟩
  have e : (S.image f).filter (· < f a) = (S.filter (· < a)).image f := by
    ext x
    simp only [Finset.mem_filter, Finset.mem_image]
    constructor
    · rintro ⟨⟨y, hy, rfl⟩, hlt⟩
      exact ⟨y, ⟨hy, hf.lt_iff_lt.mp hlt⟩, rfl⟩
    · rintro ⟨y, ⟨hy, hlt⟩, rfl⟩
      exact ⟨⟨y, hy, rfl⟩, hf hlt⟩
  rw [e, Finset.card_image_of_injective _ hf.injective, h.2]

/-- A place in the image of a strictly increasing map comes from that place. -/
theorem IsNth.of_image {S : Finset α} {t : ℕ} {b : β} (f : α → β) (hf : StrictMono f) (ht : t < S.card) (h : IsNth (S.image f) t b) :
    ∃ a, IsNth S t a ∧ f a = b := by
  obtain ⟨a, ha⟩ := exists_isNth ht
  exact ⟨a, ha, (ha.image f hf).unique h⟩

/-- `T` is a part of `S` that holds the first `k` of `S`. -/
def Holds (k : ℕ) (T S : Finset α) : Prop := T ⊆ S ∧ ∀ a ∈ S, (S.filter (· < a)).card < k → a ∈ T

/-- The first `k` of a union, among parts that hold the first `k` of each side. -/
theorem Holds.union {k : ℕ} {TA TB A B : Finset α} (hA : Holds k TA A) (hB : Holds k TB B) : Holds k (TA ∪ TB) (A ∪ B) := by
  refine ⟨Finset.union_subset_union hA.1 hB.1, fun a ha h => ?_⟩
  rcases Finset.mem_union.mp ha with h' | h'
  · refine Finset.mem_union_left _ (hA.2 a h' (lt_of_le_of_lt (Finset.card_le_card ?_) h))
    exact Finset.filter_subset_filter _ Finset.subset_union_left
  · refine Finset.mem_union_right _ (hB.2 a h' (lt_of_le_of_lt (Finset.card_le_card ?_) h))
    exact Finset.filter_subset_filter _ Finset.subset_union_right

/-- A place below `k` in such a part is the place in the whole. -/
theorem Holds.isNth {k t : ℕ} {T S : Finset α} {a : α} (h : Holds k T S) (hk : k ≤ S.card) (ht : t < k) (ha : IsNth T t a) : IsNth S t a := by
  obtain ⟨b, hb⟩ := exists_isNth (S := S) (t := t) (by omega)
  have hbT : IsNth T t b := by
    refine ⟨h.2 b hb.1 (by rw [hb.2]; exact ht), ?_⟩
    have e : T.filter (· < b) = S.filter (· < b) := by
      refine Finset.Subset.antisymm (Finset.filter_subset_filter _ h.1) fun x hx => ?_
      rw [Finset.mem_filter] at hx ⊢
      exact ⟨h.2 x hx.1 (by have := rank_lt hx.1 hx.2; rw [hb.2] at this; omega), hx.2⟩
    rw [e, hb.2]
  rw [ha.unique hbT]
  exact hb

/-- The first `k` places, as a set, hold the first `k`. -/
theorem holds_image {k : ℕ} {S : Finset α} (f : Fin k → α) (h : ∀ t : Fin k, IsNth S t.val (f t)) : Holds k (Finset.univ.image f) S := by
  refine ⟨fun a ha => ?_, fun a ha hr => ?_⟩
  · obtain ⟨t, _, rfl⟩ := Finset.mem_image.mp ha
    exact (h t).1
  · exact Finset.mem_image.mpr ⟨⟨_, hr⟩, Finset.mem_univ _, (h ⟨_, hr⟩).unique ⟨ha, rfl⟩⟩

/-! ## The stable sort by a key -/

/-- Of an increasing list, the stable sort by the key is the sort by the key and then the position. -/
theorem stableSort_eq_lex {n : ℕ} (K B : Fin n → Fin n → Bool) (hKB : ∀ a b, a < b → K b a = B b a)
    (l : List (Fin n)) (hl : l.Pairwise (· < ·)) : stableSort K l = stableSort B l := by
  induction l with
  | nil => rfl
  | cons a l ih =>
    rw [List.pairwise_cons] at hl
    unfold stableSort
    rw [ih hl.2]
    exact insertBefore_congr K B a _ fun b hb => hKB a b (hl.1 b ((perm_stableSort B l).mem_iff.mp hb))

/-- The stable sort of positions by "greater key first" takes place `t` from `σ t`, the `t`-th least pair of the
    opposite key and the position. -/
theorem sortedFrom_eq {n k : ℕ} (K : Fin n → Fin n → Bool) (key : Fin n → β) (hK : ∀ a b, K a b = decide (key a < key b))
    (hk : k ≤ n) (σ : Fin k → Fin n)
    (h : ∀ t : Fin k, IsNth (Finset.univ.image fun j : Fin n => toLex (key j, j)) t.val (toLex (key (σ t), σ t))) (t : Fin k) :
    sortedFrom K (t.castLE hk) = σ t := by
  have hinj : Function.Injective σ := fun a b e => by
    refine Fin.ext ?_
    have := (h a).2; rw [e, (h b).2] at this; exact this.symm
  let B : Fin n → Fin n → Bool := fun a b => decide (key a < key b) || (decide (key a = key b) && decide (a < b))
  have hB : StrictTotalBefore B :=
    StrictTotalBefore.of_key_then_position (fun a b : β => decide (a < b)) key (by simp)
      (by intro a b c; simp only [decide_eq_true_eq]; exact lt_trans)
      (by intro a b; simp only [decide_eq_true_eq]; exact lt_trichotomy a b)
  have hBlt : ∀ a b, B a b = true ↔ toLex (key a, a) < toLex (key b, b) := fun a b => by
    simp only [B, Bool.or_eq_true, Bool.and_eq_true, decide_eq_true_eq, Prod.Lex.toLex_lt_toLex]
  have hfin : (List.finRange n).Pairwise (· < ·) := List.pairwise_lt_finRange n
  have e : sortedFrom K (t.castLE hk) = sortedFrom B (t.castLE hk) := by
    unfold sortedFrom
    have : sortPositions n K = sortPositions n B :=
      stableSort_eq_lex K B (fun a b hab => by simp [hK, B, not_lt.mpr hab.le]) _ hfin
    simp only [List.get_eq_getElem, this]
    rfl
  rw [e]
  refine hB.sortedFrom_eq_of_prefix hk σ hinj (fun i j hij => ?_) (fun i p hp => ?_) t
  · by_contra hc
    have := (hBlt _ _).mp (by simpa using hc)
    exact absurd ((h i).lt (h j) hij) (not_lt.mpr this.le)
  · by_contra hc
    have hlt := (hBlt _ _).mp (by simpa using hc)
    have hm : toLex (key p, p) ∈ Finset.univ.image fun j : Fin n => toLex (key j, j) := Finset.mem_image_of_mem _ (Finset.mem_univ p)
    have hr := rank_lt hm hlt
    rw [(h i).2] at hr
    have := (h ⟨_, hr.trans i.isLt⟩).unique ⟨hm, rfl⟩
    exact hp _ (congrArg (fun x => (ofLex x).2) this)

end Cert.Proof.Rank
-- ==== Proof.Round.lean ====
/-
  One round of a selection by repeated minimum, on a row of keys and words: the least key, the least word among the
  positions that hold it, and the row with that entry overwritten by `⊤`. Five rounds find the five least (key, word)
  pairs among the entries whose key is not `⊤`, in order.
-/
module

public import proofs.«01_k».proof.Proof.Rank
public import Idealize.ShloMosaic.Lib.Pointwise

@[expose] public section

noncomputable section

namespace Cert.Proof.Rank

open Idealize.ShloMosaic

/-- A (key, word) pair, in the order of the key and then of the word read signed. -/
abbrev Entry : Type := EReal ×ₗ ℤ

variable {N : ℕ}

/-- The entries of a row whose key is not `⊤`. -/
def entries (v : Fin N → EReal) (w : Fin N → BitVec 32) : Finset Entry :=
  (Finset.univ.filter fun j => v j ≠ ⊤).image fun j => toLex (v j, (w j).toInt)

theorem mem_entries {v : Fin N → EReal} {w : Fin N → BitVec 32} {e : Entry} :
    e ∈ entries v w ↔ ∃ j, v j ≠ ⊤ ∧ toLex (v j, (w j).toInt) = e := by
  simp [entries]

/-- `μ` is the least key and `ι` the least word among the positions that hold it. -/
structure Least (v : Fin N → EReal) (w : Fin N → BitVec 32) (μ : EReal) (ι : BitVec 32) : Prop where
  le : ∀ j, μ ≤ v j
  at_ : ∃ p, v p = μ ∧ w p = ι
  word : ∀ j, v j = μ → ι.toInt ≤ (w j).toInt

theorem toInt_minsi (x y : BitVec 32) : (IntOp.minsi x y).toInt = min x.toInt y.toInt := by
  unfold IntOp.minsi
  rw [BitVec.slt_eq_decide]
  split <;> rename_i h <;> simp only [decide_eq_true_eq] at h
  · rw [min_eq_left h.le]
  · rw [min_eq_right (not_lt.mp h)]

/-- What a round computes of a row: its least key, and the least word among the positions that hold it. -/
structure Found (v : Fin N → EReal) (w : Fin N → BitVec 32) (μ : EReal) (ι : BitVec 32) : Prop where
  key : μ = Finset.univ.fold min ⊤ v
  word : ι = Finset.univ.fold IntOp.minsi 2147483647#32 fun j => if v j = μ then w j else 1073741824#32

/-- The row with the entry `(μ, ι)` overwritten. -/
def Wiped (v : Fin N → EReal) (w : Fin N → BitVec 32) (μ : EReal) (ι : BitVec 32) (v' : Fin N → EReal) : Prop :=
  ∀ j, v' j = if v j = μ ∧ w j = ι then ⊤ else v j

theorem Found.least {v : Fin N → EReal} {w : Fin N → BitVec 32} {μ : EReal} {ι : BitVec 32} (h : Found v w μ ι)
    (hw : ∀ j, (w j).toInt ≤ 1073741824) (hne : ∃ j, v j ≠ ⊤) : Least v w μ ι := by
  obtain ⟨hμ, hι⟩ := h
  have hle : ∀ j, μ ≤ v j := fun j => by rw [hμ]; exact ((Finset.le_fold_min _).mp le_rfl).2 j (Finset.mem_univ j)
  obtain ⟨j₀, hj₀⟩ := hne
  obtain ⟨p₀, hp₀⟩ : ∃ p, v p = μ := by
    rcases (Finset.fold_min_le μ).mp hμ.ge with h | ⟨p, _, h⟩
    · exact absurd (top_le_iff.mp (le_trans h (hle j₀))) hj₀
    · exact ⟨p, le_antisymm h (hle p)⟩
  set g : Fin N → BitVec 32 := fun j => if v j = μ then w j else 1073741824#32 with hg
  have hf : ι.toInt = Finset.univ.fold min (2147483647 : ℤ) (fun j => (g j).toInt) := by
    rw [hι]; exact (Finset.fold_hom (m := BitVec.toInt) toInt_minsi).symm
  have hgle : ∀ j, ι.toInt ≤ (g j).toInt := fun j => by
    rw [hf]; exact ((Finset.le_fold_min _).mp le_rfl).2 j (Finset.mem_univ j)
  have hat : ∀ j, v j = μ → ι.toInt ≤ (w j).toInt := fun j hj => by
    have := hgle j
    simpa only [hg, hj, if_true] using this
  have hp := hat p₀ hp₀
  have hwp := hw p₀
  refine ⟨hle, ?_, hat⟩
  rcases (Finset.fold_min_le ι.toInt).mp hf.ge with h | ⟨p, _, h⟩
  · omega
  · by_cases hc : v p = μ
    · refine ⟨p, hc, BitVec.eq_of_toInt_eq (le_antisymm ?_ (hat p hc))⟩
      simpa only [hg, hc, if_true] using h
    · simp only [hg, hc, if_false] at h
      have h' : (1073741824 : ℤ) ≤ ι.toInt := h
      exact ⟨p₀, hp₀, BitVec.eq_of_toInt_eq (by omega)⟩

/-- Overwriting by the word alone does the same where no two positions have one word. -/
theorem Least.wiped {v v' : Fin N → EReal} {w : Fin N → BitVec 32} {μ : EReal} {ι : BitVec 32} (h : Least v w μ ι)
    (hw : Function.Injective w) (hv : ∀ j, v' j = if w j = ι then ⊤ else v j) : Wiped v w μ ι v' := fun j => by
  rw [hv j]
  obtain ⟨p, hp, hpw⟩ := h.at_
  by_cases hj : w j = ι
  · rw [if_pos hj, if_pos ⟨by rw [hw (hj.trans hpw.symm), hp], hj⟩]
  · rw [if_neg hj, if_neg fun hc => hj hc.2]

/-- The least entry, and the row without it. -/
theorem Least.entry {v : Fin N → EReal} {w : Fin N → BitVec 32} {μ : EReal} {ι : BitVec 32} (h : Least v w μ ι)
    (hne : (entries v w).Nonempty) : toLex (μ, ι.toInt) ∈ entries v w ∧ ∀ b ∈ entries v w, toLex (μ, ι.toInt) ≤ b := by
  obtain ⟨p, hp, hw⟩ := h.at_
  obtain ⟨e, he⟩ := hne
  obtain ⟨j, hj, rfl⟩ := mem_entries.mp he
  refine ⟨mem_entries.mpr ⟨p, fun hc => hj (top_le_iff.mp (by rw [← hc, hp]; exact h.le j)), by rw [hp, hw]⟩, fun b hb => ?_⟩
  obtain ⟨k, hk, rfl⟩ := mem_entries.mp hb
  rw [Prod.Lex.toLex_le_toLex]
  rcases (h.le k).lt_or_eq with hlt | heq
  · exact .inl hlt
  · exact .inr ⟨heq, h.word k heq.symm⟩

theorem entries_wipe {v v' : Fin N → EReal} {w : Fin N → BitVec 32} {μ : EReal} {ι : BitVec 32}
    (h : Wiped v w μ ι v') : entries v' w = (entries v w).erase (toLex (μ, ι.toInt)) := by
  ext e
  rw [Finset.mem_erase, mem_entries, mem_entries]
  constructor
  · rintro ⟨j, hj, rfl⟩
    rw [h j] at hj ⊢
    split at hj
    · exact absurd rfl hj
    · rename_i hc
      rw [if_neg hc]
      refine ⟨fun he => hc ?_, j, hj, rfl⟩
      have := toLex_inj.mp he
      exact ⟨congrArg Prod.fst this, BitVec.eq_of_toInt_eq (congrArg Prod.snd this)⟩
  · rintro ⟨hne, j, hj, rfl⟩
    have hc : ¬(v j = μ ∧ w j = ι) := fun hc => hne (by rw [hc.1, hc.2])
    exact ⟨j, by rw [h j, if_neg hc]; exact hj, by rw [h j, if_neg hc]⟩

/-- Five rounds: the values and words found are the five least entries, in order. -/
theorem rounds {w : Fin N → BitVec 32} (v : ℕ → Fin N → EReal) (μ : ℕ → EReal) (ι : ℕ → BitVec 32)
    (hl : ∀ t < 5, (∃ j, v t j ≠ ⊤) → Least (v t) w (μ t) (ι t))
    (hv : ∀ t < 4, Least (v t) w (μ t) (ι t) → Wiped (v t) w (μ t) (ι t) (v (t + 1)))
    (hc : 5 ≤ (entries (v 0) w).card) (t : ℕ) (ht : t < 5) : IsNth (entries (v 0) w) t (toLex (μ t, (ι t).toInt)) := by
  have hne : ∀ t, (entries (v t) w).Nonempty → ∃ j, v t j ≠ ⊤ := fun t ⟨e, he⟩ => by
    obtain ⟨j, hj, _⟩ := mem_entries.mp he; exact ⟨j, hj⟩
  have key : ∀ t < 5, 5 ≤ (entries (v t) w).card + t ∧ ∀ s x, IsNth (entries (v t) w) s x → IsNth (entries (v 0) w) (s + t) x := by
    intro t
    induction t with
    | zero => exact fun _ => ⟨hc, fun s x h => h⟩
    | succ t ih =>
      intro ht
      obtain ⟨h1, h2⟩ := ih (by omega)
      have hn : (entries (v t) w).Nonempty := Finset.card_pos.mp (by omega)
      have hL := hl t (by omega) (hne t hn)
      have he := hL.entry hn
      have hw := entries_wipe (hv t (by omega) hL)
      rw [hw]
      refine ⟨by rw [Finset.card_erase_of_mem he.1]; omega, fun s x hx => ?_⟩
      have := h2 _ _ (isNth_succ he.1 he.2 hx)
      rwa [Nat.add_right_comm, Nat.add_assoc] at this
  obtain ⟨h1, h2⟩ := key t ht
  have hn : (entries (v t) w).Nonempty := Finset.card_pos.mp (by omega)
  have he := (hl t ht (hne t hn)).entry hn
  have := h2 0 _ (isNth_zero he.1 he.2)
  rwa [Nat.zero_add] at this

/-- The rows, keys and words of five rounds. -/
structure Five (w : Fin N → BitVec 32) (v : Fin 5 → Fin N → EReal) (μ : Fin 5 → EReal) (ι : Fin 5 → BitVec 32) : Prop where
  found : ∀ t, Found (v t) w (μ t) (ι t)
  range : ∀ j, (w j).toInt ≤ 1073741824
  wiped : ∀ t : Fin 4, Least (v t.castSucc) w (μ t.castSucc) (ι t.castSucc) → Wiped (v t.castSucc) w (μ t.castSucc) (ι t.castSucc) (v t.succ)

theorem Five.isNth {w : Fin N → BitVec 32} {v : Fin 5 → Fin N → EReal} {μ : Fin 5 → EReal} {ι : Fin 5 → BitVec 32} (h : Five w v μ ι)
    (hc : 5 ≤ (entries (v 0) w).card) (t : Fin 5) : IsNth (entries (v 0) w) t.val (toLex (μ t, (ι t).toInt)) := by
  have := rounds (w := w) (fun t => v (Fin.ofNat 5 t)) (fun t => μ (Fin.ofNat 5 t)) (fun t => ι (Fin.ofNat 5 t))
    (fun t _ hne => (h.found _).least h.range hne)
    (fun t ht hl => by
      have e1 : Fin.ofNat 5 t = (⟨t, ht⟩ : Fin 4).castSucc := Fin.ext (Nat.mod_eq_of_lt (by omega))
      have e2 : Fin.ofNat 5 (t + 1) = (⟨t, ht⟩ : Fin 4).succ := Fin.ext (Nat.mod_eq_of_lt (by omega))
      simp only [e1, e2] at hl ⊢
      exact h.wiped ⟨t, ht⟩ hl)
    hc t.val t.isLt
  simp only [Fin.ofNat_val_eq_self] at this
  exact this

/-- A row with another behind it. -/
theorem entries_append {m n : ℕ} {v : Fin (m + n) → EReal} {w : Fin (m + n) → BitVec 32} {v₁ : Fin m → EReal} {w₁ : Fin m → BitVec 32}
    {v₂ : Fin n → EReal} {w₂ : Fin n → BitVec 32} (h₁ : ∀ i, v (Fin.castAdd n i) = v₁ i) (h₂ : ∀ i, v (Fin.natAdd m i) = v₂ i)
    (h₃ : ∀ i, w (Fin.castAdd n i) = w₁ i) (h₄ : ∀ i, w (Fin.natAdd m i) = w₂ i) : entries v w = entries v₁ w₁ ∪ entries v₂ w₂ := by
  ext e
  simp only [Finset.mem_union, mem_entries]
  constructor
  · rintro ⟨j, hj, rfl⟩
    induction j using Fin.addCases with
    | left i => exact .inl ⟨i, by rw [← h₁]; exact hj, by rw [← h₁, ← h₃]⟩
    | right i => exact .inr ⟨i, by rw [← h₂]; exact hj, by rw [← h₂, ← h₄]⟩
  · rintro (⟨i, hi, rfl⟩ | ⟨i, hi, rfl⟩)
    · exact ⟨Fin.castAdd n i, by rw [h₁]; exact hi, by rw [h₁, h₃]⟩
    · exact ⟨Fin.natAdd m i, by rw [h₂]; exact hi, by rw [h₂, h₄]⟩

/-- An entry moved up by `b`. -/
def shift (b : ℤ) (e : Entry) : Entry := toLex ((ofLex e).1, (ofLex e).2 + b)

theorem shift_strictMono (b : ℤ) : StrictMono (shift b) := fun x y h => by
  unfold shift
  rw [Prod.Lex.toLex_lt_toLex]
  have := (Prod.Lex.lt_iff (x := x) (y := y)).mp h
  rcases this with h | ⟨h, h'⟩
  · exact .inl h
  · exact .inr ⟨h, by simpa using h'⟩

/-- The five least of a chunk, kept beside the five carried, hold the five least of all. -/
theorem merged {n : ℕ} {A : Finset Entry} {bv : Fin 5 → EReal} {bi : Fin 5 → BitVec 32} (hA : Holds 5 (entries bv bi) A)
    {d : Fin n → EReal} {o : Fin n → BitVec 32} {cv : Fin 5 → EReal} {ci cw : Fin 5 → BitVec 32} (b : ℤ)
    (hd : ∀ t : Fin 5, IsNth (entries d o) t.val (toLex (cv t, (ci t).toInt))) (hw : ∀ t, (cw t).toInt = (ci t).toInt + b)
    {v : Fin 10 → EReal} {w : Fin 10 → BitVec 32} (h₁ : ∀ i : Fin 5, v (Fin.castAdd 5 i) = bv i) (h₂ : ∀ i : Fin 5, v (Fin.natAdd 5 i) = cv i)
    (h₃ : ∀ i : Fin 5, w (Fin.castAdd 5 i) = bi i) (h₄ : ∀ i : Fin 5, w (Fin.natAdd 5 i) = cw i) :
    Holds 5 (entries v w) (A ∪ (entries d o).image (shift b)) ∧ 5 ≤ (entries v w).card := by
  have hsh : ∀ t : Fin 5, IsNth ((entries d o).image (shift b)) t.val (toLex (cv t, (cw t).toInt)) := fun t => by
    have := (hd t).image _ (shift_strictMono b)
    rwa [show shift b (toLex (cv t, (ci t).toInt)) = toLex (cv t, (cw t).toInt) by rw [hw t]; rfl] at this
  have hne : ∀ t, cv t ≠ ⊤ := fun t => by
    obtain ⟨j, hj, e⟩ := mem_entries.mp (hd t).1
    have := congrArg Prod.fst (toLex_inj.mp e)
    exact fun hc => hj (this.trans hc)
  have he : entries cv cw = Finset.univ.image fun t => toLex (cv t, (cw t).toInt) := by
    unfold entries
    rw [Finset.filter_true_of_mem fun t _ => hne t]
  have hB : Holds 5 (entries cv cw) ((entries d o).image (shift b)) := by
    rw [he]; exact holds_image _ hsh
  rw [entries_append h₁ h₂ h₃ h₄]
  refine ⟨hA.union hB, le_trans (le_of_eq ?_) (Finset.card_le_card Finset.subset_union_right)⟩
  rw [he, Finset.card_image_of_injective _ fun a b e => ?_]
  · rfl
  · have e' : toLex (cv a, (cw a).toInt) = toLex (cv b, (cw b).toInt) := e
    have h1 := (hsh a).2
    rw [e', (hsh b).2] at h1
    exact Fin.ext h1.symm

end Cert.Proof.Rank

end
-- ==== Proof.RoundOps.lean ====
/-
  The printed vector operations of one selection round, read at a row: the row minimum, the least word among the
  positions that hold it, and the row with that entry overwritten — by the word alone or by the key and the word.
-/
module

public import proofs.«01_k».proof.Proof.Round
public import Idealize.ShloMosaic.Lib.Pointwise
public import Idealize.ShloMosaic.Lib.Pipeline.Value
public import Idealize.ShloMosaic.Lib.ValueIdx
public import Idealize.ShloMosaic.Lib.IdealHost

@[expose] public section

noncomputable section

namespace Cert.Proof.Rank

open Idealize.ShloMosaic
open Idealize.ShloMosaic.ValueIdx (select_zero select_one)

abbrev Col (R : ℕ) : Shape := ⟨1, ![R]⟩
/-- `R` rows of `N`. -/
abbrev Grid (R N : ℕ) : Shape := ⟨2, ![R, N]⟩

/-- Row `r`. -/
abbrev row {α : Type} {R N : ℕ} (v : (Grid R N).Idx → α) (r : Fin R) : Fin N → α := fun j => v (ix2 r j)

variable {R N : ℕ} (v : FVec Ideal (Grid R N) .f32) (w : IVec (Grid R N) 32) (m : FVec Ideal (Grid R 1) .f32) (a : IVec (Grid R 1) 32)
variable (hr : (Grid R N).Reduces [1] (Col R)) (hc : (Col R).ShapeCasts (Grid R 1)) (hb : (Grid R 1).Broadcasts (Grid R N)) (r : Fin R)

theorem inf_val : (Ideal.ofBits .f32 0x7F800000#32 : EReal) = ⊤ := by
  simp [Ideal.ofBits, Ideal.ieee]

theorem column_apply {α : Type} (x : (Col R).Idx → α) : shapeCast (Grid R 1) x hc (ix2 r 0) = x (ix1 r) :=
  shapeCast_apply _ hc (ix2 r 0) (ix1 r) (by rw [Shape.rowMajor_val_two, Shape.rowMajor_val_one]; simp)

theorem spread_apply {α : Type} (x : (Grid R 1).Idx → α) (j : Fin N) : broadcastTo (Grid R N) x hb (ix2 r j) = x (ix2 r 0) := by
  refine broadcastTo_apply x hb _ _ (fun i => ?_)
  match i with
  | ⟨0, _⟩ =>
    show r.val = if R = 1 then 0 else r.val
    have := r.isLt
    split <;> omega
  | ⟨1, _⟩ => rfl

theorem ofBool_eq (p : Prop) [Decidable p] : BitVec.ofBool (decide p) = 1#1 ↔ p := by
  by_cases h : p <;> simp [h]

theorem oeq_apply (j : Fin N) : cmpf .oeq v (broadcastTo (Grid R N) m hb) (ix2 r j) = BitVec.ofBool (decide (v (ix2 r j) = m (ix2 r 0))) := by
  show Ideal.cmp .oeq (v (ix2 r j)) (broadcastTo (Grid R N) m hb (ix2 r j)) = _
  rw [spread_apply]
  rfl

theorem eq_apply (j : Fin N) : cmpi .eq w (broadcastTo (Grid R N) a hb) (ix2 r j) = BitVec.ofBool (decide (w (ix2 r j) = a (ix2 r 0))) := by
  show IntOp.cmpi .eq (w (ix2 r j)) (broadcastTo (Grid R N) a hb (ix2 r j)) = _
  rw [spread_apply]
  rfl

theorem select_if {s : Shape} {α : Type} (p : Prop) [Decidable p] (c : IVec s 1) (x y : s.Idx → α) (i : s.Idx) (h : c i = BitVec.ofBool (decide p)) :
    select c x y i = if p then x i else y i := by
  show Scalar.select (c i) (x i) (y i) = _
  rw [h]
  by_cases hp : p
  · simp only [hp, decide_true, if_true]; exact select_one _ _
  · simp only [hp, decide_false, if_false]; exact select_zero _ _

theorem and_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The least key of row `r`. -/
theorem key_apply (hk hf) : shapeCast (Grid R 1) (multiReduction .minimumf [1] (Col R) v 0x7F800000#32 hr hk hf) hc (ix2 r 0)
    = Finset.univ.fold min ⊤ (row v r) := by
  rw [column_apply]
  simp only [pointwise, inf_val]

/-- The least word of row `r` among the positions the condition picks. -/
theorem word_apply (c : IVec (Grid R N) 1) (p : Fin N → Prop) [DecidablePred p] (hp : ∀ j, c (ix2 r j) = BitVec.ofBool (decide (p j))) :
    reduceFold hr IntOp.minsi 2147483647#32 (select c w (broadcast (Grid R N) 1073741824#32)) (ix1 r)
      = Finset.univ.fold IntOp.minsi 2147483647#32 fun j => if p j then w (ix2 r j) else 1073741824#32 := by
  show multiReductionI .minsi [1] (Col R) _ 2147483647#32 hr (by decide) (ix1 r) = _
  rw [multiReductionI_eq_fold, Shape.Reduces.fold_fiber_r2_a1]
  refine Finset.fold_congr fun j _ => ?_
  exact select_if (p j) c w _ _ (hp j)

theorem wipe_word_apply (j : Fin N) :
    select (cmpi .eq w (broadcastTo (Grid R N) a hb)) (broadcast (Grid R N) (Scalar.ofBits (F := Ideal) .f32 0x7F800000#32)) v (ix2 r j)
      = if w (ix2 r j) = a (ix2 r 0) then ⊤ else v (ix2 r j) := by
  rw [select_if _ _ _ _ _ (eq_apply w a hb r j)]
  split
  · exact inf_val
  · rfl

theorem wipe_both_apply (c : IVec (Grid R N) 1) (hc : ∀ j, c (ix2 r j) = BitVec.ofBool (decide (v (ix2 r j) = m (ix2 r 0)))) (j : Fin N) :
    select (andi c (cmpi .eq w (broadcastTo (Grid R N) a hb))) (broadcast (Grid R N) (Scalar.ofBits (F := Ideal) .f32 0x7F800000#32)) v (ix2 r j)
      = if v (ix2 r j) = m (ix2 r 0) ∧ w (ix2 r j) = a (ix2 r 0) then ⊤ else v (ix2 r j) := by
  rw [select_if (v (ix2 r j) = m (ix2 r 0) ∧ w (ix2 r j) = a (ix2 r 0))]
  · split
    · exact inf_val
    · rfl
  · show IntOp.andi (c (ix2 r j)) (cmpi .eq w (broadcastTo (Grid R N) a hb) (ix2 r j)) = _
    rw [hc, eq_apply]
    exact and_ofBool _ _

/-- Five columns side by side. -/
theorem five_apply {α : Type} (x0 x1 x2 x3 x4 : (Grid R 1).Idx → α)
    (h : Shape.Concatenates [Grid R 1, Grid R 1, Grid R 1, Grid R 1, Grid R 1] (Grid R 5) 1) (t : Fin 5) :
    concatenate (Grid R 5) 1 [⟨Grid R 1, x0⟩, ⟨Grid R 1, x1⟩, ⟨Grid R 1, x2⟩, ⟨Grid R 1, x3⟩, ⟨Grid R 1, x4⟩] h (ix2 r t)
      = ![x0, x1, x2, x3, x4] t (ix2 r 0) := by
  have e : ∀ k : (Grid R 1).Idx, (k 0).val = r.val → k = ix2 r 0 := fun k hk => by
    funext b
    match b with
    | ⟨0, _⟩ => exact Fin.ext hk
    | ⟨1, _⟩ => exact Subsingleton.elim (α := Fin 1) _ _
  match t with
  | ⟨0, _⟩ => simp only [pointwise]; exact congrArg x0 (e _ rfl)
  | ⟨1, _⟩ => simp only [pointwise]; exact congrArg x1 (e _ rfl)
  | ⟨2, _⟩ => simp only [pointwise]; exact congrArg x2 (e _ rfl)
  | ⟨3, _⟩ => simp only [pointwise]; exact congrArg x3 (e _ rfl)
  | ⟨4, _⟩ => simp only [pointwise]; exact congrArg x4 (e _ rfl)

/-- Two grids of five columns side by side. -/
theorem ten_apply {α : Type} (x y : (Grid R 5).Idx → α) (h : Shape.Concatenates [Grid R 5, Grid R 5] (Grid R 10) 1) (j : Fin 10) :
    concatenate (Grid R 10) 1 [⟨Grid R 5, x⟩, ⟨Grid R 5, y⟩] h (ix2 r j)
      = if hj : j.val < 5 then x (ix2 r ⟨j.val, hj⟩) else y (ix2 r ⟨j.val - 5, by omega⟩) := by
  simp only [pointwise]
  by_cases hj : j.val < 5
  · simp only [hj, ↓reduceDIte]
    refine congrArg x ?_
    funext b
    match b with
    | ⟨0, _⟩ => rfl
    | ⟨1, _⟩ => rfl
  · simp only [hj, ↓reduceDIte]
    refine congrArg y ?_
    funext b
    match b with
    | ⟨0, _⟩ => rfl
    | ⟨1, _⟩ => rfl

end Cert.Proof.Rank

end
-- ==== Proof.KnnTrip.lean ====
/-
  One trip of the nearest-neighbour call's loop, at the ideal float values and row by row: the five least entries of the
  chunk of 8192 squared distances, and the five least of those beside the five carried.
-/
module

public import proofs.«01_k».proof.Proof.RoundOps
public import proofs.«01_k».proof.Proof.Gen.KnnIdeal.Skeleton

@[expose] public section

noncomputable section

namespace Cert.Proof.Knn

open Cert.KnnIdeal Cert.KnnIdeal.Gen Idealize.ShloMosaic Cert.Proof.Rank

section Trip

variable {F : FTy → Type} [FloatOps F]
variable (v1 : FVec F S256x8 .bf16) (v3 : FVec F S256x1 .f32) (k : Fin k0_t1_loop.trips) (x : Vec F S8x8192 .f32) (y : Vec F S1x8192 .f32)
  (acc : FVec F S256x5 .f32 × IVec S256x5 32)

/-- The positions in a chunk, and where the chunk starts. -/
abbrev lanes : IVec S256x8192 32 := iota .tc S256x8192 32 [1] iota_S256x8192_d1_w32
abbrev start : BitVec 32 := Scalar.muli (Scf.iv 0#32 1#32 k) 8192#32

/-- The ten keys and words a trip merges. -/
abbrev keys : FVec F S256x10 .f32 := k0_pay17 acc.1 lanes (k0_pay3 v1 v3 x y) (k0_pay7 v1 v3 x y) (k0_pay9 v1 v3 x y)
abbrev words : IVec S256x10 32 :=
  k0_pay18 acc.2 lanes (start k) (k0_pay6 v1 v3 0#32 1#32 k x y) (k0_pay8 v1 v3 x y) (k0_pay9 v1 v3 x y)
abbrev least : FVec F S256x1 .f32 := k0_pay19 acc.1 lanes (k0_pay3 v1 v3 x y) (k0_pay7 v1 v3 x y) (k0_pay9 v1 v3 x y)
abbrev isLeast : IVec S256x10 1 := k0_pay20 acc.1 lanes (k0_pay3 v1 v3 x y) (k0_pay7 v1 v3 x y) (k0_pay9 v1 v3 x y)

/-- What the merge yields of ten keys, ten words, the least key and where it is. -/
def mergeOut (v118 : FVec F S256x10 .f32) (v119 : IVec S256x10 32) (v121 : FVec F S256x1 .f32) (v123 : IVec S256x10 1) :
    FVec F S256x5 .f32 × IVec S256x5 32 :=
  have v164 := k0_pay28 v118 v119 v121 v123
  have v166 := k0_pay29 v118 v119 v121 v123
  have v171 := k0_pay30 v118 v119 v121 v123
  (k0_pay38 v119 v121 (k0_pay23 v118 v119 v121 v123) (k0_pay26 v118 v119 v121 v123) v164 v166 v171,
    k0_pay39 v119 (k0_pay21 v119 v123) (k0_pay24 v118 v119 v121 v123) (k0_pay27 v118 v119 v121 v123) v164 v166 v171)

/-- What one trip yields, from the chunk's points and squares and the carried pair. -/
def tripOut : FVec F S256x5 .f32 × IVec S256x5 32 :=
  mergeOut (keys v1 v3 x y acc) (words v1 v3 k x y acc) (least v1 v3 x y acc) (isLeast v1 v3 x y acc)

end Trip

/-- Five rounds counted by the naturals. -/
theorem five_of {N : ℕ} {w : Fin N → BitVec 32} (v : ℕ → Fin N → EReal) (μ : ℕ → EReal) (ι : ℕ → BitVec 32) (hf : ∀ t, Found (v t) w (μ t) (ι t))
    (hr : ∀ j, (w j).toInt ≤ 1073741824) (hw : ∀ t, Least (v t) w (μ t) (ι t) → Wiped (v t) w (μ t) (ι t) (v (t + 1))) :
    Five w (fun t => v t.val) (fun t => μ t.val) (fun t => ι t.val) :=
  ⟨fun t => hf t.val, hr, fun t => hw t.val⟩

/-- Five entries given one by one. -/
theorem five_at {α : Type} (f : ℕ → α) {a b c d e : α} (h0 : a = f 0) (h1 : b = f 1) (h2 : c = f 2) (h3 : d = f 3) (h4 : e = f 4) (i : Fin 5) :
    ![a, b, c, d, e] i = f i.val := by
  match i with
  | ⟨0, _⟩ => exact h0
  | ⟨1, _⟩ => exact h1
  | ⟨2, _⟩ => exact h2
  | ⟨3, _⟩ => exact h3
  | ⟨4, _⟩ => exact h4

/-! ## The rounds over a chunk -/

section Chunk

variable (d : FVec Ideal S256x8192 .f32)

/-- A chunk's least keys, their least positions, and the chunk without them. -/
abbrev chunkKey : FVec Ideal S256x1 .f32 :=
  shapeCast S256x1 (multiReduction .minimumf [1] S256 d 0x7F800000#32 reduces_S256x8192_S256 (.inl rfl) rfl) shapeCasts_S256_S256x1
abbrev chunkWord : IVec S256x1 32 :=
  shapeCast S256x1 (reduceFold reduces_S256x8192_S256 IntOp.minsi 2147483647#32 (select (cmpf .oeq d (broadcastTo S256x8192 (chunkKey d) broadcasts_S256x1_S256x8192)) lanes
    (broadcast S256x8192 1073741824#32))) shapeCasts_S256_S256x1
abbrev chunkWipe : FVec Ideal S256x8192 .f32 :=
  select (cmpi .eq lanes (broadcastTo S256x8192 (chunkWord d) broadcasts_S256x1_S256x8192))
    (broadcast S256x8192 (Scalar.ofBits (F := Ideal) .f32 0x7F800000#32)) d

theorem lanes_apply (r : Fin 256) (j : Fin 8192) : lanes (ix2 r j) = BitVec.ofNat 32 j.val := by
  simp only [pointwise]
  simp

theorem lanes_toInt (r : Fin 256) (j : Fin 8192) : (lanes (ix2 r j)).toInt = (j.val : ℤ) := by
  rw [lanes_apply, BitVec.toInt_ofNat']
  have := j.isLt
  rw [Int.bmod_eq_of_le] <;> omega

theorem lanes_injective (r : Fin 256) : Function.Injective (row lanes r) := fun a b h => by
  have := congrArg BitVec.toInt h
  simp only [lanes_toInt] at this
  exact Fin.ext (by exact_mod_cast this)

theorem chunk_found (r : Fin 256) : Found (row d r) (row lanes r) (chunkKey d (ix2 r 0)) (chunkWord d (ix2 r 0)) :=
  ⟨key_apply d _ _ r _ _, by
    rw [chunkWord, column_apply, word_apply lanes _ r _ (fun j => d (ix2 r j) = chunkKey d (ix2 r 0)) (fun j => oeq_apply _ _ _ _ j)]⟩

theorem chunk_wiped (r : Fin 256) (h : Least (row d r) (row lanes r) (chunkKey d (ix2 r 0)) (chunkWord d (ix2 r 0))) :
    Wiped (row d r) (row lanes r) (chunkKey d (ix2 r 0)) (chunkWord d (ix2 r 0)) (row (chunkWipe d) r) :=
  h.wiped (lanes_injective r) fun j => wipe_word_apply d lanes (chunkWord d) _ r j

/-- The chunk after `t` rounds. -/
def wiped (t : ℕ) : FVec Ideal S256x8192 .f32 := chunkWipe^[t] d

theorem wiped_zero : wiped d 0 = d := Function.iterate_zero_apply _ _

theorem wiped_succ (t : ℕ) : wiped d (t + 1) = chunkWipe (wiped d t) := Function.iterate_succ_apply' _ _ _

theorem lanes_range (r : Fin 256) (j : Fin 8192) : (row lanes r j).toInt ≤ 1073741824 := by
  have := j.isLt
  have e : (row lanes r j).toInt = (j.val : ℤ) := lanes_toInt r j
  omega

theorem chunk_five (r : Fin 256) : Five (row lanes r) (fun t => row (wiped d t.val) r) (fun t => chunkKey (wiped d t.val) (ix2 r 0))
    (fun t => chunkWord (wiped d t.val) (ix2 r 0)) :=
  five_of (fun t => row (wiped d t) r) (fun t => chunkKey (wiped d t) (ix2 r 0)) (fun t => chunkWord (wiped d t) (ix2 r 0))
    (fun t => chunk_found _ r) (lanes_range r) (fun t h => by rw [wiped_succ]; exact chunk_wiped _ r h)

end Chunk

/-! ## The rounds over the ten -/

section Merge

variable (v : FVec Ideal S256x10 .f32) (w : IVec S256x10 32)

abbrev tenKey : FVec Ideal S256x1 .f32 :=
  shapeCast S256x1 (multiReduction .minimumf [1] S256 v 0x7F800000#32 reduces_S256x10_S256 (.inl rfl) rfl) shapeCasts_S256_S256x1
abbrev tenIs : IVec S256x10 1 := cmpf .oeq v (broadcastTo S256x10 (tenKey v) broadcasts_S256x1_S256x10)
abbrev tenWord : IVec S256x1 32 :=
  shapeCast S256x1 (reduceFold reduces_S256x10_S256 IntOp.minsi 2147483647#32 (select (tenIs v) w (broadcast S256x10 1073741824#32)))
    shapeCasts_S256_S256x1
abbrev tenWipe : FVec Ideal S256x10 .f32 :=
  select (andi (tenIs v) (cmpi .eq w (broadcastTo S256x10 (tenWord v w) broadcasts_S256x1_S256x10)))
    (broadcast S256x10 (Scalar.ofBits (F := Ideal) .f32 0x7F800000#32)) v

theorem ten_found (r : Fin 256) : Found (row v r) (row w r) (tenKey v (ix2 r 0)) (tenWord v w (ix2 r 0)) :=
  ⟨key_apply v _ _ r _ _, by
    rw [tenWord, column_apply, word_apply w _ r _ (fun j => v (ix2 r j) = tenKey v (ix2 r 0)) (fun j => oeq_apply _ _ _ _ j)]⟩

theorem ten_wiped (r : Fin 256) : Wiped (row v r) (row w r) (tenKey v (ix2 r 0)) (tenWord v w (ix2 r 0)) (row (tenWipe v w) r) := fun j =>
  wipe_both_apply v w (tenKey v) (tenWord v w) _ r (tenIs v) (fun j => oeq_apply _ _ _ _ j) j

/-- The ten after `t` rounds. -/
def tenAfter : ℕ → FVec Ideal S256x10 .f32
  | 0 => v
  | t + 1 => tenWipe (tenAfter t) w

theorem ten_five (r : Fin 256) (hw : ∀ j, (w (ix2 r j)).toInt ≤ 1073741824) :
    Five (row w r) (fun t => row (tenAfter v w t.val) r) (fun t => tenKey (tenAfter v w t.val) (ix2 r 0))
      (fun t => tenWord (tenAfter v w t.val) w (ix2 r 0)) :=
  ⟨fun t => ten_found _ w r, hw, fun t _ => ten_wiped _ w r⟩

theorem mergeOut_key (r : Fin 256) (t : Fin 5) :
    (mergeOut v w (tenKey v) (tenIs v)).1 (ix2 r t) = tenKey (tenAfter v w t.val) (ix2 r 0) := by
  refine (five_apply r _ _ _ _ _ concatenates_S256x1_S256x1_S256x1_S256x1_S256x1_S256x5_d1 t).trans ?_
  match t with
  | ⟨0, _⟩ => rfl
  | ⟨1, _⟩ => rfl
  | ⟨2, _⟩ => rfl
  | ⟨3, _⟩ => rfl
  | ⟨4, _⟩ => rfl

theorem mergeOut_word (r : Fin 256) (t : Fin 5) :
    (mergeOut v w (tenKey v) (tenIs v)).2 (ix2 r t) = tenWord (tenAfter v w t.val) w (ix2 r 0) := by
  refine (five_apply r _ _ _ _ _ concatenates_S256x1_S256x1_S256x1_S256x1_S256x1_S256x5_d1 t).trans ?_
  match t with
  | ⟨0, _⟩ => rfl
  | ⟨1, _⟩ => rfl
  | ⟨2, _⟩ => rfl
  | ⟨3, _⟩ => rfl
  | ⟨4, _⟩ => rfl

end Merge

/-! ## The trip -/

section Whole

variable (v1 : FVec Ideal S256x8 .bf16) (v3 : FVec Ideal S256x1 .f32) (k : Fin k0_t1_loop.trips) (x : Vec Ideal S8x8192 .f32)
  (y : Vec Ideal S1x8192 .f32) (acc : FVec Ideal S256x5 .f32 × IVec S256x5 32) (r : Fin 256)

theorem wiped_one : wiped (k0_pay2 v1 v3 x y) 1 = k0_pay5 v1 v3 x y := by
  rw [wiped_succ _ 0, wiped_zero]
  simp only [k0_pay5, k0_pay4, k0_pay3, multiReductionI]
theorem wiped_two : wiped (k0_pay2 v1 v3 x y) 2 = k0_pay9 v1 v3 x y := by
  rw [wiped_succ _ 1, wiped_one]
  simp only [k0_pay9, k0_pay8, k0_pay7, multiReductionI]
theorem wiped_three : wiped (k0_pay2 v1 v3 x y) 3 = k0_pay12 lanes (k0_pay9 v1 v3 x y) := by
  rw [wiped_succ _ 2, wiped_two]
  simp only [k0_pay12, k0_pay11, k0_pay10, multiReductionI]
theorem wiped_four : wiped (k0_pay2 v1 v3 x y) 4 = k0_pay15 lanes (k0_pay9 v1 v3 x y) := by
  rw [wiped_succ _ 3, wiped_three]
  simp only [k0_pay15, k0_pay14, k0_pay13, multiReductionI]

theorem keys_left (i : Fin 5) : keys v1 v3 x y acc (ix2 r (Fin.castAdd 5 i)) = acc.1 (ix2 r i) := by
  refine (ten_apply r acc.1 _ concatenates_S256x5_S256x5_S256x10_d1 _).trans ?_
  rw [dif_pos (by exact i.isLt)]
  rfl

theorem keys_right (i : Fin 5) : keys v1 v3 x y acc (ix2 r (Fin.natAdd 5 i)) = chunkKey (wiped (k0_pay2 v1 v3 x y) i.val) (ix2 r 0) := by
  refine (ten_apply r acc.1 _ concatenates_S256x5_S256x5_S256x10_d1 _).trans ?_
  rw [dif_neg (by simp)]
  show concatenate S256x5 1 _ _ (ix2 r ⟨5 + i.val - 5, _⟩) = _
  simp only [Nat.add_sub_cancel_left, Fin.eta]
  refine (five_apply r _ _ _ _ _ concatenates_S256x1_S256x1_S256x1_S256x1_S256x1_S256x5_d1 i).trans ?_
  exact congrFun (five_at (fun t => chunkKey (wiped (k0_pay2 v1 v3 x y) t))
    (by rw [wiped_zero]; simp only [k0_pay3])
    (by rw [wiped_one]; simp only [k0_pay7])
    (by rw [wiped_two]; simp only [k0_pay10])
    (by rw [wiped_three]; simp only [k0_pay13])
    (by rw [wiped_four]; simp only [k0_pay16, multiReductionI]) i) _

theorem words_left (i : Fin 5) : words v1 v3 k x y acc (ix2 r (Fin.castAdd 5 i)) = acc.2 (ix2 r i) := by
  refine (ten_apply r acc.2 _ concatenates_S256x5_S256x5_S256x10_d1 _).trans ?_
  rw [dif_pos (by exact i.isLt)]
  rfl

theorem words_right (i : Fin 5) : words v1 v3 k x y acc (ix2 r (Fin.natAdd 5 i))
    = IntOp.addi (chunkWord (wiped (k0_pay2 v1 v3 x y) i.val) (ix2 r 0)) (start k) := by
  refine (ten_apply r acc.2 _ concatenates_S256x5_S256x5_S256x10_d1 _).trans ?_
  rw [dif_neg (by simp)]
  show concatenate S256x5 1 _ _ (ix2 r ⟨5 + i.val - 5, _⟩) = _
  simp only [Nat.add_sub_cancel_left, Fin.eta]
  refine (five_apply r _ _ _ _ _ concatenates_S256x1_S256x1_S256x1_S256x1_S256x1_S256x5_d1 i).trans ?_
  exact congrFun (five_at (fun t => addi (chunkWord (wiped (k0_pay2 v1 v3 x y) t)) (broadcast S256x1 (start k)))
    (by rw [wiped_zero]; simp only [k0_pay6, k0_pay4, k0_pay3, multiReductionI])
    (by rw [wiped_one]; simp only [k0_pay8, k0_pay7, multiReductionI])
    (by rw [wiped_two]; simp only [k0_pay11, k0_pay10, multiReductionI])
    (by rw [wiped_three]; simp only [k0_pay14, k0_pay13, multiReductionI])
    (by rw [wiped_four]; simp only [k0_pay16, multiReductionI]) i) _

theorem start_toInt : (start k).toInt = 8192 * (k.val : ℤ) := by
  have hk : k.val < 4 := Nat.lt_of_lt_of_le k.isLt k0_t1_abs.2.1
  show ((0#32 + BitVec.ofNat 32 k.val * 1#32) * 8192#32).toInt = _
  have e : ((0#32 + BitVec.ofNat 32 k.val * 1#32) * 8192#32) = BitVec.ofNat 32 (8192 * k.val) := by
    rw [BitVec.mul_one, BitVec.zero_add, BitVec.mul_comm, ← BitVec.ofNat_mul]
  rw [e, BitVec.toInt_ofNat', Int.bmod_eq_of_le] <;> push_cast <;> omega

/-- ONE TRIP at a row: it takes the five least of `A` to the five least of `A` and the chunk. -/
theorem trip_isNth {A : Finset Entry} (hA : Holds 5 (entries (row acc.1 r) (row acc.2 r)) A)
    (hr : ∀ j, (acc.2 (ix2 r j)).toInt ≤ 1073741824) (hf : ∀ j, k0_pay2 v1 v3 x y (ix2 r j) ≠ ⊤) (t : Fin 5) :
    IsNth (A ∪ (entries (row (k0_pay2 v1 v3 x y) r) (row lanes r)).image (shift (8192 * (k.val : ℤ)))) t.val
      (toLex ((tripOut v1 v3 k x y acc).1 (ix2 r t), ((tripOut v1 v3 k x y acc).2 (ix2 r t)).toInt)) := by
  have hk : k.val < 4 := Nat.lt_of_lt_of_le k.isLt k0_t1_abs.2.1
  set d := k0_pay2 v1 v3 x y with hd
  have hcard : 5 ≤ (entries (row d r) (row lanes r)).card := by
    unfold entries
    rw [Finset.filter_true_of_mem fun j _ => hf j, Finset.card_image_of_injective _ fun a b e => ?_]
    · rw [Finset.card_univ, Fintype.card_fin]; omega
    · have := congrArg Prod.snd (toLex_inj.mp e)
      exact lanes_injective r (BitVec.eq_of_toInt_eq this)
  have hch := (chunk_five d r).isNth hcard
  have hci : ∀ t : Fin 5, 0 ≤ (chunkWord (wiped d t.val) (ix2 r 0)).toInt ∧ (chunkWord (wiped d t.val) (ix2 r 0)).toInt < 8192 := fun t => by
    obtain ⟨j, _, e⟩ := mem_entries.mp (hch t).1
    have e' := congrArg Prod.snd (toLex_inj.mp e)
    simp only at e'
    rw [← e', lanes_toInt]
    have := j.isLt
    omega
  have hcw : ∀ t : Fin 5, (IntOp.addi (chunkWord (wiped d t.val) (ix2 r 0)) (start k)).toInt
      = (chunkWord (wiped d t.val) (ix2 r 0)).toInt + 8192 * (k.val : ℤ) := fun t => by
    show (_ + _ : BitVec 32).toInt = _
    obtain ⟨h0, h1⟩ := hci t
    rw [BitVec.toInt_add, start_toInt, Int.bmod_eq_of_le] <;> omega
  obtain ⟨hm, hc⟩ := merged hA (8192 * (k.val : ℤ)) hch hcw (v := row (keys v1 v3 x y acc) r) (w := row (words v1 v3 k x y acc) r)
    (keys_left v1 v3 x y acc r) (keys_right v1 v3 x y acc r) (words_left v1 v3 k x y acc r) (words_right v1 v3 k x y acc r)
  have hw : ∀ j, (words v1 v3 k x y acc (ix2 r j)).toInt ≤ 1073741824 := fun j => by
    induction j using Fin.addCases (m := 5) (n := 5) with
    | left i => rw [words_left]; exact hr i
    | right i => rw [words_right, hcw]; have := hci i; omega
  have h5 := (ten_five (keys v1 v3 x y acc) (words v1 v3 k x y acc) r hw).isNth hc t
  have hS : 5 ≤ (A ∪ (entries (row d r) (row lanes r)).image (shift (8192 * (k.val : ℤ)))).card :=
    le_trans hc (Finset.card_le_card hm.1)
  have e1 := mergeOut_key (keys v1 v3 x y acc) (words v1 v3 k x y acc) r t
  have e2 := mergeOut_word (keys v1 v3 x y acc) (words v1 v3 k x y acc) r t
  have := hm.isNth hS t.isLt h5
  rw [← e1, ← e2] at this
  exact this

end Whole

end Cert.Proof.Knn

end
-- ==== Proof.KnnDist.lean ====
/-
  The squared distances a trip forms, entry by entry, at the ideal float values: the chunk a trip loads of the points and
  of their squares, and the row of distances over all of them.
-/
module

public import proofs.«01_k».proof.Proof.KnnTrip
public import Idealize.ShloMosaic.Lib.VecWindow

@[expose] public section

noncomputable section

namespace Cert.Proof.Knn

open Cert.KnnIdeal Cert.KnnIdeal.Gen Idealize.ShloMosaic Cert.Proof.Rank

theorem two_val : (Ideal.ofBits .f32 0x40000000#32 : EReal) = 2 := by
  simp [Ideal.ofBits, Ideal.ieee]
  rw [← EReal.coe_mul]
  norm_num
  rfl

theorem trips_lt (k : Fin k0_t1_loop.trips) : k.val < 4 := Nat.lt_of_lt_of_le k.isLt k0_t1_abs.2.1

theorem start_toNat (k : Fin k0_t1_loop.trips) : (start k).toNat = 8192 * k.val := by
  have hk := trips_lt k
  have h := start_toInt k
  have e := BitVec.toInt_eq_toNat_cond (start k)
  have := (start k).isLt
  split at e <;> omega

/-- Where position `j` of trip `k`'s chunk is among all points. -/
abbrev pos (k : Fin k0_t1_loop.trips) (j : Fin 8192) : Fin 32768 := ⟨8192 * k.val + j.val, by have := trips_lt k; have := j.isLt; omega⟩

section

variable {F : FTy → Type} [FloatOps F]

theorem points_load (m : Memref sig .tc .vmem S8x32768 .f32) (hm : m.IsWhole) (x : Vec F S8x32768 .f32) (k : Fin k0_t1_loop.trips) (a : Fin 8)
    (j : Fin 8192) :
    m.view.readAt (Elt F) (Rect.unit (s := S8x32768) (k0_off1 k) S8x8192.size (k0_off1_inb k)).toLoadRect (hm.unread x) (ix2 a j)
      = x (ix2 a (pos k j)) := by
  rw [View.readAt_eq_ld, Memref.IsWhole.read_unread]
  refine congrArg x (funext fun b => Fin.ext ?_)
  match b with
  | ⟨0, _⟩ => show 0 + 1 * a.val = a.val; omega
  | ⟨1, _⟩ => show (start k).toNat + 1 * j.val = 8192 * k.val + j.val; rw [start_toNat]; omega

theorem squares_load (m : Memref sig .tc .vmem S1x32768 .f32) (hm : m.IsWhole) (x : Vec F S1x32768 .f32) (k : Fin k0_t1_loop.trips) (j : Fin 8192) :
    m.view.readAt (Elt F) (Rect.unit (s := S1x32768) (k0_off2 k) S1x8192.size (k0_off2_inb k)).toLoadRect (hm.unread x) (ix2 0 j)
      = x (ix2 0 (pos k j)) := by
  rw [View.readAt_eq_ld, Memref.IsWhole.read_unread]
  refine congrArg x (funext fun b => Fin.ext ?_)
  match b with
  | ⟨0, _⟩ => rfl
  | ⟨1, _⟩ => show (start k).toNat + 1 * j.val = 8192 * k.val + j.val; rw [start_toNat]; omega

end

/-- The squared distance of two points, from their squares and their coordinates. -/
def dist (q : EReal) (s : EReal) (u v : Fin 8 → EReal) : EReal := (q + s) - (∑ a, u a * v a) * 2

theorem dist_apply (v0 : Vec Ideal S256x8 .f32) (v2 : Vec Ideal S256x128 .f32) (x : Vec Ideal S8x8192 .f32) (y : Vec Ideal S1x8192 .f32)
    (r : Fin 256) (j : Fin 8192) :
    k0_pay2 (k0_pay31 v0) (k0_pay32 v2) x y (ix2 r j)
      = dist (v2 (ix2 r 0)) (y (ix2 0 j)) (fun a => v0 (ix2 r a)) (fun a => x (ix2 a j)) := by
  unfold k0_pay2 k0_pay31 k0_pay32 dist
  simp only [pointwise]
  rw [two_val, zero_add]
  simp

/-- Finite squares and coordinates give a finite distance. -/
theorem dist_ne_top {q s : EReal} {u v : Fin 8 → EReal} (hq : ∃ x : ℝ, q = x) (hs : ∃ x : ℝ, s = x) (hu : ∀ a, ∃ x : ℝ, u a = x)
    (hv : ∀ a, ∃ x : ℝ, v a = x) : dist q s u v ≠ ⊤ := by
  obtain ⟨q, rfl⟩ := hq
  obtain ⟨s, rfl⟩ := hs
  choose u' hu using hu
  choose v' hv using hv
  have e : (∑ a, u a * v a) = ((∑ a, u' a * v' a : ℝ) : EReal) := by
    simp only [Fin.sum_univ_eight, hu, hv, EReal.coe_add, EReal.coe_mul]
  have e2 : dist q s u v = ((q + s - (∑ a, u' a * v' a) * 2 : ℝ) : EReal) := by
    unfold dist
    rw [e, EReal.coe_sub, EReal.coe_add, EReal.coe_mul]
    rfl
  rw [e2]
  exact EReal.coe_ne_top _

end Cert.Proof.Knn

end
-- ==== Proof.KnnLoop.lean ====
/-
  The nearest-neighbour call's loop over the four chunks of points: after it the carried pair holds, row by row, the five
  nearest points in order, each with its squared distance — the least by the distance and then by the position.
-/
module

public import proofs.«01_k».proof.Proof.KnnDist
public import proofs.«01_k».proof.Proof.Gen.KnnIdeal.Value

@[expose] public section

noncomputable section

namespace Cert.Proof.Knn

open Cert.KnnIdeal Cert.KnnIdeal.Gen Idealize.ShloMosaic Idealize.ShloMosaic.TcCoe Idealize.SL.Sem Cert.Proof.Rank

/-! ## The points before a chunk -/

/-- The (distance, position) pairs of the points before chunk `n`. -/
def before (D : Fin 32768 → EReal) (n : ℕ) : Finset Entry :=
  (Finset.univ.filter fun p : Fin 32768 => p.val < 8192 * n).image fun p => toLex (D p, (p.val : ℤ))

theorem mem_before {D : Fin 32768 → EReal} {n : ℕ} {e : Entry} :
    e ∈ before D n ↔ ∃ p : Fin 32768, p.val < 8192 * n ∧ toLex (D p, (p.val : ℤ)) = e := by
  simp [before]

theorem before_zero (D : Fin 32768 → EReal) : before D 0 = ∅ := by
  simp [before]

/-- A chunk's points join those before it. -/
theorem before_succ {D : Fin 32768 → EReal} (hD : ∀ p, D p ≠ ⊤) (k : Fin k0_t1_loop.trips) (r : Fin 256) (d : Fin 8192 → EReal)
    (hd : ∀ j, d j = D (pos k j)) :
    before D (k.val + 1) = before D k.val ∪ (entries d (row lanes r)).image (shift (8192 * (k.val : ℤ))) := by
  have hk := trips_lt k
  ext e
  simp only [Finset.mem_union, Finset.mem_image, mem_before, mem_entries]
  constructor
  · rintro ⟨p, hp, rfl⟩
    by_cases h : p.val < 8192 * k.val
    · exact .inl ⟨p, h, rfl⟩
    · have hj : pos k ⟨p.val - 8192 * k.val, by omega⟩ = p := Fin.ext (by show 8192 * k.val + (p.val - 8192 * k.val) = p.val; omega)
      refine .inr ⟨_, ⟨⟨p.val - 8192 * k.val, by omega⟩, ?_, rfl⟩, ?_⟩
      · rw [hd, hj]; exact hD p
      · rw [hd, hj]
        show toLex (D p, (lanes (ix2 r _)).toInt + 8192 * (k.val : ℤ)) = _
        rw [lanes_toInt]
        refine congrArg (fun z : ℤ => toLex (D p, z)) ?_
        show ((p.val - 8192 * k.val : ℕ) : ℤ) + _ = _
        omega
  · rintro (⟨p, hp, rfl⟩ | ⟨_, ⟨j, _, rfl⟩, rfl⟩)
    · exact ⟨p, by omega, rfl⟩
    · refine ⟨pos k j, by show 8192 * k.val + j.val < _; have := j.isLt; omega, ?_⟩
      show _ = toLex (d j, (lanes (ix2 r j)).toInt + 8192 * (k.val : ℤ))
      rw [lanes_toInt, hd]
      refine congrArg (fun z : ℤ => toLex (D _, z)) ?_
      show ((8192 * k.val + j.val : ℕ) : ℤ) = _
      push_cast
      omega

/-- What the loop carries at a row before chunk `n`. -/
structure Carried (D : Fin 32768 → EReal) (n : ℕ) (v : Fin 5 → EReal) (w : Fin 5 → BitVec 32) : Prop where
  holds : Holds 5 (entries v w) (before D n)
  range : ∀ j, (w j).toInt ≤ 1073741824

/-- Five pairs in order, of the points before chunk `n`. -/
def Nearest (D : Fin 32768 → EReal) (n : ℕ) (v : Fin 5 → EReal) (w : Fin 5 → BitVec 32) : Prop :=
  ∀ t : Fin 5, IsNth (before D n) t.val (toLex (v t, (w t).toInt))

theorem Nearest.at_ {D : Fin 32768 → EReal} {n : ℕ} {v : Fin 5 → EReal} {w : Fin 5 → BitVec 32} (h : Nearest D n v w) (t : Fin 5) :
    ∃ p : Fin 32768, D p = v t ∧ (p.val : ℤ) = (w t).toInt := by
  obtain ⟨p, _, e⟩ := mem_before.mp (h t).1
  have e := toLex_inj.mp e
  exact ⟨p, congrArg Prod.fst e, congrArg Prod.snd e⟩

theorem Nearest.carried {D : Fin 32768 → EReal} (hD : ∀ p, D p ≠ ⊤) {n : ℕ} {v : Fin 5 → EReal} {w : Fin 5 → BitVec 32} (h : Nearest D n v w) :
    Carried D n v w where
  holds := by
    have e : entries v w = Finset.univ.image fun t => toLex (v t, (w t).toInt) := by
      unfold entries
      rw [Finset.filter_true_of_mem fun t _ => ?_]
      obtain ⟨p, e, _⟩ := h.at_ t
      rw [← e]; exact hD p
    rw [e]
    exact holds_image _ h
  range t := by
    obtain ⟨p, _, e⟩ := h.at_ t
    have := p.isLt
    omega

/-! ## The loop -/

section Run

variable {F : FTy → Type} [FloatOps F]
variable (𝒱 : Variants) (c : Dev nD) (bd : Option 𝒱.V) (i : grid0.Coords) (arg1 : Memref sig .tc .vmem S256x8 .f32) (harg1 : arg1.IsWhole)
  (arg2 : Memref sig .tc .vmem S8x32768 .f32) (harg2 : arg2.IsWhole) (arg3 : Memref sig .tc .vmem S1x32768 .f32) (harg3 : arg3.IsWhole)
  (arg4 : Memref sig .tc .vmem S256x128 .f32) (harg4 : arg4.IsWhole) (arg5 : Memref sig .tc .vmem S1x1024 .f32) (harg5 : arg5.IsWhole)
  (arg6 : Memref sig .tc .vmem S1x256 .f32) (harg6 : arg6.IsWhole) (arg7 : Memref sig .tc .vmem S256x5 .i32) (harg7 : arg7.IsWhole)
  (arg8 : Memref sig .tc .vmem S256x5 .f32) (harg8 : arg8.IsWhole) (arg9 : Memref sig .tc .vmem S1x1024 .f32) (harg9 : arg9.IsWhole)
  (arg10 : Memref sig .tc .vmem S1x256 .f32) (harg10 : arg10.IsWhole)

set_option maxHeartbeats 1000000 in
/-- A trip is `tripOut` of the chunk it loads. -/
theorem trip_eq (v0 : Vec F S256x8 .f32) (v2 : Vec F S256x128 .f32) (X2 : BufTy.Contents (Elt F) arg2.view.ty) (X3 : BufTy.Contents (Elt F) arg3.view.ty)
    (k : Fin k0_t1_loop.trips) (acc : FVec F S256x5 .f32 × IVec S256x5 32) :
    tripR_k0_t1 (F := F) 𝒱 c bd i arg1 harg1 arg2 harg2 arg3 harg3 arg4 harg4 arg5 harg5 arg6 harg6 arg7 harg7 arg8 harg8 arg9 harg9 arg10 harg10 v0 v2 X2 X3 k acc
      = tripOut (k0_pay31 v0) (k0_pay32 v2) k
          (arg2.view.readAt (Elt F) (Rect.unit (s := S8x32768) (k0_off1 k) S8x8192.size (k0_off1_inb k)).toLoadRect X2)
          (arg3.view.readAt (Elt F) (Rect.unit (s := S1x32768) (k0_off2 k) S1x8192.size (k0_off2_inb k)).toLoadRect X3) acc := by
  unfold tripR_k0_t1 trip_k0_t1
  dsimp only
  rfl

/-- The carried pair before trip `n`. -/
abbrev state (v0 : Vec F S256x8 .f32) (v2 : Vec F S256x128 .f32) (x1 : Vec F S8x32768 .f32) (x2 : Vec F S1x32768 .f32) (n : ℕ) :
    FVec F S256x5 .f32 × IVec S256x5 32 :=
  st_k0_t1 (F := F) 𝒱 c bd i arg1 harg1 arg2 harg2 arg3 harg3 arg4 harg4 arg5 harg5 arg6 harg6 arg7 harg7 arg8 harg8 arg9 harg9 arg10 harg10 v0 v2 (harg2.unread x1) (harg3.unread x2) (k0_pay33, k0_pay34) n

end Run

section Ideal

variable (𝒱 : Variants) (c : Dev nD) (bd : Option 𝒱.V) (i : grid0.Coords) (arg1 : Memref sig .tc .vmem S256x8 .f32) (harg1 : arg1.IsWhole)
  (arg2 : Memref sig .tc .vmem S8x32768 .f32) (harg2 : arg2.IsWhole) (arg3 : Memref sig .tc .vmem S1x32768 .f32) (harg3 : arg3.IsWhole)
  (arg4 : Memref sig .tc .vmem S256x128 .f32) (harg4 : arg4.IsWhole) (arg5 : Memref sig .tc .vmem S1x1024 .f32) (harg5 : arg5.IsWhole)
  (arg6 : Memref sig .tc .vmem S1x256 .f32) (harg6 : arg6.IsWhole) (arg7 : Memref sig .tc .vmem S256x5 .i32) (harg7 : arg7.IsWhole)
  (arg8 : Memref sig .tc .vmem S256x5 .f32) (harg8 : arg8.IsWhole) (arg9 : Memref sig .tc .vmem S1x1024 .f32) (harg9 : arg9.IsWhole)
  (arg10 : Memref sig .tc .vmem S1x256 .f32) (harg10 : arg10.IsWhole)
  (v0 : Vec Ideal S256x8 .f32) (v2 : Vec Ideal S256x128 .f32) (x1 : Vec Ideal S8x32768 .f32) (x2 : Vec Ideal S1x32768 .f32) (r : Fin 256)

/-- The squared distances of row `r`'s point to all points. -/
abbrev distRow : Fin 32768 → EReal := fun p => dist (v2 (ix2 r 0)) (x2 (ix2 0 p)) (fun a => v0 (ix2 r a)) (fun a => x1 (ix2 a p))

theorem state_zero : Carried (distRow v0 v2 x1 x2 r) 0 (row (state 𝒱 c bd i arg1 harg1 arg2 harg2 arg3 harg3 arg4 harg4 arg5 harg5 arg6 harg6 arg7 harg7 arg8 harg8 arg9 harg9 arg10 harg10 v0 v2 x1 x2 0).1 r) (row (state 𝒱 c bd i arg1 harg1 arg2 harg2 arg3 harg3 arg4 harg4 arg5 harg5 arg6 harg6 arg7 harg7 arg8 harg8 arg9 harg9 arg10 harg10 v0 v2 x1 x2 0).2 r) where
  holds := by
    have e : ∀ w : Fin 5 → BitVec 32, entries (row (k0_pay33 (F := Ideal)) r) w = ∅ := fun w => by
      unfold entries
      rw [Finset.filter_false_of_mem fun t _ => ?_]
      · rfl
      · exact fun h => h inf_val
    rw [before_zero]
    show Holds 5 (entries (row (k0_pay33 (F := Ideal)) r) _) ∅
    rw [e]
    exact ⟨fun _ h => h, fun _ h => absurd h (Finset.notMem_empty _)⟩
  range j := by
    show (1073741824#32 : BitVec 32).toInt ≤ _
    decide

theorem state_succ (hD : ∀ p, distRow v0 v2 x1 x2 r p ≠ ⊤) (k : Fin k0_t1_loop.trips)
    (h : Carried (distRow v0 v2 x1 x2 r) k.val (row (state 𝒱 c bd i arg1 harg1 arg2 harg2 arg3 harg3 arg4 harg4 arg5 harg5 arg6 harg6 arg7 harg7 arg8 harg8 arg9 harg9 arg10 harg10 v0 v2 x1 x2 k.val).1 r) (row (state 𝒱 c bd i arg1 harg1 arg2 harg2 arg3 harg3 arg4 harg4 arg5 harg5 arg6 harg6 arg7 harg7 arg8 harg8 arg9 harg9 arg10 harg10 v0 v2 x1 x2 k.val).2 r)) :
    Nearest (distRow v0 v2 x1 x2 r) (k.val + 1) (row (state 𝒱 c bd i arg1 harg1 arg2 harg2 arg3 harg3 arg4 harg4 arg5 harg5 arg6 harg6 arg7 harg7 arg8 harg8 arg9 harg9 arg10 harg10 v0 v2 x1 x2 (k.val + 1)).1 r)
      (row (state 𝒱 c bd i arg1 harg1 arg2 harg2 arg3 harg3 arg4 harg4 arg5 harg5 arg6 harg6 arg7 harg7 arg8 harg8 arg9 harg9 arg10 harg10 v0 v2 x1 x2 (k.val + 1)).2 r) := fun t => by
  unfold state at h ⊢
  rw [st_k0_t1_succ, trip_eq]
  have hd : ∀ j, row (k0_pay2 (k0_pay31 v0) (k0_pay32 v2)
      (arg2.view.readAt (Elt Ideal) (Rect.unit (s := S8x32768) (k0_off1 k) S8x8192.size (k0_off1_inb k)).toLoadRect (harg2.unread x1))
      (arg3.view.readAt (Elt Ideal) (Rect.unit (s := S1x32768) (k0_off2 k) S1x8192.size (k0_off2_inb k)).toLoadRect (harg3.unread x2))) r j
      = distRow v0 v2 x1 x2 r (pos k j) := fun j => by
    show k0_pay2 _ _ _ _ (ix2 r j) = _
    rw [dist_apply, squares_load]
    exact congrArg (dist _ _ _) (funext fun a => points_load arg2 harg2 x1 k a j)
  rw [before_succ hD k r _ hd]
  exact trip_isNth _ _ k _ _ _ r h.holds h.range (fun j e => hD _ ((hd j).symm.trans e)) t

theorem state_carried (hD : ∀ p, distRow v0 v2 x1 x2 r p ≠ ⊤) (n : ℕ) (hn : n ≤ k0_t1_loop.trips) :
    Carried (distRow v0 v2 x1 x2 r) n (row (state 𝒱 c bd i arg1 harg1 arg2 harg2 arg3 harg3 arg4 harg4 arg5 harg5 arg6 harg6 arg7 harg7 arg8 harg8 arg9 harg9 arg10 harg10 v0 v2 x1 x2 n).1 r) (row (state 𝒱 c bd i arg1 harg1 arg2 harg2 arg3 harg3 arg4 harg4 arg5 harg5 arg6 harg6 arg7 harg7 arg8 harg8 arg9 harg9 arg10 harg10 v0 v2 x1 x2 n).2 r) := by
  induction n with
  | zero => exact state_zero 𝒱 c bd i arg1 harg1 arg2 harg2 arg3 harg3 arg4 harg4 arg5 harg5 arg6 harg6 arg7 harg7 arg8 harg8 arg9 harg9 arg10 harg10 v0 v2 x1 x2 r
  | succ n ih => exact (state_succ 𝒱 c bd i arg1 harg1 arg2 harg2 arg3 harg3 arg4 harg4 arg5 harg5 arg6 harg6 arg7 harg7 arg8 harg8 arg9 harg9 arg10 harg10 v0 v2 x1 x2 r hD ⟨n, hn⟩ (ih (by omega))).carried hD

/-- THE LOOP at a row: the five nearest of all the points. -/
theorem state_nearest (hD : ∀ p, distRow v0 v2 x1 x2 r p ≠ ⊤) :
    Nearest (distRow v0 v2 x1 x2 r) 4 (row (state 𝒱 c bd i arg1 harg1 arg2 harg2 arg3 harg3 arg4 harg4 arg5 harg5 arg6 harg6 arg7 harg7 arg8 harg8 arg9 harg9 arg10 harg10 v0 v2 x1 x2 4).1 r) (row (state 𝒱 c bd i arg1 harg1 arg2 harg2 arg3 harg3 arg4 harg4 arg5 harg5 arg6 harg6 arg7 harg7 arg8 harg8 arg9 harg9 arg10 harg10 v0 v2 x1 x2 4).2 r) :=
  state_succ 𝒱 c bd i arg1 harg1 arg2 harg2 arg3 harg3 arg4 harg4 arg5 harg5 arg6 harg6 arg7 harg7 arg8 harg8 arg9 harg9 arg10 harg10 v0 v2 x1 x2 r hD ⟨3, by decide⟩ (state_carried 𝒱 c bd i arg1 harg1 arg2 harg2 arg3 harg3 arg4 harg4 arg5 harg5 arg6 harg6 arg7 harg7 arg8 harg8 arg9 harg9 arg10 harg10 v0 v2 x1 x2 r hD 3 (by decide))

end Ideal

end Cert.Proof.Knn

end
-- ==== Proof.KnnHost.lean ====
/-
  The host lines before the nearest-neighbour call: the coordinates of the points laid out as three of eight rows, those
  of the queries as three of eight columns, the rest zero; entry by entry.
-/
module

public import proofs.«01_k».proof.Proof.KnnLoop
public import Idealize.ShloMosaic.Lib.Routing.OpsSet

@[expose] public section

noncomputable section

namespace Cert.Proof.Knn

open Cert.KnnIdeal Cert.KnnIdeal.Gen Cert.KnnIdeal.Value Idealize.ShloMosaic Idealize.ShloMosaic.TcCoe
open Idealize.ShloMosaic.StableHlo (after after_cons after_nil)

/-! ## One row or column set -/

section Set

variable {α : Type} (w : BitVec 32) (p : Fin 32768) (r : Fin 8192) (a : Fin 8)

/-- The word that says which row or column is set. -/
abbrev at1 : IVec S1 32 := broadcastInDim S1 ![] bcast_S_S1 (constantI S_ 32 w)

theorem row_lands (k : S32768.Idx) :
    scatter_S8x32768_S1_S32768_0_0_0_0.resultIdx? k (at1 w) = some (ix2 a p) ↔ w.toInt = (a.val : ℤ) ∧ (k 0).val = p.val := by
  rw [Routing.resultIdx?_eq_some]
  constructor
  · intro h
    have h0 : w.toInt + ((0 : ℕ) : ℤ) = (a.val : ℤ) := h 0
    have h1 : (0 : ℤ) + ((k 0).val : ℤ) = (p.val : ℤ) := h 1
    omega
  · intro h b
    match b with
    | ⟨0, _⟩ => show w.toInt + ((0 : ℕ) : ℤ) = (a.val : ℤ); omega
    | ⟨1, _⟩ => show (0 : ℤ) + ((k 0).val : ℤ) = (p.val : ℤ); omega

theorem column_lands (k : S8192.Idx) :
    scatter_S8192x8_S1_S8192_0_1_1_0.resultIdx? k (at1 w) = some (ix2 r a) ↔ w.toInt = (a.val : ℤ) ∧ (k 0).val = r.val := by
  rw [Routing.resultIdx?_eq_some]
  constructor
  · intro h
    have h0 : (0 : ℤ) + ((k 0).val : ℤ) = (r.val : ℤ) := h 0
    have h1 : w.toInt + ((0 : ℕ) : ℤ) = (a.val : ℤ) := h 1
    omega
  · intro h b
    match b with
    | ⟨0, _⟩ => show (0 : ℤ) + ((k 0).val : ℤ) = (r.val : ℤ); omega
    | ⟨1, _⟩ => show w.toInt + ((0 : ℕ) : ℤ) = (a.val : ℤ); omega

theorem set_row (x : S8x32768.Idx → α) (u : S32768.Idx → α) :
    Host.scatter scatter_S8x32768_S1_S32768_0_0_0_0 (fun _ b => b) x (at1 w) u (ix2 a p) = if w.toInt = (a.val : ℤ) then u (ix1 p) else x (ix2 a p) := by
  split
  · next h =>
    refine Routing.scatter_set_hit _ x _ u _ _ (fun k hk => congrArg u (funext fun b => Fin.ext ?_)) (ix1 p) ((row_lands w p a _).mpr ⟨h, rfl⟩)
    match b with
    | ⟨0, _⟩ => exact ((row_lands w p a k).mp hk).2
  · next h => exact Routing.scatter_set_miss _ x _ u _ fun k hk => h ((row_lands w p a k).mp hk).1

theorem set_column (x : S8192x8.Idx → α) (u : S8192.Idx → α) :
    Host.scatter scatter_S8192x8_S1_S8192_0_1_1_0 (fun _ b => b) x (at1 w) u (ix2 r a) = if w.toInt = (a.val : ℤ) then u (ix1 r) else x (ix2 r a) := by
  split
  · next h =>
    refine Routing.scatter_set_hit _ x _ u _ _ (fun k hk => congrArg u (funext fun b => Fin.ext ?_)) (ix1 r) ((column_lands w r a _).mpr ⟨h, rfl⟩)
    match b with
    | ⟨0, _⟩ => exact ((column_lands w r a k).mp hk).2
  · next h => exact Routing.scatter_set_miss _ x _ u _ fun k hk => h ((column_lands w r a k).mp hk).1

end Set

/-! ## What the call's operands hold -/

/-- Three coordinates, then zeros. -/
def coords (x y z : EReal) : Fin 8 → EReal := ![x, y, z, 0, 0, 0, 0, 0]

theorem coords_eq (x y z : EReal) : ∀ a : Fin 8, coords x y z a
    = if (2#32 : BitVec 32).toInt = (a.val : ℤ) then z else if (1#32 : BitVec 32).toInt = (a.val : ℤ) then y
      else if (0#32 : BitVec 32).toInt = (a.val : ℤ) then x else Ideal.ofBits .f32 0x00000000#32
  | 0 => rfl
  | 1 => rfl
  | 2 => rfl
  | 3 => Ideal.ofBits_zero_f32.symm
  | 4 => Ideal.ofBits_zero_f32.symm
  | 5 => Ideal.ofBits_zero_f32.symm
  | 6 => Ideal.ofBits_zero_f32.symm
  | 7 => Ideal.ofBits_zero_f32.symm

variable (m : (ℓ : Loc nD τ sig) → Buf (Elt Ideal) ℓ) (c : Dev nD)

theorem points_at (a : Fin 8) (p : Fin 32768) : V m c main_v6 (ix2 a p)
    = coords (m ((c : Thread nD τ).loc main_arg0) (ix1 p)) (m ((c : Thread nD τ).loc main_arg1) (ix1 p)) (m ((c : Thread nD τ).loc main_arg2) (ix1 p)) a := by
  have e : V m c main_v6 = Host.scatter scatter_S8x32768_S1_S32768_0_0_0_0 (fun _ b => b)
      (Host.scatter scatter_S8x32768_S1_S32768_0_0_0_0 (fun _ b => b)
        (Host.scatter scatter_S8x32768_S1_S32768_0_0_0_0 (fun _ b => b) (broadcastInDim S8x32768 ![] bcast_S_S8x32768 (constant (F := Ideal) S_ .f32 0x00000000#32))
          (at1 0#32) (m ((c : Thread nD τ).loc main_arg0)))
        (at1 1#32) (m ((c : Thread nD τ).loc main_arg1)))
      (at1 2#32) (m ((c : Thread nD τ).loc main_arg2)) := by
    unfold V hostOps0; after_results <;> rfl
  rw [e, set_row, set_row, set_row]
  rw [coords_eq]
  rfl

theorem queries_at (r : Fin 8192) (a : Fin 8) : V m c main_v13 (ix2 r a)
    = coords (m ((c : Thread nD τ).loc main_arg5) (ix1 r)) (m ((c : Thread nD τ).loc main_arg6) (ix1 r)) (m ((c : Thread nD τ).loc main_arg7) (ix1 r)) a := by
  have e : V m c main_v13 = Host.scatter scatter_S8192x8_S1_S8192_0_1_1_0 (fun _ b => b)
      (Host.scatter scatter_S8192x8_S1_S8192_0_1_1_0 (fun _ b => b)
        (Host.scatter scatter_S8192x8_S1_S8192_0_1_1_0 (fun _ b => b) (broadcastInDim S8192x8 ![] bcast_S_S8192x8 (constant (F := Ideal) S_ .f32 0x00000000#32))
          (at1 0#32) (m ((c : Thread nD τ).loc main_arg5)))
        (at1 1#32) (m ((c : Thread nD τ).loc main_arg6)))
      (at1 2#32) (m ((c : Thread nD τ).loc main_arg7)) := by
    unfold V hostOps0; after_results <;> rfl
  rw [e, set_column, set_column, set_column]
  rw [coords_eq]
  rfl

/-- The squares of the points, as a row. -/
theorem squares_at (p : Fin 32768) : V m c main_v14 (ix2 0 p) = m ((c : Thread nD τ).loc main_arg3) (ix1 p) := by
  have e : V m c main_v14 = shapeCast S1x32768 (m ((c : Thread nD τ).loc main_arg3)) shapeCasts_S32768_S1x32768 := by
    unfold V hostOps0; after_results <;> rfl
  rw [e]
  exact shapeCast_apply _ _ _ _ (by rw [Shape.rowMajor_val_two]; exact (Shape.rowMajor_val_one (ix1 _)).trans (by simp))

/-- The squares of the queries, each along a row. -/
theorem query_squares_at (r : Fin 8192) (a : Fin 128) : V m c main_v16 (ix2 r a) = m ((c : Thread nD τ).loc main_arg8) (ix1 r) := by
  have e : V m c main_v16 = broadcastInDim S8192x128 ![0, 1] bcast_S8192x1_S8192x128_0_1
      (broadcastInDim S8192x1 ![0] bcast_S8192_S8192x1_0 (m ((c : Thread nD τ).loc main_arg8))) := by
    unfold V hostOps0; after_results <;> rfl
  rw [e]
  simp only [pointwise]
  simp

/-- The least squared edges, as rows. -/
theorem edges_at (p : Fin 32768) : V m c main_v17 (ix2 0 p) = m ((c : Thread nD τ).loc main_arg4) (ix1 p) := by
  have e : V m c main_v17 = shapeCast S1x32768 (m ((c : Thread nD τ).loc main_arg4)) shapeCasts_S32768_S1x32768 := by
    unfold V hostOps0; after_results <;> rfl
  rw [e]
  exact shapeCast_apply _ _ _ _ (by rw [Shape.rowMajor_val_two]; exact (Shape.rowMajor_val_one (ix1 _)).trans (by simp))

theorem query_edges_at (r : Fin 8192) : V m c main_v18 (ix2 0 r) = m ((c : Thread nD τ).loc main_arg9) (ix1 r) := by
  have e : V m c main_v18 = shapeCast S1x8192 (m ((c : Thread nD τ).loc main_arg9)) shapeCasts_S8192_S1x8192 := by
    unfold V hostOps0; after_results <;> rfl
  rw [e]
  exact shapeCast_apply _ _ _ _ (by rw [Shape.rowMajor_val_two]; exact (Shape.rowMajor_val_one (ix1 _)).trans (by simp))

end Cert.Proof.Knn

end
-- ==== Proof.KnnRef.lean ====
/-
  The reference of the nearest-neighbour call, entry by entry at the ideal float values: its squared distances, and the
  five greatest of their negatives, which are the five nearest points whoever else has found them.
-/
module

public import proofs.«01_k».proof.Proof.KnnHost
public import proofs.«01_k».proof.Proof.Gen.KnnReferenceIdeal.Run

@[expose] public section

noncomputable section

namespace Cert.Proof.Knn

open Cert.KnnReferenceIdeal Cert.KnnReferenceIdeal.Gen Idealize.ShloMosaic Cert.Proof.Rank

/-! ## The greatest of a row -/

section TopK

variable {α : Type} (m n k : ℕ) (gt : α → α → BitVec 1) (x : (⟨2, ![m, n]⟩ : Shape).Idx → α)
  (h : (⟨2, ![m, n]⟩ : Shape).Slices (fun _ => 0) ⟨2, ![m, k]⟩) (hk : k ≤ n) (r : Fin m) (t : Fin k)

/-- Which position of row `r` the stable sort puts at place `t`. -/
abbrev place : Fin n := sortedFrom (fun a b => gt (x (ix2 r a)) (x (ix2 r b)) == 1#1) (t.castLE hk)

theorem along_row (i : (⟨2, ![m, n]⟩ : Shape).Idx) (hr : i 0 = r) (p : Fin n) : i.along 1 p = ix2 r p := by
  funext b
  match b with
  | ⟨0, _⟩ => exact (Function.update_of_ne (show (0 : Fin 2) ≠ 1 by decide) _ _).trans hr
  | ⟨1, _⟩ => exact Function.update_self ..

theorem sort2_apply {β : Type} (y : (⟨2, ![m, n]⟩ : Shape).Idx → β) (p : Fin n) :
    (Host.sort2 ⟨2, ![m, n]⟩ 1 (fun l l' => gt l.1 l'.1) x y).1 (ix2 r p) = x (ix2 r (sortedFrom (fun a b => gt (x (ix2 r a)) (x (ix2 r b)) == 1#1) p))
      ∧ (Host.sort2 ⟨2, ![m, n]⟩ 1 (fun l l' => gt l.1 l'.1) x y).2 (ix2 r p) = y (ix2 r (sortedFrom (fun a b => gt (x (ix2 r a)) (x (ix2 r b)) == 1#1) p)) := by
  have e := along_row m n r (ix2 r p) rfl
  have e' : (fun a b : Fin n => gt (x ((ix2 r p : (⟨2, ![m, n]⟩ : Shape).Idx).along 1 a)) (x ((ix2 r p : (⟨2, ![m, n]⟩ : Shape).Idx).along 1 b)) == 1#1)
      = fun a b => gt (x (ix2 r a)) (x (ix2 r b)) == 1#1 := by simp only [e]
  unfold Host.sort2
  rw [dif_pos (show 1 < (⟨2, ![m, n]⟩ : Shape).rank from Nat.lt_succ_self 1)]
  exact ⟨congrArg x ((e _).trans (congrArg (fun K => ix2 r (sortedFrom K p)) e')), congrArg y ((e _).trans (congrArg (fun K => ix2 r (sortedFrom K p)) e'))⟩

theorem topK_apply :
    (Host.topK ⟨2, ![m, k]⟩ 1 gt x h).1 (ix2 r t) = x (ix2 r (place m n k gt x hk r t))
      ∧ (Host.topK ⟨2, ![m, k]⟩ 1 gt x h).2 (ix2 r t) = BitVec.ofNat 32 (place m n k gt x hk r t).val := by
  have hi : ∀ a : Fin 2, ((ix2 r (t.castLE hk) : (⟨2, ![m, n]⟩ : Shape).Idx) a).val = 0 + ((ix2 r t : (⟨2, ![m, k]⟩ : Shape).Idx) a).val := fun a => by
    fin_cases a
    · exact (Nat.zero_add _).symm
    · exact (Nat.zero_add _).symm
  unfold Host.topK
  dsimp only
  constructor
  · rw [extractStridedSlice_apply _ _ h (ix2 r t) (ix2 r (t.castLE hk)) hi]
    exact (sort2_apply m n gt x r _ _).1
  · rw [extractStridedSlice_apply _ _ h (ix2 r t) (ix2 r (t.castLE hk)) hi]
    refine (sort2_apply m n gt x r _ _).2.trans ?_
    rw [dif_pos (show 1 < (⟨2, ![m, n]⟩ : Shape).rank from Nat.lt_succ_self 1)]
    rfl

end TopK

/-! ## The distances -/

/-- Three columns side by side. -/
theorem three_apply {n : ℕ} {α : Type} (x0 x1 x2 : (⟨2, ![n, 1]⟩ : Shape).Idx → α)
    (h : Shape.Concatenates [⟨2, ![n, 1]⟩, ⟨2, ![n, 1]⟩, ⟨2, ![n, 1]⟩] ⟨2, ![n, 3]⟩ 1) (r : Fin n) (a : Fin 3) :
    concatenate ⟨2, ![n, 3]⟩ 1 [⟨⟨2, ![n, 1]⟩, x0⟩, ⟨⟨2, ![n, 1]⟩, x1⟩, ⟨⟨2, ![n, 1]⟩, x2⟩] h (ix2 r a) = ![x0, x1, x2] a (ix2 r 0) := by
  have e : ∀ k : (⟨2, ![n, 1]⟩ : Shape).Idx, (k 0).val = r.val → k = ix2 r 0 := fun k hk => by
    funext b
    match b with
    | ⟨0, _⟩ => exact Fin.ext hk
    | ⟨1, _⟩ => exact Subsingleton.elim (α := Fin 1) _ _
  match a with
  | ⟨0, _⟩ => simp only [pointwise]; exact congrArg x0 (e _ rfl)
  | ⟨1, _⟩ => simp only [pointwise]; exact congrArg x1 (e _ rfl)
  | ⟨2, _⟩ => simp only [pointwise]; exact congrArg x2 (e _ rfl)

/-- The reference's queries: their three coordinates as columns. -/
def refQueries (x y z : FVec Ideal S8192 .f32) : FVec Ideal S8192x3 .f32 :=
  concatenate S8192x3 1 [⟨S8192x1, broadcastInDim S8192x1 ![0] bcast_S8192_S8192x1_0 x⟩, ⟨S8192x1, broadcastInDim S8192x1 ![0] bcast_S8192_S8192x1_0 y⟩, ⟨S8192x1, broadcastInDim S8192x1 ![0] bcast_S8192_S8192x1_0 z⟩] concatenates_S8192x1_S8192x1_S8192x1_S8192x3_d1

/-- The reference's points: their three coordinates as columns. -/
def refPoints (x y z : FVec Ideal S32768 .f32) : FVec Ideal S32768x3 .f32 :=
  concatenate S32768x3 1 [⟨S32768x1, broadcastInDim S32768x1 ![0] bcast_S32768_S32768x1_0 x⟩, ⟨S32768x1, broadcastInDim S32768x1 ![0] bcast_S32768_S32768x1_0 y⟩, ⟨S32768x1, broadcastInDim S32768x1 ![0] bcast_S32768_S32768x1_0 z⟩] concatenates_S32768x1_S32768x1_S32768x1_S32768x3_d1

theorem refQueries_apply (x y z : FVec Ideal S8192 .f32) (r : Fin 8192) (a : Fin 3) :
    refQueries x y z (ix2 r a) = ![x (ix1 r), y (ix1 r), z (ix1 r)] a := by
  have e : ∀ u : FVec Ideal S8192 .f32, broadcastInDim S8192x1 ![0] bcast_S8192_S8192x1_0 u (ix2 r 0) = u (ix1 r) := fun u => by
    simp only [pointwise]
    simp
  refine (three_apply _ _ _ _ r a).trans ?_
  match a with
  | ⟨0, _⟩ => exact e x
  | ⟨1, _⟩ => exact e y
  | ⟨2, _⟩ => exact e z

theorem refPoints_apply (x y z : FVec Ideal S32768 .f32) (p : Fin 32768) (a : Fin 3) :
    refPoints x y z (ix2 p a) = ![x (ix1 p), y (ix1 p), z (ix1 p)] a := by
  have e : ∀ u : FVec Ideal S32768 .f32, broadcastInDim S32768x1 ![0] bcast_S32768_S32768x1_0 u (ix2 p 0) = u (ix1 p) := fun u => by
    simp only [pointwise]
    simp
  refine (three_apply _ _ _ _ p a).trans ?_
  match a with
  | ⟨0, _⟩ => exact e x
  | ⟨1, _⟩ => exact e y
  | ⟨2, _⟩ => exact e z

/-- The reference's squared distances, of the queries' coordinates, the points' coordinates, and the squares of both. -/
abbrev refDist (qx qy qz : FVec Ideal S8192 .f32) (kx ky kz : FVec Ideal S32768 .f32) (qs : FVec Ideal S8192 .f32) (ks : FVec Ideal S32768 .f32) :
    FVec Ideal S8192x32768 .f32 :=
  subf (addf (broadcastInDim S8192x32768 ![0, 1] bcast_S8192x1_S8192x32768_0_1 (broadcastInDim S8192x1 ![0] bcast_S8192_S8192x1_0 qs)) (broadcastInDim S8192x32768 ![0, 1] bcast_S1x32768_S8192x32768_0_1 (broadcastInDim S1x32768 ![1] bcast_S32768_S1x32768_1 ks))) (mulf (broadcastInDim S8192x32768 ![] bcast_S_S8192x32768 (constant S_ .f32 0x40000000#32)) (Host.dotGeneral dot_S8192x3_S3x32768_S8192x32768_1_0_0_1_n_n none (refQueries qx qy qz) (transpose S3x32768 [1, 0] (refPoints kx ky kz) transposes_S32768x3_S3x32768_1_0)))

theorem refDist_apply (qx qy qz : FVec Ideal S8192 .f32) (kx ky kz : FVec Ideal S32768 .f32) (qs : FVec Ideal S8192 .f32) (ks : FVec Ideal S32768 .f32)
    (r : Fin 8192) (p : Fin 32768) :
    refDist qx qy qz kx ky kz qs ks (ix2 r p)
      = dist (qs (ix1 r)) (ks (ix1 p)) (coords (qx (ix1 r)) (qy (ix1 r)) (qz (ix1 r))) (coords (kx (ix1 p)) (ky (ix1 p)) (kz (ix1 p))) := by
  unfold dist coords
  simp only [pointwise]
  rw [two_val, mul_comm]
  simp [Fin.sum_univ_three, Fin.sum_univ_eight, refQueries_apply, refPoints_apply]

/-! ## The five greatest of the negatives -/

/-- All points as (distance, position) pairs, the position an index. -/
theorem before_all (D : Fin 32768 → EReal) :
    before D 4 = (Finset.univ.image fun p : Fin 32768 => (toLex (D p, p) : EReal ×ₗ Fin 32768)).image fun e => toLex ((ofLex e).1, ((ofLex e).2.val : ℤ)) := by
  unfold before
  rw [Finset.filter_true_of_mem fun p _ => by have := p.isLt; omega, Finset.image_image]
  rfl

theorem pos_strictMono : StrictMono fun e : EReal ×ₗ Fin 32768 => (toLex ((ofLex e).1, ((ofLex e).2.val : ℤ)) : Entry) := fun a b h => by
  rw [Prod.Lex.lt_iff] at h ⊢
  refine h.imp id fun h => ⟨h.1, ?_⟩
  exact Int.ofNat_lt.mpr h.2

/-- Whoever holds a row's five nearest points holds what the reference takes: the greatest of the negative distances, and where they are. -/
theorem topK_eq (x : FVec Ideal S8192x32768 .f32) (r : Fin 8192) (v : Fin 5 → EReal) (w : Fin 5 → BitVec 32)
    (hn : Nearest (fun p => x (ix2 r p)) 4 v w) (t : Fin 5) :
    (Host.topK S8192x5 1 (FloatOps.cmpfTotal (F := Ideal) (φ := .f32) .gt) (Host.negf x) sliceFits_S8192x32768_S8192x5).1 (ix2 r t) = - v t
      ∧ (Host.topK S8192x5 1 (FloatOps.cmpfTotal (F := Ideal) (φ := .f32) .gt) (Host.negf x) sliceFits_S8192x32768_S8192x5).2 (ix2 r t) = w t := by
  have hcard : ∀ t : Fin 5, t.val < (Finset.univ.image fun p : Fin 32768 => (toLex (x (ix2 r p), p) : EReal ×ₗ Fin 32768)).card := fun t => by
    rw [Finset.card_image_of_injective _ fun a b e => congrArg Prod.snd (toLex_inj.mp e), Finset.card_univ, Fintype.card_fin]
    have := t.isLt
    omega
  have hex : ∀ t : Fin 5, ∃ p : Fin 32768, IsNth (Finset.univ.image fun p : Fin 32768 => (toLex (x (ix2 r p), p) : EReal ×ₗ Fin 32768)) t.val (toLex (x (ix2 r p), p))
      ∧ x (ix2 r p) = v t ∧ (p.val : ℤ) = (w t).toInt := fun t => by
    have h := hn t
    rw [before_all] at h
    obtain ⟨a, ha, e⟩ := IsNth.of_image _ pos_strictMono (hcard t) h
    obtain ⟨p, _, rfl⟩ := Finset.mem_image.mp ha.1
    have e := toLex_inj.mp e
    exact ⟨p, ha, congrArg Prod.fst e, congrArg Prod.snd e⟩
  choose σ hσ hv hw using hex
  have hs : place 8192 32768 5 (FloatOps.cmpfTotal (F := Ideal) (φ := .f32) .gt) (Host.negf x) (by decide) r t = σ t :=
    sortedFrom_eq _ (fun p => x (ix2 r p)) (fun a b => by
      show (Ideal.cmp .ogt (- x (ix2 r a)) (- x (ix2 r b)) == 1#1) = _
      by_cases h : x (ix2 r a) < x (ix2 r b)
      · have h' : - x (ix2 r b) < - x (ix2 r a) := EReal.neg_lt_neg_iff.mpr h
        simp [Ideal.cmp, h, h']
      · have h' : ¬ (- x (ix2 r b) < - x (ix2 r a)) := fun h' => h (EReal.neg_lt_neg_iff.mp h')
        simp [Ideal.cmp, h, h']) (by decide) σ hσ t
  obtain ⟨e1, e2⟩ := topK_apply 8192 32768 5 (FloatOps.cmpfTotal (F := Ideal) (φ := .f32) .gt) (Host.negf x) sliceFits_S8192x32768_S8192x5 (by decide) r t
  rw [hs] at e1 e2
  refine ⟨e1.trans (congrArg (fun z : EReal => -z) (hv t)), e2.trans ?_⟩
  refine BitVec.eq_of_toInt_eq ?_
  rw [← hw t, BitVec.toInt_eq_toNat_cond, BitVec.toNat_ofNat]
  have := (σ t).isLt
  split <;> omega

/-! ## The weights -/

/-- The negative distance of a squared distance. -/
def away (z : EReal) : EReal := - Ideal.sqrt (max z (Ideal.ofBits .f32 0x2B8CBCCC#32))

/-- How far above the greatest of five negative distances the one at `t` is, as an exponential. -/
def lift (d : Fin 5 → EReal) (t : Fin 5) : EReal :=
  Ideal.exp (away (d t) - Finset.univ.fold max (Ideal.ofBits .f32 0xFF800000#32) fun k => away (d k))

/-- The weight of the `t`-th of five squared distances. -/
def weight (d : Fin 5 → EReal) (t : Fin 5) : EReal := Ideal.div (lift d t) (∑ k, lift d k)

/-- The reference's negative distances, of the negatives of the squared ones. -/
abbrev refAway (y : FVec Ideal S8192x5 .f32) : FVec Ideal S8192x5 .f32 :=
  Host.negf (Host.sqrt (maximumf (Host.negf y) (broadcastInDim S8192x5 ![] bcast_S_S8192x5 (constant S_ .f32 0x2B8CBCCC#32))))

/-- The reference's exponentials, of negative distances. -/
abbrev refLift (g : FVec Ideal S8192x5 .f32) : FVec Ideal S8192x5 .f32 :=
  Host.exp (subf g (broadcastInDim S8192x5 ![0, 1] bcast_S8192x1_S8192x5_0_1 (broadcastInDim S8192x1 ![0] bcast_S8192_S8192x1_0 (maximumf (broadcastInDim S8192 ![] bcast_S_S8192 (constant S_ .f32 0xFF800000#32)) (Host.reduce FloatOps.maximumf g (constant S_ .f32 0xFF800000#32) reducesTo_S8192x5_S8192_d1 h_S_)))))

/-- The reference's weights, of its exponentials. -/
abbrev refWeight (e : FVec Ideal S8192x5 .f32) : FVec Ideal S8192x5 .f32 :=
  Host.divf e (broadcastInDim S8192x5 ![0, 1] bcast_S8192x1_S8192x5_0_1 (broadcastInDim S8192x1 ![0] bcast_S8192_S8192x1_0 (Host.reduceAdd e (constant S_ .f32 0x00000000#32) reducesTo_S8192x5_S8192_d1 h_S_)))

theorem refWeight_apply (y : FVec Ideal S8192x5 .f32) (r : Fin 8192) (d : Fin 5 → EReal) (hy : ∀ t, y (ix2 r t) = - d t) (t : Fin 5) :
    refWeight (refLift (refAway y)) (ix2 r t) = weight d t := by
  have ha : ∀ t, refAway y (ix2 r t) = away (d t) := fun t => by
    unfold away
    simp only [pointwise]
    rw [hy, neg_neg]
  have hl : ∀ t, refLift (refAway y) (ix2 r t) = lift d t := fun t => by
    generalize refAway y = g at ha
    unfold lift
    simp only [pointwise]
    rw [max_eq_right (Finset.le_fold_max _ |>.mpr (.inl le_rfl))]
    simp [ha]
  generalize refLift (refAway y) = e at hl
  unfold weight
  simp only [pointwise]
  simp [hl]

/-- The kernel's weights of the squared distances it carries. -/
theorem weight_apply (v : FVec Ideal Cert.KnnIdeal.S256x5 .f32) (r : Fin 256) (t : Fin 5) : Cert.KnnIdeal.Gen.k0_pay40 v (ix2 r t) = weight (row v r) t := by
  unfold Cert.KnnIdeal.Gen.k0_pay40 weight lift away
  simp only [pointwise]
  simp

end Cert.Proof.Knn

end
-- ==== Proof.KnnValue.lean ====
/-
  The equations of the nearest-neighbour call: its arrays of nearest points, of weights and of edges, assembled from the
  blocks its grid's points write, are the reference's, at the ideal float values and finite points.
-/
module

public import proofs.«01_k».proof.Defs
public import proofs.«01_k».proof.Proof.KnnRef
public import proofs.«01_k».proof.Proof.Gen.Knn.Frame
public import proofs.«01_k».proof.Proof.Gen.Pre_points_finite
public import Idealize.ShloMosaic.Lib.Pipeline.ValueKit
public import Idealize.ShloMosaic.Lib.ReduceAll

@[expose] public section

set_option maxRecDepth 16384

noncomputable section

namespace Cert.Proof.Knn

open Cert.KnnIdeal Cert.KnnIdeal.Gen Cert.KnnIdeal.Value Idealize.ShloMosaic Idealize.ShloMosaic.TcCoe Idealize.SL.Sem Cert.Proof.Rank
open Idealize.ShloMosaic.Pipeline

/-! ## The windows' blocks -/

theorem idx : ∀ t : Fin cfg0.N, win0_0.index t = ![t.val, 0] ∧ win0_1.index t = ![0, 0] ∧ win0_2.index t = ![0, 0] ∧ win0_3.index t = ![t.val, 0]
    ∧ win0_4.index t = ![0, t.val] ∧ win0_5.index t = ![0, t.val] ∧ win0_6.index t = ![t.val, 0] ∧ win0_7.index t = ![t.val, 0]
    ∧ win0_8.index t = ![0, t.val] ∧ win0_9.index t = ![0, t.val] :=
  (by decide +kernel : ∀ t : Fin grid0.N, win0_0.index t = ![t.val, 0] ∧ win0_1.index t = ![0, 0] ∧ win0_2.index t = ![0, 0] ∧ win0_3.index t = ![t.val, 0]
    ∧ win0_4.index t = ![0, t.val] ∧ win0_5.index t = ![0, t.val] ∧ win0_6.index t = ![t.val, 0] ∧ win0_7.index t = ![t.val, 0]
    ∧ win0_8.index t = ![0, t.val] ∧ win0_9.index t = ![0, t.val])

theorem point_lt (t : Fin cfg0.N) : t.val < 32 := t.isLt

/-- The array column of column `j` of point `t`'s block of the points' edges. -/
abbrev edgeAt (t : Fin cfg0.N) (j : Fin 1024) : Fin 32768 := ⟨1024 * t.val + j.val, by have := point_lt t; have := j.isLt; omega⟩

/-- The array row of row `r` of point `t`'s block. -/
abbrev rowAt (t : Fin cfg0.N) (r : Fin 256) : Fin 8192 := ⟨256 * t.val + r.val, by have := point_lt t; have := r.isLt; omega⟩

section

variable {F : FTy → Type} [FloatOps F]
variable (m : (ℓ : Loc nD τ sig) → Buf (Elt F) ℓ) (c : Dev nD) (t : Fin cfg0.N)

theorem iblk0 (r : Fin 256) (a : Fin 8) : iblk m c 0 t (ix2 r a) = V m c main_v13 (ix2 (rowAt t r) a) := by
  have h : ∀ X : Buf (Elt F) ((c : Thread nD τ).loc main_v13), ((cfg0.win 0).blk t).view.read (Elt F) X (ix2 r a) = X (ix2 (rowAt t r) a) := fun X => by
    blk_ext [idx t]
  exact h _

theorem iblk1 (a : Fin 8) (p : Fin 32768) : iblk m c 1 t (ix2 a p) = V m c main_v6 (ix2 a p) := by
  have h : ∀ X : Buf (Elt F) ((c : Thread nD τ).loc main_v6), ((cfg0.win 1).blk t).view.read (Elt F) X (ix2 a p) = X (ix2 a p) := fun X => by
    blk_ext [idx t]
  exact h _

theorem iblk2 (p : Fin 32768) : iblk m c 2 t (ix2 0 p) = V m c main_v14 (ix2 0 p) := by
  have h : ∀ X : Buf (Elt F) ((c : Thread nD τ).loc main_v14), ((cfg0.win 2).blk t).view.read (Elt F) X (ix2 0 p) = X (ix2 0 p) := fun X => by
    blk_ext [idx t]
  exact h _

theorem iblk3 (r : Fin 256) (a : Fin 128) : iblk m c 3 t (ix2 r a) = V m c main_v16 (ix2 (rowAt t r) a) := by
  have h : ∀ X : Buf (Elt F) ((c : Thread nD τ).loc main_v16), ((cfg0.win 3).blk t).view.read (Elt F) X (ix2 r a) = X (ix2 (rowAt t r) a) := fun X => by
    blk_ext [idx t]
  exact h _

theorem iblk4 (j : Fin 1024) : iblk m c 4 t (ix2 0 j) = V m c main_v17 (ix2 0 (edgeAt t j)) := by
  have h : ∀ X : Buf (Elt F) ((c : Thread nD τ).loc main_v17), ((cfg0.win 4).blk t).view.read (Elt F) X (ix2 0 j) = X (ix2 0 (edgeAt t j)) := fun X => by
    blk_ext [idx t]
  exact h _

theorem iblk5 (r : Fin 256) : iblk m c 5 t (ix2 0 r) = V m c main_v18 (ix2 0 (rowAt t r)) := by
  have h : ∀ X : Buf (Elt F) ((c : Thread nD τ).loc main_v18), ((cfg0.win 5).blk t).view.read (Elt F) X (ix2 0 r) = X (ix2 0 (rowAt t r)) := fun X => by
    blk_ext [idx t]
  exact h _

end

/-! ## The nearest points of a block -/

variable (m : (ℓ : Loc nD τ sig) → Buf (Elt Ideal) ℓ) (c : Dev nD) (t : Fin cfg0.N)

/-- What the loop of point `t` ends with. -/
abbrev found : FVec Ideal S256x5 .f32 × IVec S256x5 32 :=
  state Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 3 t) (iblk m c 1 t) (iblk m c 2 t) 4

/-- The reference's squared distances of the arguments. -/
abbrev dists : FVec Ideal Cert.KnnReferenceIdeal.S8192x32768 .f32 :=
  refDist (m ((c : Thread nD τ).loc main_arg5)) (m ((c : Thread nD τ).loc main_arg6)) (m ((c : Thread nD τ).loc main_arg7)) (m ((c : Thread nD τ).loc main_arg0)) (m ((c : Thread nD τ).loc main_arg1)) (m ((c : Thread nD τ).loc main_arg2)) (m ((c : Thread nD τ).loc main_arg8)) (m ((c : Thread nD τ).loc main_arg3))

/-- The loop ends with the five nearest under the reference's squared distances, when these are not infinite. -/
theorem found_nearest (hD : ∀ i p, dists m c (ix2 i p) ≠ ⊤) (r : Fin 256) :
    Nearest (fun p => dists m c (ix2 (rowAt t r) p)) 4 (row (found m c t).1 r) (row (found m c t).2 r) := by
  have e : distRow (iblk m c 0 t) (iblk m c 3 t) (iblk m c 1 t) (iblk m c 2 t) r = fun p => dists m c (ix2 (rowAt t r) p) := funext fun p => by
    refine Eq.trans ?_ (refDist_apply _ _ _ _ _ _ _ _ (rowAt t r) p).symm
    show dist _ _ _ _ = _
    rw [iblk3, iblk2, query_squares_at, squares_at]
    exact congrArg₂ (dist _ _) (funext fun a => (iblk0 m c t r a).trans (queries_at m c _ a)) (funext fun a => (iblk1 m c t a p).trans (points_at m c a p))
  have h := state_nearest Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 3 t) (iblk m c 1 t) (iblk m c 2 t) r
    (fun p => by rw [e]; exact hD _ p)
  rw [e] at h
  exact h

/-! ## The four arrays -/

/-- What the reference takes of the negated distances: the values and where they are. -/
abbrev taken : FVec Ideal S8192x5 .f32 × IVec S8192x5 32 :=
  Host.topK S8192x5 1 (FloatOps.cmpfTotal (F := Ideal) (φ := .f32) .gt) (Host.negf (dists m c)) Cert.KnnReferenceIdeal.Gen.sliceFits_S8192x32768_S8192x5

theorem out6 (hD : ∀ i p, dists m c (ix2 i p) ≠ ⊤) : (dats m 0 c).arrAt 6 cfg0.N = (taken m c).2 := by
  refine (dats m 0 c).arrAt_eq_of_covers 6 _ (by decide +kernel) fun t hf y => ?_
  blk_simp
  rw [after0_6]
  simp only [outsAt0]
  frame_out
  have h := (topK_eq (dists m c) (rowAt t (y 0)) _ _ (found_nearest m c t hD (y 0)) (y 1)).2
  refine (congrArg (found m c t).2 (eq_ix2 y)).trans (h.symm.trans (congrArg (taken m c).2 ?_))
  blk_ext [idx t]

theorem out7 (hD : ∀ i p, dists m c (ix2 i p) ≠ ⊤) : (dats m 0 c).arrAt 7 cfg0.N = refWeight (refLift (refAway (taken m c).1)) := by
  refine (dats m 0 c).arrAt_eq_of_covers 7 _ (by decide +kernel) fun t hf y => ?_
  blk_simp
  rw [after0_7]
  simp only [outsAt0]
  frame_out
  have h := refWeight_apply (taken m c).1 (rowAt t (y 0)) _ (fun j => (topK_eq (dists m c) (rowAt t (y 0)) _ _ (found_nearest m c t hD (y 0)) j).1) (y 1)
  refine (congrArg (k0_pay40 (found m c t).1) (eq_ix2 y)).trans ((weight_apply _ _ _).trans (h.symm.trans (congrArg (refWeight _) ?_)))
  blk_ext [idx t]

/-- The edge of a squared edge. -/
def root (x : EReal) : EReal := Ideal.sqrt (x + Ideal.ofBits .f32 0x2B8CBCCC#32)

/-- The least edges of the points, of their least squared edges. -/
abbrev edges : FVec Ideal S1x32768 .f32 :=
  broadcastInDim S1x32768 ![1] Cert.KnnReferenceIdeal.Gen.bcast_S32768_S1x32768_1 (Host.sqrt (F := Ideal) (φ := .f32) (s := S32768) (addf (m ((c : Thread nD τ).loc main_arg4)) (broadcastInDim S32768 ![] Cert.KnnReferenceIdeal.Gen.bcast_S_S32768 (constant Cert.KnnReferenceIdeal.S_ .f32 0x2B8CBCCC#32))))

/-- Those of the queries. -/
abbrev queryEdges : FVec Ideal S1x8192 .f32 :=
  broadcastInDim S1x8192 ![1] Cert.KnnReferenceIdeal.Gen.bcast_S8192_S1x8192_1 (Host.sqrt (F := Ideal) (φ := .f32) (s := S8192) (addf (m ((c : Thread nD τ).loc main_arg9)) (broadcastInDim S8192 ![] Cert.KnnReferenceIdeal.Gen.bcast_S_S8192 (constant Cert.KnnReferenceIdeal.S_ .f32 0x2B8CBCCC#32))))

theorem edges_apply (p : Fin 32768) : edges m c (ix2 0 p) = root (m ((c : Thread nD τ).loc main_arg4) (ix1 p)) := by
  unfold root
  simp only [pointwise]
  simp

theorem queryEdges_apply (r : Fin 8192) : queryEdges m c (ix2 0 r) = root (m ((c : Thread nD τ).loc main_arg9) (ix1 r)) := by
  unfold root
  simp only [pointwise]
  simp

theorem out8 : (dats m 0 c).arrAt 8 cfg0.N = edges m c := by
  refine (dats m 0 c).arrAt_eq_of_covers 8 _ (by decide +kernel) fun t hf y => ?_
  blk_simp
  rw [after0_8]
  simp only [outsAt0]
  frame_out
  have hy : y = (ix2 0 (y 1) : S1x1024.Idx) := (eq_ix2 y).trans (congrArg (fun b : Fin 1 => ix2 b (y 1)) (Subsingleton.elim _ _))
  refine (congrArg (k0_pay41 (F := Ideal) (iblk m c 4 t)) hy).trans ?_
  have e : ∀ j : Fin 1024, k0_pay41 (F := Ideal) (iblk m c 4 t) (ix2 0 j) = edges m c (ix2 0 (edgeAt t j)) := fun j => by
    refine Eq.trans ?_ (edges_apply m c _).symm
    unfold k0_pay41 root
    simp only [pointwise]
    rw [iblk4, edges_at]
  refine (e (y 1)).trans (congrArg (edges m c) ?_)
  blk_ext [idx t]

theorem out9 : (dats m 0 c).arrAt 9 cfg0.N = queryEdges m c := by
  refine (dats m 0 c).arrAt_eq_of_covers 9 _ (by decide +kernel) fun t hf y => ?_
  blk_simp
  rw [after0_9]
  simp only [outsAt0]
  frame_out
  have hy : y = (ix2 0 (y 1) : S1x256.Idx) := (eq_ix2 y).trans (congrArg (fun b : Fin 1 => ix2 b (y 1)) (Subsingleton.elim _ _))
  refine (congrArg (k0_pay1 (F := Ideal) (iblk m c 5 t)) hy).trans ?_
  have e : ∀ j : Fin 256, k0_pay1 (F := Ideal) (iblk m c 5 t) (ix2 0 j) = queryEdges m c (ix2 0 (rowAt t j)) := fun j => by
    refine Eq.trans ?_ (queryEdges_apply m c _).symm
    unfold k0_pay1 root
    simp only [pointwise]
    rw [iblk5, query_edges_at]
  refine (e (y 1)).trans (congrArg (queryEdges m c) ?_)
  blk_ext [idx t]

/-! ## The precondition -/

/-- What is below infinity in absolute value is a real number. -/
theorem real_of_lt {x : EReal} (h : Ideal.cmp .olt (max x (-x)) (Ideal.ofBits .f32 0x7F800000#32) = 1#1) : ∃ r : ℝ, x = r := by
  have e : (Ideal.ofBits .f32 0x7F800000#32 : EReal) = ⊤ := inf_val
  rw [e] at h
  have h : max x (-x) < ⊤ := by
    by_contra hn
    simp [Ideal.cmp, hn] at h
  obtain ⟨h1, h2⟩ := max_lt_iff.mp h
  induction x with
  | bot => exact absurd h2 (by simp)
  | top => exact absurd h1 (lt_irrefl _)
  | coe r => exact ⟨r, rfl⟩

/-- The precondition: every coordinate and every square is a real number. -/
theorem points_real {x0 x1 x2 x3 x4 : FVec Ideal Pre_points_finite.S32768 .f32} {x5 x6 x7 x8 x9 : FVec Ideal Pre_points_finite.S8192 .f32}
    (h : Pre_points_finite.fn (F := Ideal) x0 x1 x2 x3 x4 x5 x6 x7 x8 x9 = fun _ => 1#1) :
    ((∀ y, ∃ r : ℝ, x0 y = r) ∧ (∀ y, ∃ r : ℝ, x1 y = r) ∧ (∀ y, ∃ r : ℝ, x2 y = r) ∧ ∀ y, ∃ r : ℝ, x3 y = r)
      ∧ (∀ y, ∃ r : ℝ, x5 y = r) ∧ (∀ y, ∃ r : ℝ, x6 y = r) ∧ (∀ y, ∃ r : ℝ, x7 y = r) ∧ ∀ y, ∃ r : ℝ, x8 y = r := by
  have h := congrFun h (fun a => a.elim0)
  unfold Pre_points_finite.fn Pre_points_finite.fn_part1 Pre_points_finite.fn_part2 at h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  haveI : Subsingleton Pre_points_finite.S_.Idx := ⟨fun a b => funext fun k => k.elim0⟩
  exact ⟨⟨fun y => real_of_lt (Host.reduce_andi_all _ _ _ _ _ h0 y), fun y => real_of_lt (Host.reduce_andi_all _ _ _ _ _ h1 y),
      fun y => real_of_lt (Host.reduce_andi_all _ _ _ _ _ h2 y), fun y => real_of_lt (Host.reduce_andi_all _ _ _ _ _ h3 y)⟩,
    fun y => real_of_lt (Host.reduce_andi_all _ _ _ _ _ h5 y), fun y => real_of_lt (Host.reduce_andi_all _ _ _ _ _ h6 y),
    fun y => real_of_lt (Host.reduce_andi_all _ _ _ _ _ h7 y), fun y => real_of_lt (Host.reduce_andi_all _ _ _ _ _ h8 y)⟩

/-- Three real coordinates and the zeros after them are real. -/
theorem coords_real {x y z : EReal} (hx : ∃ r : ℝ, x = r) (hy : ∃ r : ℝ, y = r) (hz : ∃ r : ℝ, z = r) : ∀ a, ∃ r : ℝ, coords x y z a = r
  | 0 => hx
  | 1 => hy
  | 2 => hz
  | 3 => ⟨0, rfl⟩
  | 4 => ⟨0, rfl⟩
  | 5 => ⟨0, rfl⟩
  | 6 => ⟨0, rfl⟩
  | 7 => ⟨0, rfl⟩

/-- Finite points have distances that are not infinite. -/
theorem dists_ne_top (hp : Cert.Pre_KnnIdeal_points_finite m) (i : Fin 8192) (p : Fin 32768) : dists m c (ix2 i p) ≠ ⊤ := by
  obtain ⟨⟨h0, h1, h2, h3⟩, h5, h6, h7, h8⟩ := points_real (hp c)
  intro e
  exact dist_ne_top (h8 _) (h3 _) (coords_real (h5 _) (h6 _) (h7 _)) (coords_real (h0 _) (h1 _) (h2 _)) ((refDist_apply _ _ _ _ _ _ _ _ i p).symm.trans e)

/-! ## The claims -/

theorem algebraic : Cert.algebraic_KnnIdeal_KnnReferenceIdeal_pre_points_finite := fun m ρ m' ρ' hp hargs => by
  refine ⟨fun c => (taken m c).2, fun c => refWeight (refLift (refAway (taken m c).1)), fun c => edges m c, fun c => queryEdges m c, ?_, ?_⟩
  · refine (θ_run _ _ _).mono (fun r h c => ?_) (run_blocks (F := Ideal) m ρ)
    obtain ⟨h6, h7, h8, h9, hk⟩ := h c
    have hD := dists_ne_top m c hp
    exact ⟨h6.trans (out6 m c hD), h7.trans (out7 m c hD), h8.trans (out8 m c), h9.trans (out9 m c), hk⟩
  · refine (θ_run _ _ _).mono (fun r h c => ?_) (Cert.KnnReferenceIdeal.Value.run (F := Ideal) m' ρ')
    obtain ⟨e0, e1, e2, e3, e4, e5, e6, e7, e8, e9⟩ := hargs c
    have h := h c
    unfold Cert.KnnReferenceIdeal.Value.res_main_v34 at h
    rw [e0, e1, e2, e3, e4, e5, e6, e7, e8, e9] at h ⊢
    exact h

/-- The frames: the generated ones, and the reference's run; it declares no semaphore. -/
theorem frame_bits : Cert.quiescent_Knn := fun m ρ _ => Cert.Knn.Gen.frame m ρ

theorem frame_ideal : Cert.quiescent_KnnIdeal := fun m ρ _ => Cert.KnnIdeal.Gen.frame m ρ

theorem frame_ideal_pre : Cert.quiescent_KnnIdeal_pre_points_finite := fun m ρ _ => Cert.KnnIdeal.Gen.frame m ρ

theorem frame_ref : Cert.quiescent_KnnReferenceIdeal := fun m ρ _ =>
  (θ_run _ _ _).mono (fun r h => ⟨fun c => (h c).2.2.2.2, Idealize.ShloMosaic.sem_eq_zero_of_no_sems (by decide) r.2⟩)
    (Cert.KnnReferenceIdeal.Value.run (F := Ideal) m ρ)

theorem frame_ref_pre : Cert.quiescent_KnnReferenceIdeal_pre_points_finite := fun m ρ _ => frame_ref m ρ trivial

end Cert.Proof.Knn

end
-- ==== Proof.lean ====
module

public import proofs.«01_k».proof.Defs
public import proofs.«01_k».proof.Proof.Gen.Dens
public import proofs.«01_k».proof.Proof.Gen.Dens.Skeleton
public import proofs.«01_k».proof.Proof.Gen.DensIdeal
public import proofs.«01_k».proof.Proof.Gen.DensIdeal.Skeleton
public import proofs.«01_k».proof.Proof.Gen.DensReferenceIdeal
public import proofs.«01_k».proof.Proof.Gen.DensReferenceIdeal.Run
public import proofs.«01_k».proof.Proof.Gen.Prep
public import proofs.«01_k».proof.Proof.Gen.Prep.Skeleton
public import proofs.«01_k».proof.Proof.Gen.PrepIdeal
public import proofs.«01_k».proof.Proof.Gen.PrepIdeal.Skeleton
public import proofs.«01_k».proof.Proof.Gen.PrepReferenceIdeal
public import proofs.«01_k».proof.Proof.Gen.PrepReferenceIdeal.Run
public import proofs.«01_k».proof.Proof.Gen.Pre_cands_in_range
public import proofs.«01_k».proof.Proof.Gen.Pre_indices_in_range
public import proofs.«01_k».proof.Proof.Gen.Pre_points_finite
public import proofs.«01_k».proof.Proof.Gen.Knn
public import proofs.«01_k».proof.Proof.Gen.Knn.Frame
public import proofs.«01_k».proof.Proof.Gen.KnnIdeal
public import proofs.«01_k».proof.Proof.Gen.KnnIdeal.Value
public import proofs.«01_k».proof.Proof.Gen.KnnReferenceIdeal
public import proofs.«01_k».proof.Proof.Gen.KnnReferenceIdeal.Run
public import proofs.«01_k».proof.Proof.DensValue
public import proofs.«01_k».proof.Proof.PrepValue
public import proofs.«01_k».proof.Proof.KnnValue
public import Idealize.ShloMosaic.Adequacy
public import Idealize.ShloMosaic.Init

@[expose] public section

noncomputable section

namespace Cert.Proof

open Idealize.ShloMosaic Idealize.SL.Sem Cert.Dens

theorem claim : Cert.Claim := ⟨Cert.Dens.Gen.facts, Cert.DensIdeal.Gen.facts, Cert.DensReferenceIdeal.Gen.facts, Cert.Prep.Gen.facts, Cert.PrepIdeal.Gen.facts, Cert.PrepReferenceIdeal.Gen.facts, Cert.Knn.Gen.facts, Cert.KnnIdeal.Gen.facts, Cert.KnnReferenceIdeal.Gen.facts, Cert.Pre_cands_in_range.Gen.facts, Cert.Pre_indices_in_range.Gen.facts, Cert.Pre_points_finite.Gen.facts,
  Dens.frame_bits, Dens.frame_ideal, Dens.frame_ref, Prep.frame_bits, Prep.frame_ideal, Prep.frame_ref,
  Knn.frame_bits, Knn.frame_ideal, Knn.frame_ideal_pre, Knn.frame_ref, Knn.frame_ref_pre,
  trivial, Dens.algebraic, trivial, Prep.algebraic, trivial, Knn.algebraic⟩

end Cert.Proof

end
